-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ids_in_range [hPre_ids_in_range : Cert.Pre_ids_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_range [hPre_ids_in_range : Cert.Pre_ids_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_ids_in_range [hKernelIdeal : Cert.KernelIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_ids_in_range [hReferenceIdeal : Cert.ReferenceIdeal.Facts] [hPre_ids_in_range : Cert.Pre_ids_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_ids_in_range [hKernelIdeal : Cert.KernelIdeal.Facts] [hReferenceIdeal : Cert.ReferenceIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v6)) (v3 : (c : Dev Cert.KernelIdeal.nD) → Buf (Elt Ideal) ((c.tc : Thread Cert.KernelIdeal.nD Cert.KernelIdeal.τ).loc Cert.KernelIdeal.main_v7)) (v4 : (c : Dev Cert.KernelIdeal.nD) → Buf (Elt Ideal) ((c.tc : Thread Cert.KernelIdeal.nD Cert.KernelIdeal.τ).loc Cert.KernelIdeal.main_v9)) (v5 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_v7) = v3 c
          ∧ r.2.mem ((c.tc : Thread Cert.KernelIdeal.nD Cert.KernelIdeal.τ).loc Cert.KernelIdeal.main_v9) = v4 c
          ∧ r.2.mem ((c.tc : Thread Cert.KernelIdeal.nD Cert.KernelIdeal.τ).loc Cert.KernelIdeal.main_v11) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_v8) = v2 c
          ∧ r.2.mem ((c.tc : Thread Cert.ReferenceIdeal.nD Cert.ReferenceIdeal.τ).loc Cert.ReferenceIdeal.main_v17) = v3 c
          ∧ r.2.mem ((c.tc : Thread Cert.ReferenceIdeal.nD Cert.ReferenceIdeal.τ).loc Cert.ReferenceIdeal.main_v36) = v4 c
          ∧ r.2.mem ((c.tc : Thread Cert.ReferenceIdeal.nD Cert.ReferenceIdeal.τ).loc Cert.ReferenceIdeal.main_v78) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_ids_in_range : Cert.Pre_ids_in_range.Facts),
    quiescent_Kernel (hKernel := hKernel)
    ∧ quiescent_KernelIdeal (hKernelIdeal := hKernelIdeal)
    ∧ quiescent_KernelIdeal_pre_ids_in_range (hKernelIdeal := hKernelIdeal) (hPre_ids_in_range := hPre_ids_in_range)
    ∧ quiescent_ReferenceIdeal (hReferenceIdeal := hReferenceIdeal)
    ∧ quiescent_ReferenceIdeal_pre_ids_in_range (hReferenceIdeal := hReferenceIdeal) (hPre_ids_in_range := hPre_ids_in_range)
    ∧ preserves_Kernel_KernelIdeal
    ∧ algebraic_KernelIdeal_ReferenceIdeal_pre_ids_in_range (hKernelIdeal := hKernelIdeal) (hReferenceIdeal := hReferenceIdeal) (hPre_ids_in_range := hPre_ids_in_range)
-- ==== Pre_ids_in_range.lean ====
abbrev S2x128x5120 : Shape := ⟨3, ![2, 128, 5120]⟩
abbrev S2x128x6 : Shape := ⟨3, ![2, 128, 6]⟩
abbrev S160x16 : Shape := ⟨2, ![160, 16]⟩
abbrev S_ : Shape := ⟨0, ![]⟩

class Facts : Prop where
  bcast_S_S2x128x6 : S_.BroadcastsInDim S2x128x6 (![] : Fin 0 → Fin S2x128x6.rank)

variable [Facts]

def fn {F : FTy → Type} [FloatOps F] (main_arg0 : FVec F S2x128x5120 .bf16) (main_arg1 : IVec S2x128x6 32) (main_arg2 : IVec S2x128x6 32) (main_arg3 : FVec F S160x16 .f32) : IVec S2x128x6 1 :=
  let main_c : IVec S_ 32 := constantI S_ 32 0#32
  let main_v0 : IVec S2x128x6 32 := broadcastInDim S2x128x6 ![] bcast_S_S2x128x6 main_c
  let main_v1 : IVec S2x128x6 1 := cmpi .sge main_arg1 main_v0
  let main_c_0 : IVec S_ 32 := constantI S_ 32 160#32
  let main_v2 : IVec S2x128x6 32 := broadcastInDim S2x128x6 ![] bcast_S_S2x128x6 main_c_0
  let main_v3 : IVec S2x128x6 1 := cmpi .slt main_arg1 main_v2
  let main_v4 : IVec S2x128x6 1 := andi main_v1 main_v3
  main_v4
-- ==== Kernel.lean ====
abbrev S2x128x5120 : Shape := ⟨3, ![2, 128, 5120]⟩
abbrev S2x128x6 : Shape := ⟨3, ![2, 128, 6]⟩
abbrev S160x16 : Shape := ⟨2, ![160, 16]⟩
abbrev S6x2x128 : Shape := ⟨3, ![6, 2, 128]⟩
abbrev S16x160 : Shape := ⟨2, ![16, 160]⟩
abbrev S256x5120 : Shape := ⟨2, ![256, 5120]⟩
abbrev S1536x5120 : Shape := ⟨2, ![1536, 5120]⟩
abbrev S1x160 : Shape := ⟨2, ![1, 160]⟩
abbrev S12x128 : Shape := ⟨2, ![12, 128]⟩
abbrev S1x168 : Shape := ⟨2, ![1, 168]⟩
abbrev S256x512 : Shape := ⟨2, ![256, 512]⟩
abbrev S1536x512 : Shape := ⟨2, ![1536, 512]⟩
abbrev S1536x256 : Shape := ⟨2, ![1536, 256]⟩
abbrev S168x256 : Shape := ⟨2, ![168, 256]⟩
abbrev S256x128 : Shape := ⟨2, ![256, 128]⟩
abbrev S1x2x128 : Shape := ⟨3, ![1, 2, 128]⟩
abbrev S2x128 : Shape := ⟨2, ![2, 128]⟩
abbrev S1x128 : Shape := ⟨2, ![1, 128]⟩
abbrev S1x256 : Shape := ⟨2, ![1, 256]⟩
abbrev S160 : Shape := ⟨1, ![160]⟩
abbrev S255x160 : Shape := ⟨2, ![255, 160]⟩
abbrev S1x96 : Shape := ⟨2, ![1, 96]⟩
abbrev S256x256 : Shape := ⟨2, ![256, 256]⟩
abbrev S168x768 : Shape := ⟨2, ![168, 768]⟩
abbrev S768x256 : Shape := ⟨2, ![768, 256]⟩
abbrev S8x256 : Shape := ⟨2, ![8, 256]⟩
abbrev S8x168 : Shape := ⟨2, ![8, 168]⟩
abbrev S256 : Shape := ⟨1, ![256]⟩
abbrev S1x1536 : Shape := ⟨2, ![1, 1536]⟩
abbrev S16x1536 : Shape := ⟨2, ![16, 1536]⟩
abbrev S96x1536 : Shape := ⟨2, ![96, 1536]⟩
abbrev S128x1536 : Shape := ⟨2, ![128, 1536]⟩
abbrev S96x128 : Shape := ⟨2, ![96, 128]⟩
abbrev S32x1536 : Shape := ⟨2, ![32, 1536]⟩
abbrev S128x32 : Shape := ⟨2, ![128, 32]⟩
abbrev S16x128 : Shape := ⟨2, ![16, 128]⟩
abbrev S128x16 : Shape := ⟨2, ![128, 16]⟩
abbrev S128x256 : Shape := ⟨2, ![128, 256]⟩
abbrev S128x1 : Shape := ⟨2, ![128, 1]⟩
abbrev S168x128 : Shape := ⟨2, ![168, 128]⟩
abbrev S88x128 : Shape := ⟨2, ![88, 128]⟩
abbrev S1536 : Shape := ⟨1, ![1536]⟩
abbrev S168 : Shape := ⟨1, ![168]⟩
abbrev S161 : Shape := ⟨1, ![161]⟩

abbrev nBuf : Space → Nat
  | .hbm => 21
  | .vmem => 15
  | .smem => 0
  | _ => 0

abbrev bufTy : (tb : Table) → Fin (tcTables nBuf tb) → BufTy
  | .hbm, ⟨0, _⟩ => ⟨S2x128x5120, .bf16⟩
  | .hbm, ⟨1, _⟩ => ⟨S2x128x6, .i32⟩
  | .hbm, ⟨2, _⟩ => ⟨S2x128x6, .i32⟩
  | .hbm, ⟨3, _⟩ => ⟨S160x16, .f32⟩
  | .hbm, ⟨4, _⟩ => ⟨S6x2x128, .i32⟩
  | .hbm, ⟨5, _⟩ => ⟨S6x2x128, .i32⟩
  | .hbm, ⟨6, _⟩ => ⟨S16x160, .f32⟩
  | .hbm, ⟨7, _⟩ => ⟨S256x5120, .bf16⟩
  | .hbm, ⟨8, _⟩ => ⟨S1536x5120, .fp8e4m3⟩
  | .hbm, ⟨9, _⟩ => ⟨S1x160, .f32⟩
  | .hbm, ⟨10, _⟩ => ⟨S12x128, .i32⟩
  | .hbm, ⟨11, _⟩ => ⟨S12x128, .f32⟩
  | .hbm, ⟨12, _⟩ => ⟨S1x168, .i32⟩
  | .hbm, ⟨13, _⟩ => ⟨S1x168, .f32⟩
  | .hbm, ⟨14, _⟩ => ⟨S160, .f32⟩
  | .hbm, ⟨15, _⟩ => ⟨S1536, .i32⟩
  | .hbm, ⟨16, _⟩ => ⟨S1536, .f32⟩
  | .hbm, ⟨17, _⟩ => ⟨S168, .i32⟩
  | .hbm, ⟨18, _⟩ => ⟨S161, .i32⟩
  | .hbm, ⟨19, _⟩ => ⟨S168, .f32⟩
  | .hbm, ⟨20, _⟩ => ⟨S160, .f32⟩
  | .local _ .vmem, ⟨0, _⟩ => ⟨S6x2x128, .i32⟩
  | .local _ .vmem, ⟨1, _⟩ => ⟨S6x2x128, .i32⟩
  | .local _ .vmem, ⟨2, _⟩ => ⟨S16x160, .f32⟩
  | .local _ .vmem, ⟨3, _⟩ => ⟨S256x512, .bf16⟩
  | .local _ .vmem, ⟨4, _⟩ => ⟨S256x512, .bf16⟩
  | .local _ .vmem, ⟨5, _⟩ => ⟨S1536x512, .fp8e4m3⟩
  | .local _ .vmem, ⟨6, _⟩ => ⟨S1536x512, .fp8e4m3⟩
  | .local _ .vmem, ⟨7, _⟩ => ⟨S1x160, .f32⟩
  | .local _ .vmem, ⟨8, _⟩ => ⟨S12x128, .i32⟩
  | .local _ .vmem, ⟨9, _⟩ => ⟨S12x128, .f32⟩
  | .local _ .vmem, ⟨10, _⟩ => ⟨S1x168, .i32⟩
  | .local _ .vmem, ⟨11, _⟩ => ⟨S1x168, .f32⟩
  | .local _ .vmem, ⟨12, _⟩ => ⟨S1536x256, .bf16⟩
  | .local _ .vmem, ⟨13, _⟩ => ⟨S168x256, .bf16⟩
  | .local _ .vmem, ⟨14, _⟩ => ⟨S256x128, .bf16⟩
  | _, _ => ⟨S2x128x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev main_v4_4 : Ref sig .tc := ⟨.hbm, 12, rfl⟩
abbrev main_v4_5 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11

abbrev nD : Nat := 1
abbrev τ : Topo := Topo.v7x

variable {F : FTy → Type} [FloatOps F]

abbrev grid0 : Pipeline.Grid := ⟨1, ![10], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c9_i32 : BitVec 32 := 9#32
  let v29 : BitVec 1 := Scalar.cmpi .eq arg0 c9_i32
  let v30 : BitVec 32 := Scalar.extui v29
  let c0_i32_12 : BitVec 32 := 0#32
  let v31 : BitVec 1 := Scalar.cmpi .ne v30 c0_i32_12
  v31

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S6x2x128 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S6x2x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x160 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1536x512 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x160 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S12x128 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S12x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x168 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x168 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceIdeal.lean ====
abbrev S2x128x5120 : Shape := ⟨3, ![2, 128, 5120]⟩
abbrev S2x128x6 : Shape := ⟨3, ![2, 128, 6]⟩
abbrev S160x16 : Shape := ⟨2, ![160, 16]⟩
abbrev S1536 : Shape := ⟨1, ![1536]⟩
abbrev S_ : Shape := ⟨0, ![]⟩
abbrev S1536x1 : Shape := ⟨2, ![1536, 1]⟩
abbrev S256x5120 : Shape := ⟨2, ![256, 5120]⟩
abbrev S1536x5120 : Shape := ⟨2, ![1536, 5120]⟩
abbrev S160 : Shape := ⟨1, ![160]⟩
abbrev S1x160 : Shape := ⟨2, ![1, 160]⟩
abbrev S1536x160 : Shape := ⟨2, ![1536, 160]⟩
abbrev S1 : Shape := ⟨1, ![1]⟩
abbrev S161 : Shape := ⟨1, ![161]⟩
abbrev S253 : Shape := ⟨1, ![253]⟩
abbrev S160x1 : Shape := ⟨2, ![160, 1]⟩
abbrev S1x253 : Shape := ⟨2, ![1, 253]⟩
abbrev S160x253 : Shape := ⟨2, ![160, 253]⟩
abbrev S256 : Shape := ⟨1, ![256]⟩
abbrev S256x1 : Shape := ⟨2, ![256, 1]⟩
abbrev S256x6 : Shape := ⟨2, ![256, 6]⟩

abbrev nBuf : Space → Nat
  | .hbm => 186
  | .vmem => 0
  | .smem => 0
  | _ => 0

abbrev hbmTy0_0 (i : Nat) : BufTy := match i % 128 with
  | 0 => ⟨S2x128x5120, .bf16⟩
  | 1 => ⟨S2x128x6, .i32⟩
  | 2 => ⟨S2x128x6, .i32⟩
  | 3 => ⟨S160x16, .f32⟩
  | 4 => ⟨S1536, .i32⟩
  | 5 => ⟨S1536, .i32⟩
  | 6 => ⟨S_, .i32⟩
  | 7 => ⟨S1536, .i32⟩
  | 8 => ⟨S1536, .i32⟩
  | 9 => ⟨S1536, .i32⟩
  | 10 => ⟨S1536, .i32⟩
  | 11 => ⟨S_, .i32⟩
  | 12 => ⟨S_, .i32⟩
  | 13 => ⟨S_, .i32⟩
  | 14 => ⟨S_, .i1⟩
  | 15 => ⟨S_, .i32⟩
  | 16 => ⟨S_, .i32⟩
  | 17 => ⟨S1536, .i32⟩
  | 18 => ⟨S1536, .i32⟩
  | 19 => ⟨S_, .i32⟩
  | 20 => ⟨S1536, .i32⟩
  | 21 => ⟨S1536, .i1⟩
  | 22 => ⟨S_, .i32⟩
  | 23 => ⟨S1536, .i32⟩
  | 24 => ⟨S1536, .i1⟩
  | 25 => ⟨S_, .i32⟩
  | 26 => ⟨S_, .i1⟩
  | 27 => ⟨S1536, .i1⟩
  | 28 => ⟨S1536, .i1⟩
  | 29 => ⟨S1536, .i1⟩
  | 30 => ⟨S1536, .i32⟩
  | 31 => ⟨S1536, .i32⟩
  | 32 => ⟨S1536, .i32⟩
  | 33 => ⟨S_, .i32⟩
  | 34 => ⟨S_, .i32⟩
  | 35 => ⟨S1536, .i32⟩
  | 36 => ⟨S1536, .i32⟩
  | 37 => ⟨S1536, .i32⟩
  | 38 => ⟨S_, .i32⟩
  | 39 => ⟨S1536, .i32⟩
  | 40 => ⟨S1536, .i1⟩
  | 41 => ⟨S1536, .i32⟩
  | 42 => ⟨S1536, .i32⟩
  | 43 => ⟨S_, .i32⟩
  | 44 => ⟨S1536, .i32⟩
  | 45 => ⟨S1536, .i1⟩
  | 46 => ⟨S1536, .i1⟩
  | 47 => ⟨S_, .i32⟩
  | 48 => ⟨S1536, .i32⟩
  | 49 => ⟨S1536, .i32⟩
  | 50 => ⟨S1536, .i32⟩
  | 51 => ⟨S_, .i32⟩
  | 52 => ⟨S_, .i32⟩
  | 53 => ⟨S1536, .i32⟩
  | 54 => ⟨S1536, .i32⟩
  | 55 => ⟨S1536, .i32⟩
  | 56 => ⟨S_, .i32⟩
  | 57 => ⟨S1536, .i32⟩
  | 58 => ⟨S1536, .i1⟩
  | 59 => ⟨S1536, .i32⟩
  | 60 => ⟨S1536, .i32⟩
  | 61 => ⟨S_, .i32⟩
  | 62 => ⟨S1536, .i32⟩
  | 63 => ⟨S1536, .i1⟩
  | 64 => ⟨S1536, .i1⟩
  | 65 => ⟨S_, .i32⟩
  | 66 => ⟨S1536, .i32⟩
  | 67 => ⟨S1536, .i32⟩
  | 68 => ⟨S1536, .i32⟩
  | 69 => ⟨S1536, .i32⟩
  | 70 => ⟨S_, .i32⟩
  | 71 => ⟨S1536, .i32⟩
  | 72 => ⟨S1536, .i1⟩
  | 73 => ⟨S_, .i32⟩
  | 74 => ⟨S1536, .i32⟩
  | 75 => ⟨S1536, .i32⟩
  | 76 => ⟨S1536, .i32⟩
  | 77 => ⟨S1536x1, .i32⟩
  | 78 => ⟨S1536, .i32⟩
  | 79 => ⟨S1536, .f32⟩
  | 80 => ⟨S256x5120, .bf16⟩
  | 81 => ⟨S_, .i32⟩
  | 82 => ⟨S1536, .i32⟩
  | 83 => ⟨S1536, .i1⟩
  | 84 => ⟨S_, .i32⟩
  | 85 => ⟨S1536, .i32⟩
  | 86 => ⟨S1536, .i32⟩
  | 87 => ⟨S1536, .i32⟩
  | 88 => ⟨S1536x1, .i32⟩
  | 89 => ⟨S1536x5120, .bf16⟩
  | 90 => ⟨S1536x1, .i32⟩
  | 91 => ⟨S160, .i32⟩
  | 92 => ⟨S1x160, .i32⟩
  | 93 => ⟨S1536x160, .i32⟩
  | 94 => ⟨S1536x160, .i32⟩
  | 95 => ⟨S1536x160, .i1⟩
  | 96 => ⟨S1536x160, .i32⟩
  | 97 => ⟨S_, .i32⟩
  | 98 => ⟨S160, .i32⟩
  | 99 => ⟨S_, .i32⟩
  | 100 => ⟨S1, .i32⟩
  | 101 => ⟨S_, .i32⟩
  | 102 => ⟨S_, .i32⟩
  | 103 => ⟨S160, .i32⟩
  | 104 => ⟨S161, .i32⟩
  | 105 => ⟨S_, .f32⟩
  | 106 => ⟨S160, .f32⟩
  | 107 => ⟨S_, .f32⟩
  | 108 => ⟨S160, .f32⟩
  | 109 => ⟨S160, .f32⟩
  | 110 => ⟨S160, .f32⟩
  | 111 => ⟨S_, .f32⟩
  | 112 => ⟨S253, .f32⟩
  | 113 => ⟨S253, .i32⟩
  | 114 => ⟨S_, .i32⟩
  | 115 => ⟨S253, .i32⟩
  | 116 => ⟨S253, .i32⟩
  | 117 => ⟨S253, .f32⟩
  | 118 => ⟨S253, .f32⟩
  | 119 => ⟨S160x1, .f32⟩
  | 120 => ⟨S1x253, .f32⟩
  | 121 => ⟨S160x253, .f32⟩
  | 122 => ⟨S160x253, .f32⟩
  | 123 => ⟨S160x253, .i1⟩
  | 124 => ⟨S1x253, .f32⟩
  | 125 => ⟨S_, .f32⟩
  | 126 => ⟨S_, .f32⟩
  | 127 => ⟨S160x253, .f32⟩
  | _ => ⟨S2x128x5120, .bf16⟩

abbrev hbmTy0_1 (i : Nat) : BufTy := match i % 128 with
  | 0 => ⟨S160x253, .f32⟩
  | 1 => ⟨S160x253, .f32⟩
  | 2 => ⟨S_, .f32⟩
  | 3 => ⟨S160, .f32⟩
  | 4 => ⟨S_, .f32⟩
  | 5 => ⟨S160, .f32⟩
  | 6 => ⟨S160, .i1⟩
  | 7 => ⟨S_, .f32⟩
  | 8 => ⟨S_, .f32⟩
  | 9 => ⟨S160, .f32⟩
  | 10 => ⟨S160, .f32⟩
  | 11 => ⟨S_, .f32⟩
  | 12 => ⟨S160, .f32⟩
  | 13 => ⟨S160, .f32⟩
  | 14 => ⟨S_, .f32⟩
  | 15 => ⟨S160, .f32⟩
  | 16 => ⟨S160, .i1⟩
  | 17 => ⟨S_, .f32⟩
  | 18 => ⟨S_, .f32⟩
  | 19 => ⟨S160, .f32⟩
  | 20 => ⟨S160, .f32⟩
  | 21 => ⟨S_, .i32⟩
  | 22 => ⟨S1536, .i32⟩
  | 23 => ⟨S1536, .i1⟩
  | 24 => ⟨S_, .i32⟩
  | 25 => ⟨S1536, .i32⟩
  | 26 => ⟨S1536, .i32⟩
  | 27 => ⟨S1536, .i32⟩
  | 28 => ⟨S1536x1, .i32⟩
  | 29 => ⟨S1536, .f32⟩
  | 30 => ⟨S256x5120, .f32⟩
  | 31 => ⟨S256x5120, .f32⟩
  | 32 => ⟨S_, .f32⟩
  | 33 => ⟨S256, .f32⟩
  | 34 => ⟨S256x1, .f32⟩
  | 35 => ⟨S256x6, .f32⟩
  | 36 => ⟨S1536, .f32⟩
  | 37 => ⟨S1536x1, .f32⟩
  | 38 => ⟨S_, .f32⟩
  | 39 => ⟨S_, .f32⟩
  | 40 => ⟨S1536x160, .f32⟩
  | 41 => ⟨S1536x160, .f32⟩
  | 42 => ⟨S1536x160, .f32⟩
  | 43 => ⟨S_, .f32⟩
  | 44 => ⟨S160, .f32⟩
  | 45 => ⟨S1536x5120, .f32⟩
  | 46 => ⟨S1536x1, .f32⟩
  | 47 => ⟨S1536x5120, .f32⟩
  | 48 => ⟨S1536x5120, .f32⟩
  | 49 => ⟨S_, .f32⟩
  | 50 => ⟨S_, .f32⟩
  | 51 => ⟨S_, .f32⟩
  | 52 => ⟨S1536x5120, .f32⟩
  | 53 => ⟨S1536x5120, .f32⟩
  | 54 => ⟨S_, .f32⟩
  | 55 => ⟨S1536x5120, .f32⟩
  | 56 => ⟨S1536x5120, .f32⟩
  | 57 => ⟨S1536x5120, .fp8e4m3⟩
  | _ => ⟨S2x128x5120, .bf16⟩

abbrev hbmTy (i : Nat) : BufTy := match i / 128 with
  | 0 => hbmTy0_0 i
  | 1 => hbmTy0_1 i
  | _ => ⟨S2x128x5120, .bf16⟩

abbrev bufTy : (tb : Table) → Fin (tcTables nBuf tb) → BufTy
  | .hbm, ⟨i, _⟩ => hbmTy i
  | _, _ => ⟨S2x128x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_call1_v0 : Ref sig .tc := ⟨.hbm, 12, rfl⟩
abbrev main_call1_c : Ref sig .tc := ⟨.hbm, 13, rfl⟩
abbrev main_call1_v1 : Ref sig .tc := ⟨.hbm, 14, rfl⟩
abbrev main_call1_c_0 : Ref sig .tc := ⟨.hbm, 15, rfl⟩
abbrev main_call1_v2 : Ref sig .tc := ⟨.hbm, 16, rfl⟩
abbrev main_call1_v3 : Ref sig .tc := ⟨.hbm, 17, rfl⟩
abbrev main_call1_v4 : Ref sig .tc := ⟨.hbm, 18, rfl⟩
abbrev main_call1_c_1 : Ref sig .tc := ⟨.hbm, 19, rfl⟩
abbrev main_call1_v5 : Ref sig .tc := ⟨.hbm, 20, rfl⟩
abbrev main_call1_v6 : Ref sig .tc := ⟨.hbm, 21, rfl⟩
abbrev main_call1_c_2 : Ref sig .tc := ⟨.hbm, 22, rfl⟩
abbrev main_call1_v7 : Ref sig .tc := ⟨.hbm, 23, rfl⟩
abbrev main_call1_v8 : Ref sig .tc := ⟨.hbm, 24, rfl⟩
abbrev main_call1_c_3 : Ref sig .tc := ⟨.hbm, 25, rfl⟩
abbrev main_call1_v9 : Ref sig .tc := ⟨.hbm, 26, rfl⟩
abbrev main_call1_v10 : Ref sig .tc := ⟨.hbm, 27, rfl⟩
abbrev main_call1_v11 : Ref sig .tc := ⟨.hbm, 28, rfl⟩
abbrev main_call1_v12 : Ref sig .tc := ⟨.hbm, 29, rfl⟩
abbrev main_call1_v13 : Ref sig .tc := ⟨.hbm, 30, rfl⟩
abbrev main_call1_v14 : Ref sig .tc := ⟨.hbm, 31, rfl⟩
abbrev main_v6 : Ref sig .tc := ⟨.hbm, 32, rfl⟩
abbrev main_c_1 : Ref sig .tc := ⟨.hbm, 33, rfl⟩
abbrev main_call2_v0 : Ref sig .tc := ⟨.hbm, 34, rfl⟩
abbrev main_call2_v1 : Ref sig .tc := ⟨.hbm, 35, rfl⟩
abbrev main_call2_v2 : Ref sig .tc := ⟨.hbm, 36, rfl⟩
abbrev main_call2_v3 : Ref sig .tc := ⟨.hbm, 37, rfl⟩
abbrev main_call2_v4 : Ref sig .tc := ⟨.hbm, 38, rfl⟩
abbrev main_call2_v5 : Ref sig .tc := ⟨.hbm, 39, rfl⟩
abbrev main_call2_v6 : Ref sig .tc := ⟨.hbm, 40, rfl⟩
abbrev main_call2_v7 : Ref sig .tc := ⟨.hbm, 41, rfl⟩
abbrev main_call2_v8 : Ref sig .tc := ⟨.hbm, 42, rfl⟩
abbrev main_call2_c : Ref sig .tc := ⟨.hbm, 43, rfl⟩
abbrev main_call2_v9 : Ref sig .tc := ⟨.hbm, 44, rfl⟩
abbrev main_call2_v10 : Ref sig .tc := ⟨.hbm, 45, rfl⟩
abbrev main_call2_v11 : Ref sig .tc := ⟨.hbm, 46, rfl⟩
abbrev main_call2_c_0 : Ref sig .tc := ⟨.hbm, 47, rfl⟩
abbrev main_call2_v12 : Ref sig .tc := ⟨.hbm, 48, rfl⟩
abbrev main_call2_v13 : Ref sig .tc := ⟨.hbm, 49, rfl⟩
abbrev main_v7 : Ref sig .tc := ⟨.hbm, 50, rfl⟩
abbrev main_c_2 : Ref sig .tc := ⟨.hbm, 51, rfl⟩
abbrev main_call3_v0 : Ref sig .tc := ⟨.hbm, 52, rfl⟩
abbrev main_call3_v1 : Ref sig .tc := ⟨.hbm, 53, rfl⟩
abbrev main_call3_v2 : Ref sig .tc := ⟨.hbm, 54, rfl⟩
abbrev main_call3_v3 : Ref sig .tc := ⟨.hbm, 55, rfl⟩
abbrev main_call3_v4 : Ref sig .tc := ⟨.hbm, 56, rfl⟩
abbrev main_call3_v5 : Ref sig .tc := ⟨.hbm, 57, rfl⟩
abbrev main_call3_v6 : Ref sig .tc := ⟨.hbm, 58, rfl⟩
abbrev main_call3_v7 : Ref sig .tc := ⟨.hbm, 59, rfl⟩
abbrev main_call3_v8 : Ref sig .tc := ⟨.hbm, 60, rfl⟩
abbrev main_call3_c : Ref sig .tc := ⟨.hbm, 61, rfl⟩
abbrev main_call3_v9 : Ref sig .tc := ⟨.hbm, 62, rfl⟩
abbrev main_call3_v10 : Ref sig .tc := ⟨.hbm, 63, rfl⟩
abbrev main_call3_v11 : Ref sig .tc := ⟨.hbm, 64, rfl⟩
abbrev main_call3_c_0 : Ref sig .tc := ⟨.hbm, 65, rfl⟩
abbrev main_call3_v12 : Ref sig .tc := ⟨.hbm, 66, rfl⟩
abbrev main_call3_v13 : Ref sig .tc := ⟨.hbm, 67, rfl⟩
abbrev main_v8 : Ref sig .tc := ⟨.hbm, 68, rfl⟩
abbrev main_v9 : Ref sig .tc := ⟨.hbm, 69, rfl⟩
abbrev main_c_3 : Ref sig .tc := ⟨.hbm, 70, rfl⟩
abbrev main_v10 : Ref sig .tc := ⟨.hbm, 71, rfl⟩
abbrev main_v11 : Ref sig .tc := ⟨.hbm, 72, rfl⟩
abbrev main_c_4 : Ref sig .tc := ⟨.hbm, 73, rfl⟩
abbrev main_v12 : Ref sig .tc := ⟨.hbm, 74, rfl⟩
abbrev main_v13 : Ref sig .tc := ⟨.hbm, 75, rfl⟩
abbrev main_v14 : Ref sig .tc := ⟨.hbm, 76, rfl⟩
abbrev main_v15 : Ref sig .tc := ⟨.hbm, 77, rfl⟩
abbrev main_v16 : Ref sig .tc := ⟨.hbm, 78, rfl⟩
abbrev main_v17 : Ref sig .tc := ⟨.hbm, 79, rfl⟩
abbrev main_v18 : Ref sig .tc := ⟨.hbm, 80, rfl⟩
abbrev main_c_5 : Ref sig .tc := ⟨.hbm, 81, rfl⟩
abbrev main_v19 : Ref sig .tc := ⟨.hbm, 82, rfl⟩
abbrev main_v20 : Ref sig .tc := ⟨.hbm, 83, rfl⟩
abbrev main_c_6 : Ref sig .tc := ⟨.hbm, 84, rfl⟩
abbrev main_v21 : Ref sig .tc := ⟨.hbm, 85, rfl⟩
abbrev main_v22 : Ref sig .tc := ⟨.hbm, 86, rfl⟩
abbrev main_v23 : Ref sig .tc := ⟨.hbm, 87, rfl⟩
abbrev main_v24 : Ref sig .tc := ⟨.hbm, 88, rfl⟩
abbrev main_v25 : Ref sig .tc := ⟨.hbm, 89, rfl⟩
abbrev main_v26 : Ref sig .tc := ⟨.hbm, 90, rfl⟩
abbrev main_v27 : Ref sig .tc := ⟨.hbm, 91, rfl⟩
abbrev main_v28 : Ref sig .tc := ⟨.hbm, 92, rfl⟩
abbrev main_v29 : Ref sig .tc := ⟨.hbm, 93, rfl⟩
abbrev main_v30 : Ref sig .tc := ⟨.hbm, 94, rfl⟩
abbrev main_v31 : Ref sig .tc := ⟨.hbm, 95, rfl⟩
abbrev main_v32 : Ref sig .tc := ⟨.hbm, 96, rfl⟩
abbrev main_c_7 : Ref sig .tc := ⟨.hbm, 97, rfl⟩
abbrev main_v33 : Ref sig .tc := ⟨.hbm, 98, rfl⟩
abbrev main_c_8 : Ref sig .tc := ⟨.hbm, 99, rfl⟩
abbrev main_v34 : Ref sig .tc := ⟨.hbm, 100, rfl⟩
abbrev main_call4_call0_c : Ref sig .tc := ⟨.hbm, 101, rfl⟩
abbrev main_call4_call0_v0 : Ref sig .tc := ⟨.hbm, 102, rfl⟩
abbrev main_v35 : Ref sig .tc := ⟨.hbm, 103, rfl⟩
abbrev main_v36 : Ref sig .tc := ⟨.hbm, 104, rfl⟩
abbrev main_cst : Ref sig .tc := ⟨.hbm, 105, rfl⟩
abbrev main_v37 : Ref sig .tc := ⟨.hbm, 106, rfl⟩
abbrev main_cst_9 : Ref sig .tc := ⟨.hbm, 107, rfl⟩
abbrev main_v38 : Ref sig .tc := ⟨.hbm, 108, rfl⟩
abbrev main_v39 : Ref sig .tc := ⟨.hbm, 109, rfl⟩
abbrev main_v40 : Ref sig .tc := ⟨.hbm, 110, rfl⟩
abbrev main_cst_10 : Ref sig .tc := ⟨.hbm, 111, rfl⟩
abbrev main_v41 : Ref sig .tc := ⟨.hbm, 112, rfl⟩
abbrev main_v42 : Ref sig .tc := ⟨.hbm, 113, rfl⟩
abbrev main_c_11 : Ref sig .tc := ⟨.hbm, 114, rfl⟩
abbrev main_v43 : Ref sig .tc := ⟨.hbm, 115, rfl⟩
abbrev main_v44 : Ref sig .tc := ⟨.hbm, 116, rfl⟩
abbrev main_v45 : Ref sig .tc := ⟨.hbm, 117, rfl⟩
abbrev main_v46 : Ref sig .tc := ⟨.hbm, 118, rfl⟩
abbrev main_v47 : Ref sig .tc := ⟨.hbm, 119, rfl⟩
abbrev main_v48 : Ref sig .tc := ⟨.hbm, 120, rfl⟩
abbrev main_v49 : Ref sig .tc := ⟨.hbm, 121, rfl⟩
abbrev main_v50 : Ref sig .tc := ⟨.hbm, 122, rfl⟩
abbrev main_v51 : Ref sig .tc := ⟨.hbm, 123, rfl⟩
abbrev main_v52 : Ref sig .tc := ⟨.hbm, 124, rfl⟩
abbrev main_cst_12 : Ref sig .tc := ⟨.hbm, 125, rfl⟩
abbrev main_call5_v0 : Ref sig .tc := ⟨.hbm, 126, rfl⟩
abbrev main_call5_v1 : Ref sig .tc := ⟨.hbm, 127, rfl⟩
abbrev main_call5_v2 : Ref sig .tc := ⟨.hbm, 128, rfl⟩
abbrev main_v53 : Ref sig .tc := ⟨.hbm, 129, rfl⟩
abbrev main_cst_13 : Ref sig .tc := ⟨.hbm, 130, rfl⟩
abbrev main_v54 : Ref sig .tc := ⟨.hbm, 131, rfl⟩
abbrev main_cst_14 : Ref sig .tc := ⟨.hbm, 132, rfl⟩
abbrev main_v55 : Ref sig .tc := ⟨.hbm, 133, rfl⟩
abbrev main_v56 : Ref sig .tc := ⟨.hbm, 134, rfl⟩
abbrev main_cst_15 : Ref sig .tc := ⟨.hbm, 135, rfl⟩
abbrev main_call6_v0 : Ref sig .tc := ⟨.hbm, 136, rfl⟩
abbrev main_call6_v1 : Ref sig .tc := ⟨.hbm, 137, rfl⟩
abbrev main_v57 : Ref sig .tc := ⟨.hbm, 138, rfl⟩
abbrev main_cst_16 : Ref sig .tc := ⟨.hbm, 139, rfl⟩
abbrev main_v58 : Ref sig .tc := ⟨.hbm, 140, rfl⟩
abbrev main_v59 : Ref sig .tc := ⟨.hbm, 141, rfl⟩
abbrev main_cst_17 : Ref sig .tc := ⟨.hbm, 142, rfl⟩
abbrev main_v60 : Ref sig .tc := ⟨.hbm, 143, rfl⟩
abbrev main_v61 : Ref sig .tc := ⟨.hbm, 144, rfl⟩
abbrev main_cst_18 : Ref sig .tc := ⟨.hbm, 145, rfl⟩
abbrev main_call7_v0 : Ref sig .tc := ⟨.hbm, 146, rfl⟩
abbrev main_call7_v1 : Ref sig .tc := ⟨.hbm, 147, rfl⟩
abbrev main_v62 : Ref sig .tc := ⟨.hbm, 148, rfl⟩
abbrev main_c_19 : Ref sig .tc := ⟨.hbm, 149, rfl⟩
abbrev main_v63 : Ref sig .tc := ⟨.hbm, 150, rfl⟩
abbrev main_v64 : Ref sig .tc := ⟨.hbm, 151, rfl⟩
abbrev main_c_20 : Ref sig .tc := ⟨.hbm, 152, rfl⟩
abbrev main_v65 : Ref sig .tc := ⟨.hbm, 153, rfl⟩
abbrev main_v66 : Ref sig .tc := ⟨.hbm, 154, rfl⟩
abbrev main_v67 : Ref sig .tc := ⟨.hbm, 155, rfl⟩
abbrev main_v68 : Ref sig .tc := ⟨.hbm, 156, rfl⟩
abbrev main_v69 : Ref sig .tc := ⟨.hbm, 157, rfl⟩
abbrev main_v70 : Ref sig .tc := ⟨.hbm, 158, rfl⟩
abbrev main_v71 : Ref sig .tc := ⟨.hbm, 159, rfl⟩
abbrev main_cst_21 : Ref sig .tc := ⟨.hbm, 160, rfl⟩
abbrev main_v72 : Ref sig .tc := ⟨.hbm, 161, rfl⟩
abbrev main_v73 : Ref sig .tc := ⟨.hbm, 162, rfl⟩
abbrev main_v74 : Ref sig .tc := ⟨.hbm, 163, rfl⟩
abbrev main_v75 : Ref sig .tc := ⟨.hbm, 164, rfl⟩
abbrev main_v76 : Ref sig .tc := ⟨.hbm, 165, rfl⟩
abbrev main_cst_22 : Ref sig .tc := ⟨.hbm, 166, rfl⟩
abbrev main_call8_v0 : Ref sig .tc := ⟨.hbm, 167, rfl⟩
abbrev main_call8_v1 : Ref sig .tc := ⟨.hbm, 168, rfl⟩
abbrev main_call8_v2 : Ref sig .tc := ⟨.hbm, 169, rfl⟩
abbrev main_v77 : Ref sig .tc := ⟨.hbm, 170, rfl⟩
abbrev main_cst_23 : Ref sig .tc := ⟨.hbm, 171, rfl⟩
abbrev main_v78 : Ref sig .tc := ⟨.hbm, 172, rfl⟩
abbrev main_v79 : Ref sig .tc := ⟨.hbm, 173, rfl⟩
abbrev main_v80 : Ref sig .tc := ⟨.hbm, 174, rfl⟩
abbrev main_v81 : Ref sig .tc := ⟨.hbm, 175, rfl⟩
abbrev main_v82 : Ref sig .tc := ⟨.hbm, 176, rfl⟩
abbrev main_cst_24 : Ref sig .tc := ⟨.hbm, 177, rfl⟩
abbrev main_cst_25 : Ref sig .tc := ⟨.hbm, 178, rfl⟩
abbrev main_call9_v0 : Ref sig .tc := ⟨.hbm, 179, rfl⟩
abbrev main_call9_v1 : Ref sig .tc := ⟨.hbm, 180, rfl⟩
abbrev main_call9_v2 : Ref sig .tc := ⟨.hbm, 181, rfl⟩
abbrev main_call9_v3 : Ref sig .tc := ⟨.hbm, 182, rfl⟩
abbrev main_call9_v4 : Ref sig .tc := ⟨.hbm, 183, rfl⟩
abbrev main_v83 : Ref sig .tc := ⟨.hbm, 184, rfl⟩
abbrev main_v84 : Ref sig .tc := ⟨.hbm, 185, rfl⟩

abbrev nD : Nat := 1
abbrev τ : Topo := Topo.v7x

variable {F : FTy → Type} [FloatOps F]
-- ==== Proof.WVals.lean ====
/- What the routing step of the kernel computes, value by value, as functions of its three inputs: the expert ids, the words
   of the weights and the history of maxima. -/
module

public import proofs.«01_k».proof.Proof.Gen.Kernel.Frame
public import proofs.«01_k».proof.Proof.Gen.Kernel.Skeleton

@[expose] public section

set_option maxRecDepth 16384

noncomputable section

namespace Cert.Kernel.Val

open Idealize.ShloMosaic Idealize.ShloMosaic.TcCoe Idealize.ShloMosaic.Tactic
open Idealize.SL Idealize.SL.RA Idealize.SL.BI
open scoped Idealize.SL.BI
open Cert.Kernel.Gen
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

def i0 (x0 : Vec F S6x2x128 .i32) : Vec F S1x2x128 .i32 :=
  View.ld x0 (Rect.unit (s := S6x2x128) ![0, 0, 0] S1x2x128.size inb_S6x2x128_S1x2x128_0_0_0)

def w0 (x1 : Vec F S6x2x128 .i32) : Vec F S1x2x128 .i32 :=
  View.ld x1 (Rect.unit (s := S6x2x128) ![0, 0, 0] S1x2x128.size inb_S6x2x128_S1x2x128_0_0_0)

def i1 (x0 : Vec F S6x2x128 .i32) : Vec F S1x2x128 .i32 :=
  View.ld x0 (Rect.unit (s := S6x2x128) ![1, 0, 0] S1x2x128.size inb_S6x2x128_S1x2x128_1_0_0)

def w1 (x1 : Vec F S6x2x128 .i32) : Vec F S1x2x128 .i32 :=
  View.ld x1 (Rect.unit (s := S6x2x128) ![1, 0, 0] S1x2x128.size inb_S6x2x128_S1x2x128_1_0_0)

def i2 (x0 : Vec F S6x2x128 .i32) : Vec F S1x2x128 .i32 :=
  View.ld x0 (Rect.unit (s := S6x2x128) ![2, 0, 0] S1x2x128.size inb_S6x2x128_S1x2x128_2_0_0)

def w2 (x1 : Vec F S6x2x128 .i32) : Vec F S1x2x128 .i32 :=
  View.ld x1 (Rect.unit (s := S6x2x128) ![2, 0, 0] S1x2x128.size inb_S6x2x128_S1x2x128_2_0_0)

def i3 (x0 : Vec F S6x2x128 .i32) : Vec F S1x2x128 .i32 :=
  View.ld x0 (Rect.unit (s := S6x2x128) ![3, 0, 0] S1x2x128.size inb_S6x2x128_S1x2x128_3_0_0)

def w3 (x1 : Vec F S6x2x128 .i32) : Vec F S1x2x128 .i32 :=
  View.ld x1 (Rect.unit (s := S6x2x128) ![3, 0, 0] S1x2x128.size inb_S6x2x128_S1x2x128_3_0_0)

def i4 (x0 : Vec F S6x2x128 .i32) : Vec F S1x2x128 .i32 :=
  View.ld x0 (Rect.unit (s := S6x2x128) ![4, 0, 0] S1x2x128.size inb_S6x2x128_S1x2x128_4_0_0)

def w4 (x1 : Vec F S6x2x128 .i32) : Vec F S1x2x128 .i32 :=
  View.ld x1 (Rect.unit (s := S6x2x128) ![4, 0, 0] S1x2x128.size inb_S6x2x128_S1x2x128_4_0_0)

def i5 (x0 : Vec F S6x2x128 .i32) : Vec F S1x2x128 .i32 :=
  View.ld x0 (Rect.unit (s := S6x2x128) ![5, 0, 0] S1x2x128.size inb_S6x2x128_S1x2x128_5_0_0)

def w5 (x1 : Vec F S6x2x128 .i32) : Vec F S1x2x128 .i32 :=
  View.ld x1 (Rect.unit (s := S6x2x128) ![5, 0, 0] S1x2x128.size inb_S6x2x128_S1x2x128_5_0_0)

def v36 (x0 : Vec F S6x2x128 .i32) : IVec S1x256 32 :=
  k0_pay5 (F := F) (i0 x0)

def v41 (x0 : Vec F S6x2x128 .i32) : IVec S1x256 32 :=
  k0_pay6 (F := F) (i1 x0)

def v46 (x0 : Vec F S6x2x128 .i32) : IVec S1x256 32 :=
  k0_pay7 (F := F) (i2 x0)

def v51 (x0 : Vec F S6x2x128 .i32) : IVec S1x256 32 :=
  k0_pay8 (F := F) (i3 x0)

def v56 (x0 : Vec F S6x2x128 .i32) : IVec S1x256 32 :=
  k0_pay9 (F := F) (i4 x0)

def v61 (x0 : Vec F S6x2x128 .i32) : IVec S1x256 32 :=
  k0_pay10 (F := F) (i5 x0)

def v62 : IVec S168x256 32 := iota .tc S168x256 32 [0] iota_S168x256_d0_w32

def v63 : FVec F S168x256 .f32 := k0_pay11

def v64 : FVec F S168x256 .f32 := k0_pay12

def v69 (x0 : Vec F S6x2x128 .i32) : FVec F S168x256 .f32 :=
  k0_pay13 (i0 x0)

def v106 (x0 : Vec F S6x2x128 .i32) : FVec F S168x256 .f32 :=
  k0_pay14 (v41 x0) (v46 x0) (v51 x0) v62 (v63 (F := F)) (v69 x0)

def v112 (x0 : Vec F S6x2x128 .i32) : FVec F S168x256 .f32 :=
  k0_pay15 (v36 x0) (v41 x0) (v46 x0) (v51 x0) v62 (v64 (F := F))

def v114 (x0 : Vec F S6x2x128 .i32) : IVec S168x256 1 :=
  k0_pay16 (v56 x0) v62

/-- Whether some choice of a token is an expert. -/
def v137 (x0 : Vec F S6x2x128 .i32) : FVec F S168x256 .bf16 :=
  k0_pay17 (v61 x0) v62 (v106 x0) (v114 x0) (Scalar.ofBits .f32 0x3F800000#32)

/-- How many choices of a token are an expert. -/
def v138 (x0 : Vec F S6x2x128 .i32) : FVec F S168x256 .bf16 :=
  k0_pay18 (v56 x0) (v61 x0) v62 (v112 x0)

def v139 (x2 : Vec F S16x160 .f32) : Vec F S16x160 .f32 :=
  View.ld x2 (Rect.unit (s := S16x160) ![0, 0] S16x160.size inb_S16x160_S16x160_0_0)

def v158 (x2 : Vec F S16x160 .f32) : IVec S1x160 32 :=
  k0_pay19 (v139 x2)

/-- The scales' exponents. -/
def v164 (x2 : Vec F S16x160 .f32) : IVec S1x160 32 :=
  k0_pay20 (v158 x2)

def v189 (x0 : Vec F S6x2x128 .i32) (x2 : Vec F S16x160 .f32) : FVec F S168x256 .f32 :=
  k0_pay21 (v137 x0) (v138 x0) (v158 x2)

def v192 (x0 : Vec F S6x2x128 .i32) : FVec F S1x168 .f32 :=
  k0_pay22 (v138 x0)

def v198 (x0 : Vec F S6x2x128 .i32) (x2 : Vec F S16x160 .f32) : FVec F S1x256 .f32 :=
  k0_pay23 (v36 x0) v62 (v137 x0) (v138 x0) (v158 x2)

def v202 (x0 : Vec F S6x2x128 .i32) (x2 : Vec F S16x160 .f32) : FVec F S168x256 .f32 :=
  k0_pay24 (v41 x0) v62 (v137 x0) (v138 x0) (v158 x2)

def v230 (x0 : Vec F S6x2x128 .i32) (x2 : Vec F S16x160 .f32) : IVec S1x1536 32 :=
  k0_pay25 (v46 x0) (v51 x0) (v56 x0) (v61 x0) v62 (v189 x0 x2) (v198 x0 x2) (v202 x0 x2)

def v231 : IVec S1x256 32 := k0_pay26

def v237 (x0 : Vec F S6x2x128 .i32) : IVec S1x256 32 :=
  k0_pay27 (v36 x0) (v41 x0)

def v243 (x0 : Vec F S6x2x128 .i32) : IVec S1x256 32 :=
  k0_pay28 (v36 x0) (v46 x0)

def v244 (x0 : Vec F S6x2x128 .i32) : IVec S1x256 1 :=
  k0_pay29 (v41 x0) (v46 x0)

def v248 (x0 : Vec F S6x2x128 .i32) : IVec S1x256 32 :=
  k0_pay30 (v243 x0) (v244 x0) 1#32 0#32

def v264 (x0 : Vec F S6x2x128 .i32) : IVec S1x256 32 :=
  k0_pay31 (v36 x0) (v41 x0) (v46 x0) (v51 x0)

def v285 (x0 : Vec F S6x2x128 .i32) : IVec S1x256 32 :=
  k0_pay32 (v36 x0) (v41 x0) (v46 x0) (v51 x0) (v56 x0)

def v286 : IVec S1x256 32 := k0_pay33

def v287 (x0 : Vec F S6x2x128 .i32) : IVec S1x256 1 :=
  k0_pay34 (v36 x0) (v61 x0)

def v317 (x0 : Vec F S6x2x128 .i32) (x2 : Vec F S16x160 .f32) : IVec S1x1536 32 :=
  k0_pay37 (v41 x0) (v46 x0) (v51 x0) (v56 x0) (v61 x0) (v230 x0 x2) v231 (v237 x0) (v248 x0) (v264 x0) (v285 x0) v286 (v287 x0)

def v319 (x0 : Vec F S6x2x128 .i32) (x2 : Vec F S16x160 .f32) : IVec S1x1536 32 :=
  k0_pay38 (v41 x0) (v46 x0) (v51 x0) (v56 x0) (v61 x0) (v230 x0 x2) v231 (v237 x0) (v248 x0) (v264 x0) (v285 x0) v286 (v287 x0)

def v321 (x0 : Vec F S6x2x128 .i32) (x2 : Vec F S16x160 .f32) : IVec S1x1536 32 :=
  k0_pay39 (v41 x0) (v46 x0) (v51 x0) (v56 x0) (v61 x0) (v230 x0 x2) v231 (v237 x0) (v248 x0) (v264 x0) (v285 x0) v286 (v287 x0)

def v324 : IVec S1x1536 32 := k0_pay40

def v329 (x1 : Vec F S6x2x128 .i32) : IVec S1x256 32 :=
  k0_pay41 (F := F) (w0 x1)

def v355 (x1 : Vec F S6x2x128 .i32) : IVec S1x1536 32 :=
  k0_pay42 (F := F) (v329 x1) (w1 x1) (w2 x1) (w3 x1) (w4 x1) (w5 x1)

def v359 (x1 : Vec F S6x2x128 .i32) : IVec S1x1536 32 :=
  k0_pay43 (F := F) (v329 x1) (w1 x1) (w2 x1) (w3 x1) (w4 x1) (w5 x1)

def v363 (x1 : Vec F S6x2x128 .i32) : IVec S1x1536 32 :=
  k0_pay44 (F := F) (v329 x1) (w1 x1) (w2 x1) (w3 x1) (w4 x1) (w5 x1)

def v367 (x1 : Vec F S6x2x128 .i32) : IVec S1x1536 32 :=
  k0_pay45 (F := F) (v329 x1) (w1 x1) (w2 x1) (w3 x1) (w4 x1) (w5 x1)

def v413 (x0 : Vec F S6x2x128 .i32) (x2 : Vec F S16x160 .f32) : FVec F S128x1536 .bf16 :=
  k0_pay47 (F := F) (v321 x0 x2)

def v415 (x0 : Vec F S6x2x128 .i32) (x1 : Vec F S6x2x128 .i32) (x2 : Vec F S16x160 .f32) : IVec S96x128 32 :=
  k0_pay48 (F := F) (v317 x0 x2) (v319 x0 x2) (v321 x0 x2) v324 (v355 x1) (v359 x1) (v363 x1) (v367 x1) 24#32

def v416 (x0 : Vec F S6x2x128 .i32) (x1 : Vec F S6x2x128 .i32) (x2 : Vec F S16x160 .f32) : FVec F S32x1536 .bf16 :=
  k0_pay49 (F := F) (v317 x0 x2) (v319 x0 x2) v324 (v355 x1) (v359 x1) (v363 x1) (v367 x1) 24#32

def v418 (x0 : Vec F S6x2x128 .i32) (x1 : Vec F S6x2x128 .i32) (x2 : Vec F S16x160 .f32) : IVec S128x32 32 :=
  k0_pay50 (F := F) (v413 x0 x2) (v416 x0 x1 x2) (constant S128x32 .f32 0x00000000#32)

/-- The scales the routing stores. -/
def oScale (x2 : Vec F S16x160 .f32) : FVec F S1x160 .f32 :=
  k0_pay51 (F := F) (v164 x2)

/-- The offsets it stores. -/
def oOff (x0 : Vec F S6x2x128 .i32) : IVec S1x168 32 :=
  k0_pay52 (F := F) (v192 x0)

/-- The source tokens it stores. -/
def oSrc (x0 : Vec F S6x2x128 .i32) (x1 : Vec F S6x2x128 .i32) (x2 : Vec F S16x160 .f32) : IVec S12x128 32 :=
  k0_pay53 (v415 x0 x1 x2)

/-- The row weights it stores. -/
def oRw (x0 : Vec F S6x2x128 .i32) (x1 : Vec F S6x2x128 .i32) (x2 : Vec F S16x160 .f32) : FVec F S12x128 .f32 :=
  k0_pay54 (F := F) (v415 x0 x1 x2)

/-- The membership matrix it keeps. -/
def oMember (x0 : Vec F S6x2x128 .i32) : FVec F S168x256 .bf16 :=
  k0_pay55 (v137 x0)

def v471 (x0 : Vec F S6x2x128 .i32) (x1 : Vec F S6x2x128 .i32) (x2 : Vec F S16x160 .f32) : FVec F S128x16 .f32 :=
  k0_pay56 (F := F) (v418 x0 x1 x2)

def v472 : IVec S128x256 32 := iota .tc S128x256 32 [1] iota_S128x256_d1_w32

def v497 (x0 : Vec F S6x2x128 .i32) (x1 : Vec F S6x2x128 .i32) (x2 : Vec F S16x160 .f32) : IVec S128x1 32 :=
  k0_pay59 (v418 x0 x1 x2)

def v541 (x0 : Vec F S6x2x128 .i32) (x1 : Vec F S6x2x128 .i32) (x2 : Vec F S16x160 .f32) : FVec F S128x256 .bf16 :=
  k0_pay63 (v418 x0 x1 x2) (v471 x0 x1 x2) v472

def v588 (x0 : Vec F S6x2x128 .i32) (x1 : Vec F S6x2x128 .i32) (x2 : Vec F S16x160 .f32) : FVec F S128x256 .f32 :=
  k0_pay68 (v418 x0 x1 x2) (v471 x0 x1 x2) v472

/-- Rows 0 to 127 of the scaled permutation matrix. -/
def p0 (x0 : Vec F S6x2x128 .i32) (x1 : Vec F S6x2x128 .i32) (x2 : Vec F S16x160 .f32) : FVec F S128x256 .bf16 :=
  k0_pay57 (F := F) (v418 x0 x1 x2)

/-- Rows 128 to 255 of the scaled permutation matrix. -/
def p1 (x0 : Vec F S6x2x128 .i32) (x1 : Vec F S6x2x128 .i32) (x2 : Vec F S16x160 .f32) : FVec F S128x256 .bf16 :=
  k0_pay58 (F := F) (v418 x0 x1 x2)

/-- Rows 256 to 383 of the scaled permutation matrix. -/
def p2 (x0 : Vec F S6x2x128 .i32) (x1 : Vec F S6x2x128 .i32) (x2 : Vec F S16x160 .f32) : FVec F S128x256 .bf16 :=
  k0_pay60 (v471 x0 x1 x2) v472 (v497 x0 x1 x2)

/-- Rows 384 to 511 of the scaled permutation matrix. -/
def p3 (x0 : Vec F S6x2x128 .i32) (x1 : Vec F S6x2x128 .i32) (x2 : Vec F S16x160 .f32) : FVec F S128x256 .bf16 :=
  k0_pay61 (v418 x0 x1 x2) (v471 x0 x1 x2) v472

/-- Rows 512 to 639 of the scaled permutation matrix. -/
def p4 (x0 : Vec F S6x2x128 .i32) (x1 : Vec F S6x2x128 .i32) (x2 : Vec F S16x160 .f32) : FVec F S128x256 .bf16 :=
  k0_pay62 (v418 x0 x1 x2) (v471 x0 x1 x2) v472

/-- Rows 640 to 767 of the scaled permutation matrix. -/
def p5 (x0 : Vec F S6x2x128 .i32) (x1 : Vec F S6x2x128 .i32) (x2 : Vec F S16x160 .f32) : FVec F S128x256 .bf16 :=
  k0_pay64 (v541 x0 x1 x2)

/-- Rows 768 to 895 of the scaled permutation matrix. -/
def p6 (x0 : Vec F S6x2x128 .i32) (x1 : Vec F S6x2x128 .i32) (x2 : Vec F S16x160 .f32) : FVec F S128x256 .bf16 :=
  k0_pay65 (v418 x0 x1 x2) (v471 x0 x1 x2) v472

/-- Rows 896 to 1023 of the scaled permutation matrix. -/
def p7 (x0 : Vec F S6x2x128 .i32) (x1 : Vec F S6x2x128 .i32) (x2 : Vec F S16x160 .f32) : FVec F S128x256 .bf16 :=
  k0_pay66 (v418 x0 x1 x2) (v471 x0 x1 x2) v472

/-- Rows 1024 to 1151 of the scaled permutation matrix. -/
def p8 (x0 : Vec F S6x2x128 .i32) (x1 : Vec F S6x2x128 .i32) (x2 : Vec F S16x160 .f32) : FVec F S128x256 .bf16 :=
  k0_pay67 (v418 x0 x1 x2) (v471 x0 x1 x2) v472

/-- Rows 1152 to 1279 of the scaled permutation matrix. -/
def p9 (x0 : Vec F S6x2x128 .i32) (x1 : Vec F S6x2x128 .i32) (x2 : Vec F S16x160 .f32) : FVec F S128x256 .bf16 :=
  k0_pay69 (v588 x0 x1 x2)

/-- Rows 1280 to 1407 of the scaled permutation matrix. -/
def p10 (x0 : Vec F S6x2x128 .i32) (x1 : Vec F S6x2x128 .i32) (x2 : Vec F S16x160 .f32) : FVec F S128x256 .bf16 :=
  k0_pay70 (v418 x0 x1 x2) (v471 x0 x1 x2) v472

/-- Rows 1408 to 1535 of the scaled permutation matrix. -/
def p11 (x0 : Vec F S6x2x128 .i32) (x1 : Vec F S6x2x128 .i32) (x2 : Vec F S16x160 .f32) : FVec F S128x256 .bf16 :=
  k0_pay71 (v418 x0 x1 x2) (v471 x0 x1 x2) v472

/-- The twelve pieces of the scaled permutation matrix, last stored first. -/
def pPieces (x0 : Vec F S6x2x128 .i32) (x1 : Vec F S6x2x128 .i32) (x2 : Vec F S16x160 .f32) : List (View.Piece (Elt F) S1536x256 .bf16) :=
  [⟨(Rect.unit (s := S1536x256) ![1408, 0] S128x256.size inb_S1536x256_S128x256_1408_0), p11 x0 x1 x2⟩,
    ⟨(Rect.unit (s := S1536x256) ![1280, 0] S128x256.size inb_S1536x256_S128x256_1280_0), p10 x0 x1 x2⟩,
    ⟨(Rect.unit (s := S1536x256) ![1152, 0] S128x256.size inb_S1536x256_S128x256_1152_0), p9 x0 x1 x2⟩,
    ⟨(Rect.unit (s := S1536x256) ![1024, 0] S128x256.size inb_S1536x256_S128x256_1024_0), p8 x0 x1 x2⟩,
    ⟨(Rect.unit (s := S1536x256) ![896, 0] S128x256.size inb_S1536x256_S128x256_896_0), p7 x0 x1 x2⟩,
    ⟨(Rect.unit (s := S1536x256) ![768, 0] S128x256.size inb_S1536x256_S128x256_768_0), p6 x0 x1 x2⟩,
    ⟨(Rect.unit (s := S1536x256) ![640, 0] S128x256.size inb_S1536x256_S128x256_640_0), p5 x0 x1 x2⟩,
    ⟨(Rect.unit (s := S1536x256) ![512, 0] S128x256.size inb_S1536x256_S128x256_512_0), p4 x0 x1 x2⟩,
    ⟨(Rect.unit (s := S1536x256) ![384, 0] S128x256.size inb_S1536x256_S128x256_384_0), p3 x0 x1 x2⟩,
    ⟨(Rect.unit (s := S1536x256) ![256, 0] S128x256.size inb_S1536x256_S128x256_256_0), p2 x0 x1 x2⟩,
    ⟨(Rect.unit (s := S1536x256) ![128, 0] S128x256.size inb_S1536x256_S128x256_128_0), p1 x0 x1 x2⟩,
    ⟨(Rect.unit (s := S1536x256) ![0, 0] S128x256.size inb_S1536x256_S128x256_0_0), p0 x0 x1 x2⟩]

/-- The scaled permutation matrix the routing keeps. -/
def oP (x0 : Vec F S6x2x128 .i32) (x1 : Vec F S6x2x128 .i32) (x2 : Vec F S16x160 .f32) : Vec F S1536x256 .bf16 := View.canon (pPieces x0 x1 x2)

end Cert.Kernel.Val

end
-- ==== Proof.WParts.lean ====
/- The parts of the routing step that only read, run. -/
module

public import proofs.«01_k».proof.Proof.WVals
public import Idealize.ShloMosaic.Lib.Pipeline.Value

@[expose] public section

set_option maxRecDepth 16384

noncomputable section

namespace Cert.Kernel.Val

open Idealize.ShloMosaic Idealize.ShloMosaic.TcCoe Idealize.ShloMosaic.Tactic
open Idealize.SL Idealize.SL.RA Idealize.SL.BI
open scoped Idealize.SL.BI
open Cert.Kernel.Gen
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Part 1 of the routing step reads its input and returns its values. -/
theorem part1 (c : Dev nD) (E : Set ℕ) (i : grid0.Coords) (arg1 : Memref sig .tc .vmem S6x2x128 .i32) (harg1 : arg1.IsWhole) (arg2 : Memref sig .tc .vmem S6x2x128 .i32) (harg2 : arg2.IsWhole) (arg3 : Memref sig .tc .vmem S16x160 .f32) (harg3 : arg3.IsWhole) (arg4 : Memref sig .tc .vmem S256x512 .bf16) (harg4 : arg4.IsWhole) (arg5 : Memref sig .tc .vmem S1536x512 .fp8e4m3) (harg5 : arg5.IsWhole) (arg6 : Memref sig .tc .vmem S1x160 .f32) (harg6 : arg6.IsWhole) (arg7 : Memref sig .tc .vmem S12x128 .i32) (harg7 : arg7.IsWhole) (arg8 : Memref sig .tc .vmem S12x128 .f32) (harg8 : arg8.IsWhole) (arg9 : Memref sig .tc .vmem S1x168 .i32) (harg9 : arg9.IsWhole) (arg10 : Memref sig .tc .vmem S1x168 .f32) (harg10 : arg10.IsWhole) (arg11 : Memref sig .tc .vmem S1536x256 .bf16) (harg11 : arg11.IsWhole) (arg12 : Memref sig .tc .vmem S168x256 .bf16) (harg12 : arg12.IsWhole) (arg13 : Memref sig .tc .vmem S256x128 .bf16) (harg13 : arg13.IsWhole)
    (x0 : Vec F S6x2x128 .i32) (K : _ → sProp 𝕄) :
    iprop(owns (c : Thread nD τ) arg1 fullShare x0 ∗ (owns (c : Thread nD τ) arg1 fullShare x0 -∗ K ⟨k0_pay5 (View.ld x0 (Rect.unit (s := S6x2x128) ![0, 0, 0] S1x2x128.size inb_S6x2x128_S1x2x128_0_0_0)), k0_pay6 (View.ld x0 (Rect.unit (s := S6x2x128) ![1, 0, 0] S1x2x128.size inb_S6x2x128_S1x2x128_1_0_0)), k0_pay7 (View.ld x0 (Rect.unit (s := S6x2x128) ![2, 0, 0] S1x2x128.size inb_S6x2x128_S1x2x128_2_0_0)), k0_pay8 (View.ld x0 (Rect.unit (s := S6x2x128) ![3, 0, 0] S1x2x128.size inb_S6x2x128_S1x2x128_3_0_0)), k0_pay9 (View.ld x0 (Rect.unit (s := S6x2x128) ![4, 0, 0] S1x2x128.size inb_S6x2x128_S1x2x128_4_0_0)), k0_pay10 (View.ld x0 (Rect.unit (s := S6x2x128) ![5, 0, 0] S1x2x128.size inb_S6x2x128_S1x2x128_5_0_0)), (iota .tc S168x256 32 [0] iota_S168x256_d0_w32), k0_pay11 (F := F), k0_pay12 (F := F), k0_pay13 (View.ld x0 (Rect.unit (s := S6x2x128) ![0, 0, 0] S1x2x128.size inb_S6x2x128_S1x2x128_0_0_0))⟩))
      ⊢ wp frame (wpE (defs₀ (F := F)) Variants.none c none) E (k0_part1 (F := F) i arg1 harg1 arg2 harg2 arg3 harg3 arg4 harg4 arg5 harg5 arg6 harg6 arg7 harg7 arg8 harg8 arg9 harg9 arg10 harg10 arg11 harg11 arg12 harg12 arg13 harg13 ) K := by
  rw [k0_part1_eq_skeleton]
  unfold k0_part1_skel
  unfold owns
  iintro ⟨⟨%f0, %hf0, H0⟩, Hk⟩
  subst hf0
  sl_exec
  sl_step
  sl_unfold_words
  simp only [View.readAt_eq_ld]
  iapply Hk
  iexists f0; isplitr; · ipureintro; rfl
  iexact H0

/-- Part 3 of the routing step reads its input and returns its values. -/
theorem part3 (c : Dev nD) (E : Set ℕ) (i : grid0.Coords) (arg1 : Memref sig .tc .vmem S6x2x128 .i32) (harg1 : arg1.IsWhole) (arg2 : Memref sig .tc .vmem S6x2x128 .i32) (harg2 : arg2.IsWhole) (arg3 : Memref sig .tc .vmem S16x160 .f32) (harg3 : arg3.IsWhole) (arg4 : Memref sig .tc .vmem S256x512 .bf16) (harg4 : arg4.IsWhole) (arg5 : Memref sig .tc .vmem S1536x512 .fp8e4m3) (harg5 : arg5.IsWhole) (arg6 : Memref sig .tc .vmem S1x160 .f32) (harg6 : arg6.IsWhole) (arg7 : Memref sig .tc .vmem S12x128 .i32) (harg7 : arg7.IsWhole) (arg8 : Memref sig .tc .vmem S12x128 .f32) (harg8 : arg8.IsWhole) (arg9 : Memref sig .tc .vmem S1x168 .i32) (harg9 : arg9.IsWhole) (arg10 : Memref sig .tc .vmem S1x168 .f32) (harg10 : arg10.IsWhole) (arg11 : Memref sig .tc .vmem S1536x256 .bf16) (harg11 : arg11.IsWhole) (arg12 : Memref sig .tc .vmem S168x256 .bf16) (harg12 : arg12.IsWhole) (arg13 : Memref sig .tc .vmem S256x128 .bf16) (harg13 : arg13.IsWhole) (v56 : IVec S1x256 32) (v61 : IVec S1x256 32) (v62 : IVec S168x256 32) (v106 : FVec F S168x256 .f32) (v112 : FVec F S168x256 .f32) (v114 : IVec S168x256 1) (cst_44 : F .f32)
    (x2 : Vec F S16x160 .f32) (K : _ → sProp 𝕄) :
    iprop(owns (c : Thread nD τ) arg3 fullShare x2 ∗ (owns (c : Thread nD τ) arg3 fullShare x2 -∗ K ⟨k0_pay17 v61 v62 v106 v114 cst_44, k0_pay18 v56 v61 v62 v112, k0_pay19 (View.ld x2 (Rect.unit (s := S16x160) ![0, 0] S16x160.size inb_S16x160_S16x160_0_0))⟩))
      ⊢ wp frame (wpE (defs₀ (F := F)) Variants.none c none) E (k0_part3 (F := F) i arg1 harg1 arg2 harg2 arg3 harg3 arg4 harg4 arg5 harg5 arg6 harg6 arg7 harg7 arg8 harg8 arg9 harg9 arg10 harg10 arg11 harg11 arg12 harg12 arg13 harg13 v56 v61 v62 v106 v112 v114 cst_44) K := by
  rw [k0_part3_eq_skeleton]
  unfold k0_part3_skel
  unfold owns
  iintro ⟨⟨%f0, %hf0, H0⟩, Hk⟩
  subst hf0
  sl_exec
  sl_step
  simp only [View.readAt_eq_ld]
  iapply Hk
  iexists f0; isplitr; · ipureintro; rfl
  iexact H0

/-- Part 7 of the routing step reads its input and returns its values. -/
theorem part7 (c : Dev nD) (E : Set ℕ) (i : grid0.Coords) (arg1 : Memref sig .tc .vmem S6x2x128 .i32) (harg1 : arg1.IsWhole) (arg2 : Memref sig .tc .vmem S6x2x128 .i32) (harg2 : arg2.IsWhole) (arg3 : Memref sig .tc .vmem S16x160 .f32) (harg3 : arg3.IsWhole) (arg4 : Memref sig .tc .vmem S256x512 .bf16) (harg4 : arg4.IsWhole) (arg5 : Memref sig .tc .vmem S1536x512 .fp8e4m3) (harg5 : arg5.IsWhole) (arg6 : Memref sig .tc .vmem S1x160 .f32) (harg6 : arg6.IsWhole) (arg7 : Memref sig .tc .vmem S12x128 .i32) (harg7 : arg7.IsWhole) (arg8 : Memref sig .tc .vmem S12x128 .f32) (harg8 : arg8.IsWhole) (arg9 : Memref sig .tc .vmem S1x168 .i32) (harg9 : arg9.IsWhole) (arg10 : Memref sig .tc .vmem S1x168 .f32) (harg10 : arg10.IsWhole) (arg11 : Memref sig .tc .vmem S1536x256 .bf16) (harg11 : arg11.IsWhole) (arg12 : Memref sig .tc .vmem S168x256 .bf16) (harg12 : arg12.IsWhole) (arg13 : Memref sig .tc .vmem S256x128 .bf16) (harg13 : arg13.IsWhole) (v41 : IVec S1x256 32) (v46 : IVec S1x256 32) (v51 : IVec S1x256 32) (v56 : IVec S1x256 32) (v61 : IVec S1x256 32) (v230 : IVec S1x1536 32) (v231 : IVec S1x256 32) (v237 : IVec S1x256 32) (v248 : IVec S1x256 32) (v264 : IVec S1x256 32) (v285 : IVec S1x256 32) (v286 : IVec S1x256 32) (v287 : IVec S1x256 1)
    (x1 : Vec F S6x2x128 .i32) (K : _ → sProp 𝕄) :
    iprop(owns (c : Thread nD τ) arg2 fullShare x1 ∗ (owns (c : Thread nD τ) arg2 fullShare x1 -∗ K ⟨k0_pay37 v41 v46 v51 v56 v61 v230 v231 v237 v248 v264 v285 v286 v287, k0_pay38 v41 v46 v51 v56 v61 v230 v231 v237 v248 v264 v285 v286 v287, k0_pay39 v41 v46 v51 v56 v61 v230 v231 v237 v248 v264 v285 v286 v287, k0_pay40, k0_pay41 (View.ld x1 (Rect.unit (s := S6x2x128) ![0, 0, 0] S1x2x128.size inb_S6x2x128_S1x2x128_0_0_0))⟩))
      ⊢ wp frame (wpE (defs₀ (F := F)) Variants.none c none) E (k0_part7 (F := F) i arg1 harg1 arg2 harg2 arg3 harg3 arg4 harg4 arg5 harg5 arg6 harg6 arg7 harg7 arg8 harg8 arg9 harg9 arg10 harg10 arg11 harg11 arg12 harg12 arg13 harg13 v41 v46 v51 v56 v61 v230 v231 v237 v248 v264 v285 v286 v287) K := by
  rw [k0_part7_eq_skeleton]
  unfold k0_part7_skel
  unfold owns
  iintro ⟨⟨%f0, %hf0, H0⟩, Hk⟩
  subst hf0
  sl_exec
  sl_step
  simp only [View.readAt_eq_ld]
  iapply Hk
  iexists f0; isplitr; · ipureintro; rfl
  iexact H0

/-- Part 8 of the routing step reads its input and returns its values. -/
theorem part8 (c : Dev nD) (E : Set ℕ) (i : grid0.Coords) (arg1 : Memref sig .tc .vmem S6x2x128 .i32) (harg1 : arg1.IsWhole) (arg2 : Memref sig .tc .vmem S6x2x128 .i32) (harg2 : arg2.IsWhole) (arg3 : Memref sig .tc .vmem S16x160 .f32) (harg3 : arg3.IsWhole) (arg4 : Memref sig .tc .vmem S256x512 .bf16) (harg4 : arg4.IsWhole) (arg5 : Memref sig .tc .vmem S1536x512 .fp8e4m3) (harg5 : arg5.IsWhole) (arg6 : Memref sig .tc .vmem S1x160 .f32) (harg6 : arg6.IsWhole) (arg7 : Memref sig .tc .vmem S12x128 .i32) (harg7 : arg7.IsWhole) (arg8 : Memref sig .tc .vmem S12x128 .f32) (harg8 : arg8.IsWhole) (arg9 : Memref sig .tc .vmem S1x168 .i32) (harg9 : arg9.IsWhole) (arg10 : Memref sig .tc .vmem S1x168 .f32) (harg10 : arg10.IsWhole) (arg11 : Memref sig .tc .vmem S1536x256 .bf16) (harg11 : arg11.IsWhole) (arg12 : Memref sig .tc .vmem S168x256 .bf16) (harg12 : arg12.IsWhole) (arg13 : Memref sig .tc .vmem S256x128 .bf16) (harg13 : arg13.IsWhole) (v329 : IVec S1x256 32)
    (x1 : Vec F S6x2x128 .i32) (K : _ → sProp 𝕄) :
    iprop(owns (c : Thread nD τ) arg2 fullShare x1 ∗ (owns (c : Thread nD τ) arg2 fullShare x1 -∗ K ⟨k0_pay42 v329 (View.ld x1 (Rect.unit (s := S6x2x128) ![1, 0, 0] S1x2x128.size inb_S6x2x128_S1x2x128_1_0_0)) (View.ld x1 (Rect.unit (s := S6x2x128) ![2, 0, 0] S1x2x128.size inb_S6x2x128_S1x2x128_2_0_0)) (View.ld x1 (Rect.unit (s := S6x2x128) ![3, 0, 0] S1x2x128.size inb_S6x2x128_S1x2x128_3_0_0)) (View.ld x1 (Rect.unit (s := S6x2x128) ![4, 0, 0] S1x2x128.size inb_S6x2x128_S1x2x128_4_0_0)) (View.ld x1 (Rect.unit (s := S6x2x128) ![5, 0, 0] S1x2x128.size inb_S6x2x128_S1x2x128_5_0_0)), k0_pay43 v329 (View.ld x1 (Rect.unit (s := S6x2x128) ![1, 0, 0] S1x2x128.size inb_S6x2x128_S1x2x128_1_0_0)) (View.ld x1 (Rect.unit (s := S6x2x128) ![2, 0, 0] S1x2x128.size inb_S6x2x128_S1x2x128_2_0_0)) (View.ld x1 (Rect.unit (s := S6x2x128) ![3, 0, 0] S1x2x128.size inb_S6x2x128_S1x2x128_3_0_0)) (View.ld x1 (Rect.unit (s := S6x2x128) ![4, 0, 0] S1x2x128.size inb_S6x2x128_S1x2x128_4_0_0)) (View.ld x1 (Rect.unit (s := S6x2x128) ![5, 0, 0] S1x2x128.size inb_S6x2x128_S1x2x128_5_0_0)), k0_pay44 v329 (View.ld x1 (Rect.unit (s := S6x2x128) ![1, 0, 0] S1x2x128.size inb_S6x2x128_S1x2x128_1_0_0)) (View.ld x1 (Rect.unit (s := S6x2x128) ![2, 0, 0] S1x2x128.size inb_S6x2x128_S1x2x128_2_0_0)) (View.ld x1 (Rect.unit (s := S6x2x128) ![3, 0, 0] S1x2x128.size inb_S6x2x128_S1x2x128_3_0_0)) (View.ld x1 (Rect.unit (s := S6x2x128) ![4, 0, 0] S1x2x128.size inb_S6x2x128_S1x2x128_4_0_0)) (View.ld x1 (Rect.unit (s := S6x2x128) ![5, 0, 0] S1x2x128.size inb_S6x2x128_S1x2x128_5_0_0)), k0_pay45 v329 (View.ld x1 (Rect.unit (s := S6x2x128) ![1, 0, 0] S1x2x128.size inb_S6x2x128_S1x2x128_1_0_0)) (View.ld x1 (Rect.unit (s := S6x2x128) ![2, 0, 0] S1x2x128.size inb_S6x2x128_S1x2x128_2_0_0)) (View.ld x1 (Rect.unit (s := S6x2x128) ![3, 0, 0] S1x2x128.size inb_S6x2x128_S1x2x128_3_0_0)) (View.ld x1 (Rect.unit (s := S6x2x128) ![4, 0, 0] S1x2x128.size inb_S6x2x128_S1x2x128_4_0_0)) (View.ld x1 (Rect.unit (s := S6x2x128) ![5, 0, 0] S1x2x128.size inb_S6x2x128_S1x2x128_5_0_0)), 24#32⟩))
      ⊢ wp frame (wpE (defs₀ (F := F)) Variants.none c none) E (k0_part8 (F := F) i arg1 harg1 arg2 harg2 arg3 harg3 arg4 harg4 arg5 harg5 arg6 harg6 arg7 harg7 arg8 harg8 arg9 harg9 arg10 harg10 arg11 harg11 arg12 harg12 arg13 harg13 v329) K := by
  rw [k0_part8_eq_skeleton]
  unfold k0_part8_skel
  unfold owns
  iintro ⟨⟨%f0, %hf0, H0⟩, Hk⟩
  subst hf0
  sl_exec
  sl_step
  simp only [View.readAt_eq_ld]
  iapply Hk
  iexists f0; isplitr; · ipureintro; rfl
  iexact H0

end Cert.Kernel.Val

end
-- ==== Proof.WRest.lean ====
/- The stores of the routing step, run. -/
module

public import proofs.«01_k».proof.Proof.WVals
public import Idealize.ShloMosaic.Lib.Pipeline.Value

@[expose] public section

set_option maxRecDepth 16384

noncomputable section

namespace Cert.Kernel.Val

open Idealize.ShloMosaic Idealize.ShloMosaic.TcCoe Idealize.ShloMosaic.Tactic
open Idealize.SL Idealize.SL.RA Idealize.SL.BI
open scoped Idealize.SL.BI
open Cert.Kernel.Gen
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The pieces of the permutation matrix the routing step stores, last first, of the columns' words. -/
def pieces (v418 : IVec S128x32 32) : List (View.Piece (Elt F) S1536x256 .bf16) :=
  [⟨(Rect.unit (s := S1536x256) ![1408, 0] S128x256.size inb_S1536x256_S128x256_1408_0), k0_pay71 v418 (k0_pay56 (F := F) v418) v472⟩,
    ⟨(Rect.unit (s := S1536x256) ![1280, 0] S128x256.size inb_S1536x256_S128x256_1280_0), k0_pay70 v418 (k0_pay56 (F := F) v418) v472⟩,
    ⟨(Rect.unit (s := S1536x256) ![1152, 0] S128x256.size inb_S1536x256_S128x256_1152_0), k0_pay69 (k0_pay68 v418 (k0_pay56 (F := F) v418) v472)⟩,
    ⟨(Rect.unit (s := S1536x256) ![1024, 0] S128x256.size inb_S1536x256_S128x256_1024_0), k0_pay67 v418 (k0_pay56 (F := F) v418) v472⟩,
    ⟨(Rect.unit (s := S1536x256) ![896, 0] S128x256.size inb_S1536x256_S128x256_896_0), k0_pay66 v418 (k0_pay56 (F := F) v418) v472⟩,
    ⟨(Rect.unit (s := S1536x256) ![768, 0] S128x256.size inb_S1536x256_S128x256_768_0), k0_pay65 v418 (k0_pay56 (F := F) v418) v472⟩,
    ⟨(Rect.unit (s := S1536x256) ![640, 0] S128x256.size inb_S1536x256_S128x256_640_0), k0_pay64 (k0_pay63 v418 (k0_pay56 (F := F) v418) v472)⟩,
    ⟨(Rect.unit (s := S1536x256) ![512, 0] S128x256.size inb_S1536x256_S128x256_512_0), k0_pay62 v418 (k0_pay56 (F := F) v418) v472⟩,
    ⟨(Rect.unit (s := S1536x256) ![384, 0] S128x256.size inb_S1536x256_S128x256_384_0), k0_pay61 v418 (k0_pay56 (F := F) v418) v472⟩,
    ⟨(Rect.unit (s := S1536x256) ![256, 0] S128x256.size inb_S1536x256_S128x256_256_0), k0_pay60 (k0_pay56 (F := F) v418) v472 (k0_pay59 v418)⟩,
    ⟨(Rect.unit (s := S1536x256) ![128, 0] S128x256.size inb_S1536x256_S128x256_128_0), k0_pay58 (F := F) v418⟩,
    ⟨(Rect.unit (s := S1536x256) ![0, 0] S128x256.size inb_S1536x256_S128x256_0_0), k0_pay57 (F := F) v418⟩]

/-- An index of the kept permutation matrix lies in one of its twelve pieces. -/
theorem pieces_cover (v418 : IVec S128x32 32) (y : S1536x256.Idx) : ∃ pc ∈ pieces (F := F) v418, y ∈ pc.1.set :=
  View.cover_of_tiledL (pieces v418) S128x256.size (by sl_kernel_rfl) y

/-- What the stores of the whole of a buffer leave in it. -/
theorem whole_store {sp : Space} {s : Shape} {e : EltTy} (v : View sig .tc sp s e) (f : v.ty.Contents (Elt F)) (off : Fin s.rank → ℕ) (h : off = fun _ => 0)
    (inb : ∀ a, off a + s.size a ≤ s.size a) (w : s.Idx → Elt F e) :
    v.read (Elt F) (v.writes (Elt F) f [(⟨Rect.unit off s.size inb, w⟩ : View.Piece (Elt F) s e)]) = w :=
  (View.read_writes_eq_canon v f _ (fun y => ⟨_, List.mem_singleton_self _, View.mem_set_unit_zero h inb y⟩)).trans (View.canon_unit_zero h inb w)

theorem zz2 : (![0, 0] : Fin 2 → ℕ) = fun _ => 0 := funext fun a => by fin_cases a <;> rfl

/-- The routing step from its tenth part on: the stores. -/
def rest (i : grid0.Coords) (arg1 : Memref sig .tc .vmem S6x2x128 .i32) (harg1 : arg1.IsWhole) (arg2 : Memref sig .tc .vmem S6x2x128 .i32) (harg2 : arg2.IsWhole) (arg3 : Memref sig .tc .vmem S16x160 .f32) (harg3 : arg3.IsWhole) (arg4 : Memref sig .tc .vmem S256x512 .bf16) (harg4 : arg4.IsWhole) (arg5 : Memref sig .tc .vmem S1536x512 .fp8e4m3) (harg5 : arg5.IsWhole) (arg6 : Memref sig .tc .vmem S1x160 .f32) (harg6 : arg6.IsWhole) (arg7 : Memref sig .tc .vmem S12x128 .i32) (harg7 : arg7.IsWhole) (arg8 : Memref sig .tc .vmem S12x128 .f32) (harg8 : arg8.IsWhole) (arg9 : Memref sig .tc .vmem S1x168 .i32) (harg9 : arg9.IsWhole) (arg10 : Memref sig .tc .vmem S1x168 .f32) (harg10 : arg10.IsWhole) (arg11 : Memref sig .tc .vmem S1536x256 .bf16) (harg11 : arg11.IsWhole) (arg12 : Memref sig .tc .vmem S168x256 .bf16) (harg12 : arg12.IsWhole) (arg13 : Memref sig .tc .vmem S256x128 .bf16) (harg13 : arg13.IsWhole) (v137 : FVec F S168x256 .bf16) (v164 : IVec S1x160 32) (v192 : FVec F S1x168 .f32) (v413 : FVec F S128x1536 .bf16) (v415 : IVec S96x128 32) (v416 : FVec F S32x1536 .bf16) (cst_151 : FVec F S128x32 .f32) :
    Prog (TpuEff nD τ sig (Elt F) Λ₀ .tc) PUnit := do
  let ⟨v418, v453⟩ : Σ' (v418 : IVec S128x32 32), Vec F S168x256 .bf16 ← k0_part10 i arg1 harg1 arg2 harg2 arg3 harg3 arg4 harg4 arg5 harg5 arg6 harg6 arg7 harg7 arg8 harg8 arg9 harg9 arg10 harg10 arg11 harg11 arg12 harg12 arg13 harg13 v164 v192 v413 v415 v416 cst_151
  let ⟨v471, v472, v497⟩ : Σ' (v471 : FVec F S128x16 .f32) (v472 : IVec S128x256 32), IVec S128x1 32 ← k0_part11 i arg1 harg1 arg2 harg2 arg3 harg3 arg4 harg4 arg5 harg5 arg6 harg6 arg7 harg7 arg8 harg8 arg9 harg9 arg10 harg10 arg11 harg11 arg12 harg12 arg13 harg13 v137 v418 v453
  let ⟨v541, v542⟩ : Σ' (v541 : FVec F S128x256 .bf16), Vec F S128x256 .bf16 ← k0_part12 i arg1 harg1 arg2 harg2 arg3 harg3 arg4 harg4 arg5 harg5 arg6 harg6 arg7 harg7 arg8 harg8 arg9 harg9 arg10 harg10 arg11 harg11 arg12 harg12 arg13 harg13 v418 v471 v472 v497
  let v588 : FVec F S128x256 .f32 ← k0_part13 i arg1 harg1 arg2 harg2 arg3 harg3 arg4 harg4 arg5 harg5 arg6 harg6 arg7 harg7 arg8 harg8 arg9 harg9 arg10 harg10 arg11 harg11 arg12 harg12 arg13 harg13 v418 v471 v472 v541 v542
  let v590 : Vec F S128x256 .bf16 ← Prog.lift (.load arg11 (Rect.unit (s := S1536x256) ![1152, 0] S128x256.size inb_S1536x256_S128x256_1152_0).toLoadRect (View.loadsAt_vmem h_S128x256))
  Prog.lift (.store arg11 (Rect.unit (s := S1536x256) ![1152, 0] S128x256.size inb_S1536x256_S128x256_1152_0) (k0_pay69 v588) Finset.univ (View.stores_vmem h_S128x256 (harg11.storeExact_slice rfl _ packedbf16_S1536x256_S128x256_1152_0) (fun _ => rfl)) (.inl rfl))
  let v602 : Vec F S128x256 .bf16 ← Prog.lift (.load arg11 (Rect.unit (s := S1536x256) ![1280, 0] S128x256.size inb_S1536x256_S128x256_1280_0).toLoadRect (View.loadsAt_vmem h_S128x256))
  Prog.lift (.store arg11 (Rect.unit (s := S1536x256) ![1280, 0] S128x256.size inb_S1536x256_S128x256_1280_0) (k0_pay70 v418 v471 v472) Finset.univ (View.stores_vmem h_S128x256 (harg11.storeExact_slice rfl _ packedbf16_S1536x256_S128x256_1280_0) (fun _ => rfl)) (.inl rfl))
  let v614 : Vec F S128x256 .bf16 ← Prog.lift (.load arg11 (Rect.unit (s := S1536x256) ![1408, 0] S128x256.size inb_S1536x256_S128x256_1408_0).toLoadRect (View.loadsAt_vmem h_S128x256))
  Prog.lift (.store arg11 (Rect.unit (s := S1536x256) ![1408, 0] S128x256.size inb_S1536x256_S128x256_1408_0) (k0_pay71 v418 v471 v472) Finset.univ (View.stores_vmem h_S128x256 (harg11.storeExact_slice rfl _ packedbf16_S1536x256_S128x256_1408_0) (fun _ => rfl)) (.inl rfl))
  let v618 : Vec F S256x128 .bf16 ← Prog.lift (.load arg13 (Rect.unit (s := S256x128) ![0, 0] S256x128.size inb_S256x128_S256x128_0_0).toLoadRect (View.loadsAt_vmem h_S256x128))
  Prog.lift (.store arg13 (Rect.unit (s := S256x128) ![0, 0] S256x128.size inb_S256x128_S256x128_0_0) (k0_pay72 (F := F)) Finset.univ (View.stores_vmem h_S256x128 (harg13.storeExact_slice rfl _ packedbf16_S256x128_S256x128_0_0) (fun _ => rfl)) (.inl rfl))
  pure ⟨⟩

/-- The stores, run. -/
theorem rest_run (c : Dev nD) (E : Set ℕ) (i : grid0.Coords) (arg1 : Memref sig .tc .vmem S6x2x128 .i32) (harg1 : arg1.IsWhole) (arg2 : Memref sig .tc .vmem S6x2x128 .i32) (harg2 : arg2.IsWhole) (arg3 : Memref sig .tc .vmem S16x160 .f32) (harg3 : arg3.IsWhole) (arg4 : Memref sig .tc .vmem S256x512 .bf16) (harg4 : arg4.IsWhole) (arg5 : Memref sig .tc .vmem S1536x512 .fp8e4m3) (harg5 : arg5.IsWhole) (arg6 : Memref sig .tc .vmem S1x160 .f32) (harg6 : arg6.IsWhole) (arg7 : Memref sig .tc .vmem S12x128 .i32) (harg7 : arg7.IsWhole) (arg8 : Memref sig .tc .vmem S12x128 .f32) (harg8 : arg8.IsWhole) (arg9 : Memref sig .tc .vmem S1x168 .i32) (harg9 : arg9.IsWhole) (arg10 : Memref sig .tc .vmem S1x168 .f32) (harg10 : arg10.IsWhole) (arg11 : Memref sig .tc .vmem S1536x256 .bf16) (harg11 : arg11.IsWhole) (arg12 : Memref sig .tc .vmem S168x256 .bf16) (harg12 : arg12.IsWhole) (arg13 : Memref sig .tc .vmem S256x128 .bf16) (harg13 : arg13.IsWhole) (v137 : FVec F S168x256 .bf16) (v164 : IVec S1x160 32) (v192 : FVec F S1x168 .f32) (v413 : FVec F S128x1536 .bf16) (v415 : IVec S96x128 32) (v416 : FVec F S32x1536 .bf16) (cst_151 : FVec F S128x32 .f32) (K : PUnit → sProp 𝕄) :
    iprop((∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg6 fullShare (k0_pay51 (F := F) v164) ∗ owns (c : Thread nD τ) arg7 fullShare (k0_pay53 v415) ∗ owns (c : Thread nD τ) arg8 fullShare (k0_pay54 (F := F) v415) ∗ owns (c : Thread nD τ) arg9 fullShare (k0_pay52 v192) ∗ owns (c : Thread nD τ) arg11 fullShare (View.canon (pieces (F := F) (k0_pay50 (F := F) v413 v416 cst_151))) ∗ owns (c : Thread nD τ) arg12 fullShare (k0_pay55 v137) ∗ owns (c : Thread nD τ) arg13 fullShare (k0_pay72 (F := F))) -∗ K ⟨⟩))
      ⊢ wp frame (wpE (defs₀ (F := F)) Variants.none c none) E (rest i arg1 harg1 arg2 harg2 arg3 harg3 arg4 harg4 arg5 harg5 arg6 harg6 arg7 harg7 arg8 harg8 arg9 harg9 arg10 harg10 arg11 harg11 arg12 harg12 arg13 harg13 v137 v164 v192 v413 v415 v416 cst_151) K := by
  unfold rest
  simp only [k0_part10_eq_skeleton, k0_part11_eq_skeleton, k0_part12_eq_skeleton, k0_part13_eq_skeleton]
  unfold owns
  iintro ⟨⟨%d5, %f5, -, H5⟩, ⟨%d6, %f6, -, H6⟩, ⟨%d7, %f7, -, H7⟩, ⟨%d8, %f8, -, H8⟩, ⟨%ds0, %fs0, -, HS0⟩, ⟨%ds1, %fs1, -, HS1⟩, ⟨%ds2, %fs2, -, HS2⟩, Hk⟩
  sl_exec
  sl_step
  iapply Hk
  isplitl [H5]
  · iexists _; isplitr; swap; · iexact H5
    ipureintro
    exact whole_store (s := S1x160) _ _ _ zz2 _ _
  isplitl [H6]
  · iexists _; isplitr; swap; · iexact H6
    ipureintro
    exact whole_store (s := S12x128) _ _ _ zz2 _ _
  isplitl [H7]
  · iexists _; isplitr; swap; · iexact H7
    ipureintro
    exact whole_store (s := S12x128) _ _ _ zz2 _ _
  isplitl [H8]
  · iexists _; isplitr; swap; · iexact H8
    ipureintro
    exact whole_store (s := S1x168) _ _ _ zz2 _ _
  isplitl [HS0]
  · iexists _; isplitr; swap; · iexact HS0
    ipureintro
    exact View.read_writes_eq_canon _ _ _ (pieces_cover _)
  isplitl [HS1]
  · iexists _; isplitr; swap; · iexact HS1
    ipureintro
    exact whole_store (s := S168x256) _ _ _ zz2 _ _
  iexists _; isplitr; swap; · iexact HS2
  ipureintro
  exact whole_store (s := S256x128) _ _ _ zz2 _ _

end Cert.Kernel.Val

end
-- ==== Proof.WRoute.lean ====
/- The routing step of the kernel, run: what it leaves in every buffer it stores into. -/
module

public import proofs.«01_k».proof.Proof.WParts
public import proofs.«01_k».proof.Proof.WRest

@[expose] public section

set_option maxRecDepth 16384

noncomputable section

namespace Cert.Kernel.Val

open Idealize.ShloMosaic Idealize.ShloMosaic.TcCoe Idealize.ShloMosaic.Tactic
open Idealize.SL Idealize.SL.RA Idealize.SL.BI
open scoped Idealize.SL.BI
open Cert.Kernel.Gen
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- THE ROUTING STEP: from the ids, the words of the weights and the history at `x0`, `x1`, `x2` it leaves each of its outputs and
    scratch buffers at the value named of the three. -/
theorem route (c : Dev nD) (E : Set ℕ) (i : grid0.Coords) (arg1 : Memref sig .tc .vmem S6x2x128 .i32) (harg1 : arg1.IsWhole) (arg2 : Memref sig .tc .vmem S6x2x128 .i32) (harg2 : arg2.IsWhole) (arg3 : Memref sig .tc .vmem S16x160 .f32) (harg3 : arg3.IsWhole) (arg4 : Memref sig .tc .vmem S256x512 .bf16) (harg4 : arg4.IsWhole) (arg5 : Memref sig .tc .vmem S1536x512 .fp8e4m3) (harg5 : arg5.IsWhole) (arg6 : Memref sig .tc .vmem S1x160 .f32) (harg6 : arg6.IsWhole) (arg7 : Memref sig .tc .vmem S12x128 .i32) (harg7 : arg7.IsWhole) (arg8 : Memref sig .tc .vmem S12x128 .f32) (harg8 : arg8.IsWhole) (arg9 : Memref sig .tc .vmem S1x168 .i32) (harg9 : arg9.IsWhole) (arg10 : Memref sig .tc .vmem S1x168 .f32) (harg10 : arg10.IsWhole) (arg11 : Memref sig .tc .vmem S1536x256 .bf16) (harg11 : arg11.IsWhole) (arg12 : Memref sig .tc .vmem S168x256 .bf16) (harg12 : arg12.IsWhole) (arg13 : Memref sig .tc .vmem S256x128 .bf16) (harg13 : arg13.IsWhole)
    (x0 x1 : Vec F S6x2x128 .i32) (x2 : Vec F S16x160 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg6 fullShare (oScale x2) ∗ owns (c : Thread nD τ) arg7 fullShare (oSrc x0 x1 x2) ∗ owns (c : Thread nD τ) arg8 fullShare (oRw x0 x1 x2) ∗ owns (c : Thread nD τ) arg9 fullShare (oOff x0) ∗ owns (c : Thread nD τ) arg11 fullShare (oP x0 x1 x2) ∗ owns (c : Thread nD τ) arg12 fullShare (oMember x0) ∗ owns (c : Thread nD τ) arg13 fullShare (k0_pay72 (F := F))) -∗ K ⟨⟩))
      ⊢ wp frame (wpE (defs₀ (F := F)) Variants.none c none) E (k0_part14 i arg1 harg1 arg2 harg2 arg3 harg3 arg4 harg4 arg5 harg5 arg6 harg6 arg7 harg7 arg8 harg8 arg9 harg9 arg10 harg10 arg11 harg11 arg12 harg12 arg13 harg13) K := by
  rw [k0_part14_eq_skeleton]
  unfold k0_part14_skel
  iintro ⟨H0, H1, H2, H5, H6, H7, H8, HS0, HS1, HS2, Hk⟩
  rw [wp_bind]
  iapply (part1 c E i arg1 harg1 arg2 harg2 arg3 harg3 arg4 harg4 arg5 harg5 arg6 harg6 arg7 harg7 arg8 harg8 arg9 harg9 arg10 harg10 arg11 harg11 arg12 harg12 arg13 harg13 x0 _)
  isplitl [H0]; · iexact H0
  iintro H0
  dsimp only
  rw [wp_bind, k0_part2_eq_skeleton]
  unfold k0_part2_skel
  dsimp only
  sl_step
  dsimp only
  rw [wp_bind]
  iapply (part3 c E i arg1 harg1 arg2 harg2 arg3 harg3 arg4 harg4 arg5 harg5 arg6 harg6 arg7 harg7 arg8 harg8 arg9 harg9 arg10 harg10 arg11 harg11 arg12 harg12 arg13 harg13 (v56 x0) (v61 x0) v62 (v106 x0) (v112 x0) (v114 x0) (Scalar.ofBits .f32 0x3F800000#32) x2 _)
  isplitl [H2]; · iexact H2
  iintro H2
  dsimp only
  rw [wp_bind, k0_part4_eq_skeleton]
  unfold k0_part4_skel
  sl_step
  dsimp only
  rw [wp_bind, k0_part5_eq_skeleton]
  unfold k0_part5_skel
  sl_step
  dsimp only
  rw [wp_bind, k0_part6_eq_skeleton]
  unfold k0_part6_skel
  sl_step
  dsimp only
  rw [wp_bind]
  iapply (part7 c E i arg1 harg1 arg2 harg2 arg3 harg3 arg4 harg4 arg5 harg5 arg6 harg6 arg7 harg7 arg8 harg8 arg9 harg9 arg10 harg10 arg11 harg11 arg12 harg12 arg13 harg13 (v41 x0) (v46 x0) (v51 x0) (v56 x0) (v61 x0) (v230 x0 x2) v231 (v237 x0) (v248 x0) (v264 x0) (v285 x0) v286 (v287 x0) x1 _)
  isplitl [H1]; · iexact H1
  iintro H1
  dsimp only
  rw [wp_bind]
  iapply (part8 c E i arg1 harg1 arg2 harg2 arg3 harg3 arg4 harg4 arg5 harg5 arg6 harg6 arg7 harg7 arg8 harg8 arg9 harg9 arg10 harg10 arg11 harg11 arg12 harg12 arg13 harg13 (v329 x1) x1 _)
  isplitl [H1]; · iexact H1
  iintro H1
  dsimp only
  rw [wp_bind, k0_part9_eq_skeleton]
  unfold k0_part9_skel
  dsimp only
  sl_step
  dsimp only
  iapply (rest_run c E i arg1 harg1 arg2 harg2 arg3 harg3 arg4 harg4 arg5 harg5 arg6 harg6 arg7 harg7 arg8 harg8 arg9 harg9 arg10 harg10 arg11 harg11 arg12 harg12 arg13 harg13 (v137 x0) (v164 x2) (v192 x0) (v413 x0 x2) (v415 x0 x1 x2) (v416 x0 x1 x2) (constant S128x32 .f32 0x00000000#32) K)
  isplitl [H5]; · iexact H5
  isplitl [H6]; · iexact H6
  isplitl [H7]; · iexact H7
  isplitl [H8]; · iexact H8
  isplitl [HS0]; · iexact HS0
  isplitl [HS1]; · iexact HS1
  isplitl [HS2]; · iexact HS2
  iintro ⟨H5, H6, H7, H8, HS0, HS1, HS2⟩
  iapply Hk
  isplitl [H0]; · iexact H0
  isplitl [H1]; · iexact H1
  isplitl [H2]; · iexact H2
  isplitl [H5]; · iexact H5
  isplitl [H6]; · iexact H6
  isplitl [H7]; · iexact H7
  isplitl [H8]; · iexact H8
  isplitl [HS0]; · iexact HS0
  isplitl [HS1]; · iexact HS1
  iexact HS2

end Cert.Kernel.Val

end
-- ==== Proof.WSweep.lean ====
/- The body of the kernel after its routing step, run. -/
module

public import proofs.«01_k».proof.Proof.WRest

@[expose] public section

set_option maxRecDepth 16384

noncomputable section

namespace Cert.Kernel.Val

open Idealize.ShloMosaic Idealize.ShloMosaic.TcCoe Idealize.ShloMosaic.Tactic
open Idealize.SL Idealize.SL.RA Idealize.SL.BI
open scoped Idealize.SL.BI
open Cert.Kernel.Gen
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem ld_whole_S256x512 {e : EltTy} (inb : ∀ a, (![0, 0] : Fin S256x512.rank → ℕ) a + S256x512.size a ≤ S256x512.size a) (X : S256x512.Idx → Elt F e) :
    View.ld (Val := Elt F) X (Rect.unit (s := S256x512) ![0, 0] S256x512.size inb) = X :=
  View.ld_unit_zero (S := S256x512) zz2 inb X
theorem ld_whole_S256x128 {e : EltTy} (inb : ∀ a, (![0, 0] : Fin S256x128.rank → ℕ) a + S256x128.size a ≤ S256x128.size a) (X : S256x128.Idx → Elt F e) :
    View.ld (Val := Elt F) X (Rect.unit (s := S256x128) ![0, 0] S256x128.size inb) = X :=
  View.ld_unit_zero (S := S256x128) zz2 inb X
theorem ld_whole_S1536x256 {e : EltTy} (inb : ∀ a, (![0, 0] : Fin S1536x256.rank → ℕ) a + S1536x256.size a ≤ S1536x256.size a) (X : S1536x256.Idx → Elt F e) :
    View.ld (Val := Elt F) X (Rect.unit (s := S1536x256) ![0, 0] S1536x256.size inb) = X :=
  View.ld_unit_zero (S := S1536x256) zz2 inb X
theorem ld_whole_S168x256 {e : EltTy} (inb : ∀ a, (![0, 0] : Fin S168x256.rank → ℕ) a + S168x256.size a ≤ S168x256.size a) (X : S168x256.Idx → Elt F e) :
    View.ld (Val := Elt F) X (Rect.unit (s := S168x256) ![0, 0] S168x256.size inb) = X :=
  View.ld_unit_zero (S := S168x256) zz2 inb X
theorem readCov_whole_S256x128 (v : View sig .tc .vmem S256x128 .bf16) (inb inb' : ∀ a, (![0, 0] : Fin S256x128.rank → ℕ) a + S256x128.size a ≤ S256x128.size a) (w : S256x128.Idx → Elt F .bf16) :
    v.readCov [(⟨Rect.unit (s := S256x128) ![0, 0] S256x128.size inb, w⟩ : View.Piece (Elt F) S256x128 .bf16)] (Rect.unit (s := S256x128) ![0, 0] S256x128.size inb').toLoadRect = w :=
  View.readCov_unit_zero v zz2 inb w

/-- The body after the routing step: one block of the rows is folded into the running maxima and its codes are stored; at the
    last point the experts' maxima are stored. -/
def sweep (i : grid0.Coords) (arg1 : Memref sig .tc .vmem S6x2x128 .i32) (harg1 : arg1.IsWhole) (arg2 : Memref sig .tc .vmem S6x2x128 .i32) (harg2 : arg2.IsWhole) (arg3 : Memref sig .tc .vmem S16x160 .f32) (harg3 : arg3.IsWhole) (arg4 : Memref sig .tc .vmem S256x512 .bf16) (harg4 : arg4.IsWhole) (arg5 : Memref sig .tc .vmem S1536x512 .fp8e4m3) (harg5 : arg5.IsWhole) (arg6 : Memref sig .tc .vmem S1x160 .f32) (harg6 : arg6.IsWhole) (arg7 : Memref sig .tc .vmem S12x128 .i32) (harg7 : arg7.IsWhole) (arg8 : Memref sig .tc .vmem S12x128 .f32) (harg8 : arg8.IsWhole) (arg9 : Memref sig .tc .vmem S1x168 .i32) (harg9 : arg9.IsWhole) (arg10 : Memref sig .tc .vmem S1x168 .f32) (harg10 : arg10.IsWhole) (arg11 : Memref sig .tc .vmem S1536x256 .bf16) (harg11 : arg11.IsWhole) (arg12 : Memref sig .tc .vmem S168x256 .bf16) (harg12 : arg12.IsWhole) (arg13 : Memref sig .tc .vmem S256x128 .bf16) (harg13 : arg13.IsWhole) :
    Prog (TpuEff nD τ sig (Elt F) Λ₀ .tc) PUnit := do
  let v3 : Vec F S256x512 .bf16 ← Prog.lift (.load arg4 (Rect.unit (s := S256x512) ![0, 0] S256x512.size inb_S256x512_S256x512_0_0).toLoadRect (View.loadsAt_vmem h_S256x512))
  let v5 : Vec F S256x128 .bf16 ← Prog.lift (.load arg13 (Rect.unit (s := S256x128) ![0, 0] S256x128.size inb_S256x128_S256x128_0_0).toLoadRect (View.loadsAt_vmem h_S256x128))
  let v18 : Vec F S256x128 .bf16 ← Prog.lift (.load arg13 (Rect.unit (s := S256x128) ![0, 0] S256x128.size inb_S256x128_S256x128_0_0).toLoadRect (View.loadsAt_vmem h_S256x128))
  Prog.lift (.store arg13 (Rect.unit (s := S256x128) ![0, 0] S256x128.size inb_S256x128_S256x128_0_0) (k0_pay2 v3 v5) Finset.univ (View.stores_vmem h_S256x128 (harg13.storeExact_slice rfl _ packedbf16_S256x128_S256x128_0_0) (fun _ => rfl)) (.inl rfl))
  let v21 : Vec F S1536x256 .bf16 ← Prog.lift (.load arg11 (Rect.unit (s := S1536x256) ![0, 0] S1536x256.size inb_S1536x256_S1536x256_0_0).toLoadRect (View.loadsAt_vmem h_S1536x256))
  let v28 : Vec F S1536x512 .fp8e4m3 ← Prog.lift (.load arg5 (Rect.unit (s := S1536x512) ![0, 0] S1536x512.size inb_S1536x512_S1536x512_0_0).toLoadRect (View.loadsAt_vmem h_S1536x512))
  Prog.lift (.store arg5 (Rect.unit (s := S1536x512) ![0, 0] S1536x512.size inb_S1536x512_S1536x512_0_0) (k0_pay3 v3 v21) Finset.univ (View.stores_vmem h_S1536x512 (harg5.storeExact_slice rfl _ packedfp8e4m3_S1536x512_S1536x512_0_0) (fun _ => rfl)) (.inl rfl))
  if k0_h2 : k0_cond2 i = 1#1 then do
    let v32 : Vec F S256x128 .bf16 ← Prog.lift (.load arg13 (Rect.unit (s := S256x128) ![0, 0] S256x128.size inb_S256x128_S256x128_0_0).toLoadRect (View.loadsAt_vmem h_S256x128))
    let v37 : Vec F S168x256 .bf16 ← Prog.lift (.load arg12 (Rect.unit (s := S168x256) ![0, 0] S168x256.size inb_S168x256_S168x256_0_0).toLoadRect (View.loadsAt_vmem h_S168x256))
    let v54 : Vec F S1x168 .f32 ← Prog.lift (.load arg10 (Rect.unit (s := S1x168) ![0, 0] S1x168.size inb_S1x168_S1x168_0_0).toLoadRect (View.loadsAt_vmem h_S1x168))
    Prog.lift (.store arg10 (Rect.unit (s := S1x168) ![0, 0] S1x168.size inb_S1x168_S1x168_0_0) (k0_pay4 v32 v37) Finset.univ (View.stores_vmem_bits_univ h_S1x168 rfl) (.inl rfl))
    pure ⟨⟩
  else do
    pure ⟨⟩
  pure ⟨⟩

/-- At the first point the body is the routing step and then the sweep. -/
theorem body_first (i : grid0.Coords) (arg1 : Memref sig .tc .vmem S6x2x128 .i32) (harg1 : arg1.IsWhole) (arg2 : Memref sig .tc .vmem S6x2x128 .i32) (harg2 : arg2.IsWhole) (arg3 : Memref sig .tc .vmem S16x160 .f32) (harg3 : arg3.IsWhole) (arg4 : Memref sig .tc .vmem S256x512 .bf16) (harg4 : arg4.IsWhole) (arg5 : Memref sig .tc .vmem S1536x512 .fp8e4m3) (harg5 : arg5.IsWhole) (arg6 : Memref sig .tc .vmem S1x160 .f32) (harg6 : arg6.IsWhole) (arg7 : Memref sig .tc .vmem S12x128 .i32) (harg7 : arg7.IsWhole) (arg8 : Memref sig .tc .vmem S12x128 .f32) (harg8 : arg8.IsWhole) (arg9 : Memref sig .tc .vmem S1x168 .i32) (harg9 : arg9.IsWhole) (arg10 : Memref sig .tc .vmem S1x168 .f32) (harg10 : arg10.IsWhole) (arg11 : Memref sig .tc .vmem S1536x256 .bf16) (harg11 : arg11.IsWhole) (arg12 : Memref sig .tc .vmem S168x256 .bf16) (harg12 : arg12.IsWhole) (arg13 : Memref sig .tc .vmem S256x128 .bf16) (harg13 : arg13.IsWhole) (hc : k0_cond1 i = 1#1) :
    cc0_moe_permute (F := F) i arg1 harg1 arg2 harg2 arg3 harg3 arg4 harg4 arg5 harg5 arg6 harg6 arg7 harg7 arg8 harg8 arg9 harg9 arg10 harg10 arg11 harg11 arg12 harg12 arg13 harg13
      = (k0_part14 (F := F) i arg1 harg1 arg2 harg2 arg3 harg3 arg4 harg4 arg5 harg5 arg6 harg6 arg7 harg7 arg8 harg8 arg9 harg9 arg10 harg10 arg11 harg11 arg12 harg12 arg13 harg13) >>= fun _ => sweep (F := F) i arg1 harg1 arg2 harg2 arg3 harg3 arg4 harg4 arg5 harg5 arg6 harg6 arg7 harg7 arg8 harg8 arg9 harg9 arg10 harg10 arg11 harg11 arg12 harg12 arg13 harg13 := by
  rw [cc0_moe_permute_eq_skeleton]
  unfold cc0_moe_permute_skel
  rw [dif_pos hc]
  show (k0_part14 (F := F) i arg1 harg1 arg2 harg2 arg3 harg3 arg4 harg4 arg5 harg5 arg6 harg6 arg7 harg7 arg8 harg8 arg9 harg9 arg10 harg10 arg11 harg11 arg12 harg12 arg13 harg13 >>= fun _ => Prog.ret PUnit.unit) >>= _ = _
  rw [bind_assoc]
  rfl

/-- At every other point it is the sweep alone. -/
theorem body_other (i : grid0.Coords) (arg1 : Memref sig .tc .vmem S6x2x128 .i32) (harg1 : arg1.IsWhole) (arg2 : Memref sig .tc .vmem S6x2x128 .i32) (harg2 : arg2.IsWhole) (arg3 : Memref sig .tc .vmem S16x160 .f32) (harg3 : arg3.IsWhole) (arg4 : Memref sig .tc .vmem S256x512 .bf16) (harg4 : arg4.IsWhole) (arg5 : Memref sig .tc .vmem S1536x512 .fp8e4m3) (harg5 : arg5.IsWhole) (arg6 : Memref sig .tc .vmem S1x160 .f32) (harg6 : arg6.IsWhole) (arg7 : Memref sig .tc .vmem S12x128 .i32) (harg7 : arg7.IsWhole) (arg8 : Memref sig .tc .vmem S12x128 .f32) (harg8 : arg8.IsWhole) (arg9 : Memref sig .tc .vmem S1x168 .i32) (harg9 : arg9.IsWhole) (arg10 : Memref sig .tc .vmem S1x168 .f32) (harg10 : arg10.IsWhole) (arg11 : Memref sig .tc .vmem S1536x256 .bf16) (harg11 : arg11.IsWhole) (arg12 : Memref sig .tc .vmem S168x256 .bf16) (harg12 : arg12.IsWhole) (arg13 : Memref sig .tc .vmem S256x128 .bf16) (harg13 : arg13.IsWhole) (hc : ¬ k0_cond1 i = 1#1) :
    cc0_moe_permute (F := F) i arg1 harg1 arg2 harg2 arg3 harg3 arg4 harg4 arg5 harg5 arg6 harg6 arg7 harg7 arg8 harg8 arg9 harg9 arg10 harg10 arg11 harg11 arg12 harg12 arg13 harg13 = sweep (F := F) i arg1 harg1 arg2 harg2 arg3 harg3 arg4 harg4 arg5 harg5 arg6 harg6 arg7 harg7 arg8 harg8 arg9 harg9 arg10 harg10 arg11 harg11 arg12 harg12 arg13 harg13 := by
  rw [cc0_moe_permute_eq_skeleton]
  unfold cc0_moe_permute_skel
  rw [dif_neg hc]
  rfl

/-- The sweep at a point that is not the last. -/
theorem sweep_mid (c : Dev nD) (E : Set ℕ) (i : grid0.Coords) (arg1 : Memref sig .tc .vmem S6x2x128 .i32) (harg1 : arg1.IsWhole) (arg2 : Memref sig .tc .vmem S6x2x128 .i32) (harg2 : arg2.IsWhole) (arg3 : Memref sig .tc .vmem S16x160 .f32) (harg3 : arg3.IsWhole) (arg4 : Memref sig .tc .vmem S256x512 .bf16) (harg4 : arg4.IsWhole) (arg5 : Memref sig .tc .vmem S1536x512 .fp8e4m3) (harg5 : arg5.IsWhole) (arg6 : Memref sig .tc .vmem S1x160 .f32) (harg6 : arg6.IsWhole) (arg7 : Memref sig .tc .vmem S12x128 .i32) (harg7 : arg7.IsWhole) (arg8 : Memref sig .tc .vmem S12x128 .f32) (harg8 : arg8.IsWhole) (arg9 : Memref sig .tc .vmem S1x168 .i32) (harg9 : arg9.IsWhole) (arg10 : Memref sig .tc .vmem S1x168 .f32) (harg10 : arg10.IsWhole) (arg11 : Memref sig .tc .vmem S1536x256 .bf16) (harg11 : arg11.IsWhole) (arg12 : Memref sig .tc .vmem S168x256 .bf16) (harg12 : arg12.IsWhole) (arg13 : Memref sig .tc .vmem S256x128 .bf16) (harg13 : arg13.IsWhole) (hc : ¬ k0_cond2 i = 1#1)
    (x3 : Vec F S256x512 .bf16) (P : Vec F S1536x256 .bf16) (xs : Vec F S256x128 .bf16) (K : PUnit → sProp 𝕄) :
    iprop(owns (c : Thread nD τ) arg4 fullShare x3 ∗ (∃ d, owns (c : Thread nD τ) arg5 fullShare d) ∗ owns (c : Thread nD τ) arg11 fullShare P ∗ owns (c : Thread nD τ) arg13 fullShare xs
        ∗ (iprop(owns (c : Thread nD τ) arg4 fullShare x3 ∗ owns (c : Thread nD τ) arg5 fullShare (k0_pay3 x3 P) ∗ owns (c : Thread nD τ) arg11 fullShare P ∗ owns (c : Thread nD τ) arg13 fullShare (k0_pay2 x3 xs)) -∗ K ⟨⟩))
      ⊢ wp frame (wpE (defs₀ (F := F)) Variants.none c none) E (sweep i arg1 harg1 arg2 harg2 arg3 harg3 arg4 harg4 arg5 harg5 arg6 harg6 arg7 harg7 arg8 harg8 arg9 harg9 arg10 harg10 arg11 harg11 arg12 harg12 arg13 harg13) K := by
  unfold sweep
  unfold owns
  iintro ⟨⟨%f3, %hf3, H3⟩, ⟨%d4, %f4, -, H4⟩, ⟨%g0, %hg0, HS0⟩, ⟨%g2, %hg2, HS2⟩, Hk⟩
  subst hf3 hg0 hg2
  sl_exec (disch := sl_exact hc)
  sl_step
  iapply Hk
  isplitl [H3]
  · iexists f3; isplitr; · ipureintro; rfl
    iexact H3
  isplitl [H4]
  · iexists _; isplitr; swap; · iexact H4
    ipureintro
    sl_unfold_words
    refine (whole_store (F := F) (s := S1536x512) _ _ _ zz2 _ _).trans ?_
    exact congrArg₂ (k0_pay3 (F := F)) (ld_whole_S256x512 _ _) (ld_whole_S1536x256 _ _)
  isplitl [HS0]
  · iexists g0; isplitr; · ipureintro; rfl
    iexact HS0
  iexists _; isplitr; swap; · iexact HS2
  ipureintro
  sl_unfold_words
  refine (whole_store (F := F) (s := S256x128) _ _ _ zz2 _ _).trans ?_
  exact congrArg₂ (k0_pay2 (F := F)) (ld_whole_S256x512 _ _) (ld_whole_S256x128 _ _)

/-- The sweep at the last point. -/
theorem sweep_last (c : Dev nD) (E : Set ℕ) (i : grid0.Coords) (arg1 : Memref sig .tc .vmem S6x2x128 .i32) (harg1 : arg1.IsWhole) (arg2 : Memref sig .tc .vmem S6x2x128 .i32) (harg2 : arg2.IsWhole) (arg3 : Memref sig .tc .vmem S16x160 .f32) (harg3 : arg3.IsWhole) (arg4 : Memref sig .tc .vmem S256x512 .bf16) (harg4 : arg4.IsWhole) (arg5 : Memref sig .tc .vmem S1536x512 .fp8e4m3) (harg5 : arg5.IsWhole) (arg6 : Memref sig .tc .vmem S1x160 .f32) (harg6 : arg6.IsWhole) (arg7 : Memref sig .tc .vmem S12x128 .i32) (harg7 : arg7.IsWhole) (arg8 : Memref sig .tc .vmem S12x128 .f32) (harg8 : arg8.IsWhole) (arg9 : Memref sig .tc .vmem S1x168 .i32) (harg9 : arg9.IsWhole) (arg10 : Memref sig .tc .vmem S1x168 .f32) (harg10 : arg10.IsWhole) (arg11 : Memref sig .tc .vmem S1536x256 .bf16) (harg11 : arg11.IsWhole) (arg12 : Memref sig .tc .vmem S168x256 .bf16) (harg12 : arg12.IsWhole) (arg13 : Memref sig .tc .vmem S256x128 .bf16) (harg13 : arg13.IsWhole) (hc : k0_cond2 i = 1#1)
    (x3 : Vec F S256x512 .bf16) (P : Vec F S1536x256 .bf16) (M : Vec F S168x256 .bf16) (xs : Vec F S256x128 .bf16) (K : PUnit → sProp 𝕄) :
    iprop(owns (c : Thread nD τ) arg4 fullShare x3 ∗ (∃ d, owns (c : Thread nD τ) arg5 fullShare d) ∗ (∃ d, owns (c : Thread nD τ) arg10 fullShare d) ∗ owns (c : Thread nD τ) arg11 fullShare P ∗ owns (c : Thread nD τ) arg12 fullShare M ∗ owns (c : Thread nD τ) arg13 fullShare xs
        ∗ (iprop(owns (c : Thread nD τ) arg4 fullShare x3 ∗ owns (c : Thread nD τ) arg5 fullShare (k0_pay3 x3 P) ∗ owns (c : Thread nD τ) arg10 fullShare (k0_pay4 (k0_pay2 x3 xs) M) ∗ owns (c : Thread nD τ) arg11 fullShare P ∗ owns (c : Thread nD τ) arg12 fullShare M ∗ owns (c : Thread nD τ) arg13 fullShare (k0_pay2 x3 xs)) -∗ K ⟨⟩))
      ⊢ wp frame (wpE (defs₀ (F := F)) Variants.none c none) E (sweep i arg1 harg1 arg2 harg2 arg3 harg3 arg4 harg4 arg5 harg5 arg6 harg6 arg7 harg7 arg8 harg8 arg9 harg9 arg10 harg10 arg11 harg11 arg12 harg12 arg13 harg13) K := by
  unfold sweep
  unfold owns
  iintro ⟨⟨%f3, %hf3, H3⟩, ⟨%d4, %f4, -, H4⟩, ⟨%d9, %f9, -, H9⟩, ⟨%g0, %hg0, HS0⟩, ⟨%g1, %hg1, HS1⟩, ⟨%g2, %hg2, HS2⟩, Hk⟩
  subst hf3 hg0 hg1 hg2
  sl_exec (disch := sl_exact hc)
  sl_step
  iapply Hk
  isplitl [H3]
  · iexists f3; isplitr; · ipureintro; rfl
    iexact H3
  isplitl [H4]
  · iexists _; isplitr; swap; · iexact H4
    ipureintro
    sl_unfold_words
    refine (whole_store (F := F) (s := S1536x512) _ _ _ zz2 _ _).trans ?_
    exact congrArg₂ (k0_pay3 (F := F)) (ld_whole_S256x512 _ _) (ld_whole_S1536x256 _ _)
  isplitl [H9]
  · iexists _; isplitr; swap; · iexact H9
    ipureintro
    sl_unfold_words
    refine (whole_store (F := F) (s := S1x168) _ _ _ zz2 _ _).trans ?_
    exact congrArg₂ (k0_pay4 (F := F)) ((readCov_whole_S256x128 _ _ _ _).trans
      (congrArg₂ (k0_pay2 (F := F)) (ld_whole_S256x512 _ _) (ld_whole_S256x128 _ _))) (ld_whole_S168x256 _ _)
  isplitl [HS0]
  · iexists g0; isplitr; · ipureintro; rfl
    iexact HS0
  isplitl [HS1]
  · iexists g1; isplitr; · ipureintro; rfl
    iexact HS1
  iexists _; isplitr; swap; · iexact HS2
  ipureintro
  sl_unfold_words
  refine (whole_store (F := F) (s := S256x128) _ _ _ zz2 _ _).trans ?_
  exact congrArg₂ (k0_pay2 (F := F)) (ld_whole_S256x512 _ _) (ld_whole_S256x128 _ _)

end Cert.Kernel.Val

end
-- ==== Proof.WBody.lean ====
/- The kernel on the grid: what each point finds and leaves, and the launch. -/
module

public import proofs.«01_k».proof.Proof.WRoute
public import proofs.«01_k».proof.Proof.WSweep

@[expose] public section

set_option maxRecDepth 16384

noncomputable section

namespace Cert.Kernel.Val

open Idealize.ShloMosaic Idealize.ShloMosaic.TcCoe Idealize.ShloMosaic.Tactic
open Idealize.SL Idealize.SL.RA Idealize.SL.BI
open scoped Idealize.SL.BI
open Cert.Kernel.Gen
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Where the body branches and where the windows are idle -/

/-- The routing step runs at the first point only. -/
theorem hcond1 : ∀ t : Fin cfg0.N, k0_cond1 (grid0.coords t) = 1#1 ↔ t.val = 0 :=
  (fun t => by
    have ht : t.val < 10 := Nat.lt_of_lt_of_eq t.isLt N_0
    have e0 : (grid0.coords t 0).val = t.val / 1 % 10 := Pipeline.Grid.coords_val t 0 (by decide) rfl
    simp only [k0_cond1, e0]
    word_cmp
   : ∀ t : Fin grid0.N, k0_cond1 (grid0.coords t) = 1#1 ↔ t.val = 0)

/-- The experts' maxima are written at the last point only. -/
theorem hcond2 : ∀ t : Fin cfg0.N, k0_cond2 (grid0.coords t) = 1#1 ↔ t.val = 9 :=
  (fun t => by
    have ht : t.val < 10 := Nat.lt_of_lt_of_eq t.isLt N_0
    have e0 : (grid0.coords t 0).val = t.val / 1 % 10 := Pipeline.Grid.coords_val t 0 (by decide) rfl
    simp only [k0_cond2, e0]
    word_cmp
   : ∀ t : Fin grid0.N, k0_cond2 (grid0.coords t) = 1#1 ↔ t.val = 9)

abbrev ms0_0 (t : Fin cfg0.N) : Memref sig .tc .vmem S6x2x128 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S6x2x128 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16x160 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1536x512 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x160 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S12x128 .i32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S12x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x168 .i32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x168 .f32 := win0_9.stage (cfg0.slots t 9)
abbrev hs0_9 (t : Fin cfg0.N) : (ms0_9 t).IsWhole := hstage0_9 ((cfg0.slots t 9).cast nbuf0_9)
abbrev scM0_0 : Memref sig .tc .vmem S1536x256 .bf16 := Memref.whole cc0_scratch0
abbrev scM0_1 : Memref sig .tc .vmem S168x256 .bf16 := Memref.whole cc0_scratch1
abbrev scM0_2 : Memref sig .tc .vmem S256x128 .bf16 := Memref.whole cc0_scratch2

/-- What the region keeps beside the windows, with the scratch buffers as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

variable (m : (ℓ : Loc nD τ sig) → Buf (Elt F) ℓ) (ρ : Dev nD → PrngReg)

/-! ## What the windows are left holding -/

abbrev pt0 : Fin cfg0.N := t0_0
/-- The expert ids, the words of the weights and the history, as the first point finds them. -/
abbrev idsAt (c : Dev nD) : Vec F S6x2x128 .i32 := iblk m c 0 pt0
abbrev wordsAt (c : Dev nD) : Vec F S6x2x128 .i32 := iblk m c 1 pt0
abbrev histAt (c : Dev nD) : Vec F S16x160 .f32 := iblk m c 2 pt0
/-- The permutation matrix and the membership matrix the first point leaves. -/
abbrev permAt (c : Dev nD) : Vec F S1536x256 .bf16 := oP (idsAt m c) (wordsAt m c) (histAt m c)
abbrev memberAt (c : Dev nD) : Vec F S168x256 .bf16 := oMember (F := F) (idsAt m c)
/-- The running maxima after point `n`. -/
def tmAt (c : Dev nD) : (n : ℕ) → n < cfg0.N → Vec F S256x128 .bf16
  | 0, h => k0_pay2 (iblk m c 3 ⟨0, h⟩) (k0_pay72 (F := F))
  | n + 1, h => k0_pay2 (iblk m c 3 ⟨n + 1, h⟩) (tmAt c n (Nat.lt_of_succ_lt h))

/-- The contents after each point (the codes' window at its point, the others once written). -/
abbrev codesAt (c : Dev nD) (t : Fin cfg0.N) : Vec F S1536x512 .fp8e4m3 := k0_pay3 (iblk m c 3 t) (permAt m c)
abbrev scaleAt (c : Dev nD) : Vec F S1x160 .f32 := oScale (histAt m c)
abbrev srcAt (c : Dev nD) : Vec F S12x128 .i32 := oSrc (idsAt m c) (wordsAt m c) (histAt m c)
abbrev rwAt (c : Dev nD) : Vec F S12x128 .f32 := oRw (idsAt m c) (wordsAt m c) (histAt m c)
abbrev offAt (c : Dev nD) : Vec F S1x168 .i32 := oOff (F := F) (idsAt m c)
abbrev amaxAt (c : Dev nD) : Vec F S1x168 .f32 := k0_pay4 (tmAt m c 9 (by rw [show cfg0.N = 10 from N_0]; omega)) (memberAt m c)

/-- The invariant: after a point the scratch holds the two matrices and the running maxima. -/
def PhiS (c : Dev nD) : (n : ℕ) → n ≤ cfg0.N → sProp 𝕄
  | 0, _ => Pipeline.ΦA spec0 c
  | n + 1, hn => iprop(iprop(owns (c : Thread nD τ) scM0_0 fullShare (permAt m c) ∗ owns (c : Thread nD τ) scM0_1 fullShare (memberAt m c) ∗ owns (c : Thread nD τ) scM0_2 fullShare (tmAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (permAt m c) ∗ owns (c : Thread nD τ) scM0_1 fullShare (memberAt m c) ∗ owns (c : Thread nD τ) scM0_2 fullShare (tmAt m c n hn)) ∗ (∃ r, prngReg c r)) := rfl

theorem PhiS_pos (c : Dev nD) (n : ℕ) (h : n ≤ cfg0.N) (hz : n ≠ 0) :
    PhiS m c n h = iprop(iprop(owns (c : Thread nD τ) scM0_0 fullShare (permAt m c) ∗ owns (c : Thread nD τ) scM0_1 fullShare (memberAt m c) ∗ owns (c : Thread nD τ) scM0_2 fullShare (tmAt m c (n - 1) (by omega))) ∗ (∃ r, prngReg c r)) := by
  cases n with
  | zero => exact absurd rfl hz
  | succ n => rfl

theorem tmAt_zero (c : Dev nD) (t : Fin cfg0.N) (hz : t.val = 0) : tmAt m c t.val t.isLt = k0_pay2 (iblk m c 3 t) (k0_pay72 (F := F)) := by
  obtain ⟨n, hn⟩ := t
  cases n with
  | zero => rfl
  | succ n => exact absurd hz (Nat.succ_ne_zero n)

theorem tmAt_pos (c : Dev nD) (t : Fin cfg0.N) (hz : t.val ≠ 0) :
    tmAt m c t.val t.isLt = k0_pay2 (iblk m c 3 t) (tmAt m c (t.val - 1) (by have := t.isLt; omega)) := by
  obtain ⟨n, hn⟩ := t
  cases n with
  | zero => exact absurd rfl hz
  | succ n => rfl

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => codesAt m c t
    | ⟨5, _⟩ => scaleAt m c
    | ⟨6, _⟩ => srcAt m c
    | ⟨7, _⟩ => rwAt m c
    | ⟨8, _⟩ => offAt m c
    | ⟨9, _⟩ => amaxAt m c
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = codesAt m c t := by dsimp only [dats]
theorem after0_5 (c : Dev nD) (t : Fin cfg0.N) : (dats m 0 c).after 5 t = scaleAt m c := by dsimp only [dats]
theorem after0_6 (c : Dev nD) (t : Fin cfg0.N) : (dats m 0 c).after 6 t = srcAt m c := by dsimp only [dats]
theorem after0_7 (c : Dev nD) (t : Fin cfg0.N) : (dats m 0 c).after 7 t = rwAt m c := by dsimp only [dats]
theorem after0_8 (c : Dev nD) (t : Fin cfg0.N) : (dats m 0 c).after 8 t = offAt m c := by dsimp only [dats]
theorem after0_9 (c : Dev nD) (t : Fin cfg0.N) : (dats m 0 c).after 9 t = amaxAt m c := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

theorem idle0_5 (t : Fin cfg0.N) : cfg0.idle 5 (cfg0.grid.coords t) = !(k0_cond1 (grid0.coords t) == 1#1) := rfl
/-- Window 5 keeps through the later points what the first wrote. -/
theorem before0_5 (c : Dev nD) (d) : ∀ (n : ℕ) (h : n + 1 < cfg0.N), (dats m 0 c).before 5 ⟨n + 1, h⟩ d = scaleAt m c := by
  intro n
  induction n with
  | zero =>
    intro h
    rw [Dat.before_of_pos _ _ _ (Nat.succ_ne_zero _) rfl, if_neg (fun hf => by have := (flush0_5 _).mp hf; simp at this)]
    unfold Dat.left
    rw [show cfg0.idle 5 (cfg0.grid.coords ⟨0 + 1 - 1, Nat.lt_of_le_of_lt (Nat.sub_le _ _) h⟩) = false from by
      rw [idle0_5, (hcond1 _).mpr rfl]; rfl]
    rfl
  | succ n ih =>
    intro h
    have hN : cfg0.N = 10 := N_0
    rw [Dat.before_of_pos _ _ _ (Nat.succ_ne_zero _) rfl, if_neg (fun hf => by have := (flush0_5 _).mp hf; simp at this; omega)]
    unfold Dat.left
    rw [show cfg0.idle 5 (cfg0.grid.coords ⟨n + 1 + 1 - 1, Nat.lt_of_le_of_lt (Nat.sub_le _ _) h⟩) = true from by
      rw [idle0_5]
      have : ¬ k0_cond1 (grid0.coords ⟨n + 1 + 1 - 1, Nat.lt_of_le_of_lt (Nat.sub_le _ _) h⟩) = 1#1 := fun e => absurd ((hcond1 _).mp e) (by simp)
      simp only [Bool.not_eq_true', beq_eq_false_iff_ne, ne_eq]; exact this]
    exact ih _

theorem idle0_6 (t : Fin cfg0.N) : cfg0.idle 6 (cfg0.grid.coords t) = !(k0_cond1 (grid0.coords t) == 1#1) := rfl
/-- Window 6 keeps through the later points what the first wrote. -/
theorem before0_6 (c : Dev nD) (d) : ∀ (n : ℕ) (h : n + 1 < cfg0.N), (dats m 0 c).before 6 ⟨n + 1, h⟩ d = srcAt m c := by
  intro n
  induction n with
  | zero =>
    intro h
    rw [Dat.before_of_pos _ _ _ (Nat.succ_ne_zero _) rfl, if_neg (fun hf => by have := (flush0_6 _).mp hf; simp at this)]
    unfold Dat.left
    rw [show cfg0.idle 6 (cfg0.grid.coords ⟨0 + 1 - 1, Nat.lt_of_le_of_lt (Nat.sub_le _ _) h⟩) = false from by
      rw [idle0_6, (hcond1 _).mpr rfl]; rfl]
    rfl
  | succ n ih =>
    intro h
    have hN : cfg0.N = 10 := N_0
    rw [Dat.before_of_pos _ _ _ (Nat.succ_ne_zero _) rfl, if_neg (fun hf => by have := (flush0_6 _).mp hf; simp at this; omega)]
    unfold Dat.left
    rw [show cfg0.idle 6 (cfg0.grid.coords ⟨n + 1 + 1 - 1, Nat.lt_of_le_of_lt (Nat.sub_le _ _) h⟩) = true from by
      rw [idle0_6]
      have : ¬ k0_cond1 (grid0.coords ⟨n + 1 + 1 - 1, Nat.lt_of_le_of_lt (Nat.sub_le _ _) h⟩) = 1#1 := fun e => absurd ((hcond1 _).mp e) (by simp)
      simp only [Bool.not_eq_true', beq_eq_false_iff_ne, ne_eq]; exact this]
    exact ih _

theorem idle0_7 (t : Fin cfg0.N) : cfg0.idle 7 (cfg0.grid.coords t) = !(k0_cond1 (grid0.coords t) == 1#1) := rfl
/-- Window 7 keeps through the later points what the first wrote. -/
theorem before0_7 (c : Dev nD) (d) : ∀ (n : ℕ) (h : n + 1 < cfg0.N), (dats m 0 c).before 7 ⟨n + 1, h⟩ d = rwAt m c := by
  intro n
  induction n with
  | zero =>
    intro h
    rw [Dat.before_of_pos _ _ _ (Nat.succ_ne_zero _) rfl, if_neg (fun hf => by have := (flush0_7 _).mp hf; simp at this)]
    unfold Dat.left
    rw [show cfg0.idle 7 (cfg0.grid.coords ⟨0 + 1 - 1, Nat.lt_of_le_of_lt (Nat.sub_le _ _) h⟩) = false from by
      rw [idle0_7, (hcond1 _).mpr rfl]; rfl]
    rfl
  | succ n ih =>
    intro h
    have hN : cfg0.N = 10 := N_0
    rw [Dat.before_of_pos _ _ _ (Nat.succ_ne_zero _) rfl, if_neg (fun hf => by have := (flush0_7 _).mp hf; simp at this; omega)]
    unfold Dat.left
    rw [show cfg0.idle 7 (cfg0.grid.coords ⟨n + 1 + 1 - 1, Nat.lt_of_le_of_lt (Nat.sub_le _ _) h⟩) = true from by
      rw [idle0_7]
      have : ¬ k0_cond1 (grid0.coords ⟨n + 1 + 1 - 1, Nat.lt_of_le_of_lt (Nat.sub_le _ _) h⟩) = 1#1 := fun e => absurd ((hcond1 _).mp e) (by simp)
      simp only [Bool.not_eq_true', beq_eq_false_iff_ne, ne_eq]; exact this]
    exact ih _

theorem idle0_8 (t : Fin cfg0.N) : cfg0.idle 8 (cfg0.grid.coords t) = !(k0_cond1 (grid0.coords t) == 1#1) := rfl
/-- Window 8 keeps through the later points what the first wrote. -/
theorem before0_8 (c : Dev nD) (d) : ∀ (n : ℕ) (h : n + 1 < cfg0.N), (dats m 0 c).before 8 ⟨n + 1, h⟩ d = offAt m c := by
  intro n
  induction n with
  | zero =>
    intro h
    rw [Dat.before_of_pos _ _ _ (Nat.succ_ne_zero _) rfl, if_neg (fun hf => by have := (flush0_8 _).mp hf; simp at this)]
    unfold Dat.left
    rw [show cfg0.idle 8 (cfg0.grid.coords ⟨0 + 1 - 1, Nat.lt_of_le_of_lt (Nat.sub_le _ _) h⟩) = false from by
      rw [idle0_8, (hcond1 _).mpr rfl]; rfl]
    rfl
  | succ n ih =>
    intro h
    have hN : cfg0.N = 10 := N_0
    rw [Dat.before_of_pos _ _ _ (Nat.succ_ne_zero _) rfl, if_neg (fun hf => by have := (flush0_8 _).mp hf; simp at this; omega)]
    unfold Dat.left
    rw [show cfg0.idle 8 (cfg0.grid.coords ⟨n + 1 + 1 - 1, Nat.lt_of_le_of_lt (Nat.sub_le _ _) h⟩) = true from by
      rw [idle0_8]
      have : ¬ k0_cond1 (grid0.coords ⟨n + 1 + 1 - 1, Nat.lt_of_le_of_lt (Nat.sub_le _ _) h⟩) = 1#1 := fun e => absurd ((hcond1 _).mp e) (by simp)
      simp only [Bool.not_eq_true', beq_eq_false_iff_ne, ne_eq]; exact this]
    exact ih _

theorem idle0_9 (t : Fin cfg0.N) : cfg0.idle 9 (cfg0.grid.coords t) = !(k0_cond2 (grid0.coords t) == 1#1) := rfl

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

theorem leaves0_0 (c : Dev nD) (t : Fin cfg0.N) : (dats m 0 c).leavesExact 0 t = owns (c : Thread nD τ) (ms0_0 t) fullShare (iblk m c 0 t) := by
  unfold Dat.leavesExact; rw [show cfg0.idle 0 (cfg0.grid.coords t) = false from rfl, after0_0]
theorem leaves0_1 (c : Dev nD) (t : Fin cfg0.N) : (dats m 0 c).leavesExact 1 t = owns (c : Thread nD τ) (ms0_1 t) fullShare (iblk m c 1 t) := by
  unfold Dat.leavesExact; rw [show cfg0.idle 1 (cfg0.grid.coords t) = false from rfl, after0_1]
theorem leaves0_2 (c : Dev nD) (t : Fin cfg0.N) : (dats m 0 c).leavesExact 2 t = owns (c : Thread nD τ) (ms0_2 t) fullShare (iblk m c 2 t) := by
  unfold Dat.leavesExact; rw [show cfg0.idle 2 (cfg0.grid.coords t) = false from rfl, after0_2]
theorem leaves0_3 (c : Dev nD) (t : Fin cfg0.N) : (dats m 0 c).leavesExact 3 t = owns (c : Thread nD τ) (ms0_3 t) fullShare (iblk m c 3 t) := by
  unfold Dat.leavesExact; rw [show cfg0.idle 3 (cfg0.grid.coords t) = false from rfl, after0_3]
theorem leaves0_4 (c : Dev nD) (t : Fin cfg0.N) : (dats m 0 c).leavesExact 4 t = owns (c : Thread nD τ) (ms0_4 t) fullShare (codesAt m c t) := by
  unfold Dat.leavesExact; rw [show cfg0.idle 4 (cfg0.grid.coords t) = false from rfl, after0_4]
theorem leaves0_5_first (c : Dev nD) (t : Fin cfg0.N) (hz : t.val = 0) : (dats m 0 c).leavesExact 5 t = owns (c : Thread nD τ) (ms0_5 t) fullShare (scaleAt m c) := by
  unfold Dat.leavesExact; rw [show cfg0.idle 5 (cfg0.grid.coords t) = false from by rw [idle0_5, (hcond1 _).mpr hz]; rfl, after0_5]
theorem leaves0_5_mid (c : Dev nD) (t : Fin cfg0.N) (hz : t.val ≠ 0) (h9 : t.val ≠ 9) : (dats m 0 c).leavesExact 5 t = iprop(∃ d, owns (c : Thread nD τ) (ms0_5 t) fullShare ((dats m 0 c).before 5 t d)) := by
  have hN : t.val < 10 := lt_of_lt_of_eq t.isLt (show cfg0.N = 10 from N_0)
  refine (dats m 0 c).leavesExact_idle 5 t ?_ ?_
  · rw [idle0_5]
    have : ¬ k0_cond1 (grid0.coords t) = 1#1 := fun e => hz ((hcond1 _).mp e)
    simp only [Bool.not_eq_true', beq_eq_false_iff_ne, ne_eq]; exact this
  · exact Bool.eq_false_iff.mpr fun hf => by have := (flush0_5 t).mp hf; omega
theorem leaves0_5_last (c : Dev nD) (t : Fin cfg0.N) (h9 : t.val = 9) : (dats m 0 c).leavesExact 5 t = owns (c : Thread nD τ) (ms0_5 t) fullShare (scaleAt m c) := by
  unfold Dat.leavesExact
  rw [show (cfg0.win 5).flush t = true from (flush0_5 t).mpr (by omega), after0_5]
  cases cfg0.idle 5 (cfg0.grid.coords t) <;> rfl
theorem leaves0_6_first (c : Dev nD) (t : Fin cfg0.N) (hz : t.val = 0) : (dats m 0 c).leavesExact 6 t = owns (c : Thread nD τ) (ms0_6 t) fullShare (srcAt m c) := by
  unfold Dat.leavesExact; rw [show cfg0.idle 6 (cfg0.grid.coords t) = false from by rw [idle0_6, (hcond1 _).mpr hz]; rfl, after0_6]
theorem leaves0_6_mid (c : Dev nD) (t : Fin cfg0.N) (hz : t.val ≠ 0) (h9 : t.val ≠ 9) : (dats m 0 c).leavesExact 6 t = iprop(∃ d, owns (c : Thread nD τ) (ms0_6 t) fullShare ((dats m 0 c).before 6 t d)) := by
  have hN : t.val < 10 := lt_of_lt_of_eq t.isLt (show cfg0.N = 10 from N_0)
  refine (dats m 0 c).leavesExact_idle 6 t ?_ ?_
  · rw [idle0_6]
    have : ¬ k0_cond1 (grid0.coords t) = 1#1 := fun e => hz ((hcond1 _).mp e)
    simp only [Bool.not_eq_true', beq_eq_false_iff_ne, ne_eq]; exact this
  · exact Bool.eq_false_iff.mpr fun hf => by have := (flush0_6 t).mp hf; omega
theorem leaves0_6_last (c : Dev nD) (t : Fin cfg0.N) (h9 : t.val = 9) : (dats m 0 c).leavesExact 6 t = owns (c : Thread nD τ) (ms0_6 t) fullShare (srcAt m c) := by
  unfold Dat.leavesExact
  rw [show (cfg0.win 6).flush t = true from (flush0_6 t).mpr (by omega), after0_6]
  cases cfg0.idle 6 (cfg0.grid.coords t) <;> rfl
theorem leaves0_7_first (c : Dev nD) (t : Fin cfg0.N) (hz : t.val = 0) : (dats m 0 c).leavesExact 7 t = owns (c : Thread nD τ) (ms0_7 t) fullShare (rwAt m c) := by
  unfold Dat.leavesExact; rw [show cfg0.idle 7 (cfg0.grid.coords t) = false from by rw [idle0_7, (hcond1 _).mpr hz]; rfl, after0_7]
theorem leaves0_7_mid (c : Dev nD) (t : Fin cfg0.N) (hz : t.val ≠ 0) (h9 : t.val ≠ 9) : (dats m 0 c).leavesExact 7 t = iprop(∃ d, owns (c : Thread nD τ) (ms0_7 t) fullShare ((dats m 0 c).before 7 t d)) := by
  have hN : t.val < 10 := lt_of_lt_of_eq t.isLt (show cfg0.N = 10 from N_0)
  refine (dats m 0 c).leavesExact_idle 7 t ?_ ?_
  · rw [idle0_7]
    have : ¬ k0_cond1 (grid0.coords t) = 1#1 := fun e => hz ((hcond1 _).mp e)
    simp only [Bool.not_eq_true', beq_eq_false_iff_ne, ne_eq]; exact this
  · exact Bool.eq_false_iff.mpr fun hf => by have := (flush0_7 t).mp hf; omega
theorem leaves0_7_last (c : Dev nD) (t : Fin cfg0.N) (h9 : t.val = 9) : (dats m 0 c).leavesExact 7 t = owns (c : Thread nD τ) (ms0_7 t) fullShare (rwAt m c) := by
  unfold Dat.leavesExact
  rw [show (cfg0.win 7).flush t = true from (flush0_7 t).mpr (by omega), after0_7]
  cases cfg0.idle 7 (cfg0.grid.coords t) <;> rfl
theorem leaves0_8_first (c : Dev nD) (t : Fin cfg0.N) (hz : t.val = 0) : (dats m 0 c).leavesExact 8 t = owns (c : Thread nD τ) (ms0_8 t) fullShare (offAt m c) := by
  unfold Dat.leavesExact; rw [show cfg0.idle 8 (cfg0.grid.coords t) = false from by rw [idle0_8, (hcond1 _).mpr hz]; rfl, after0_8]
theorem leaves0_8_mid (c : Dev nD) (t : Fin cfg0.N) (hz : t.val ≠ 0) (h9 : t.val ≠ 9) : (dats m 0 c).leavesExact 8 t = iprop(∃ d, owns (c : Thread nD τ) (ms0_8 t) fullShare ((dats m 0 c).before 8 t d)) := by
  have hN : t.val < 10 := lt_of_lt_of_eq t.isLt (show cfg0.N = 10 from N_0)
  refine (dats m 0 c).leavesExact_idle 8 t ?_ ?_
  · rw [idle0_8]
    have : ¬ k0_cond1 (grid0.coords t) = 1#1 := fun e => hz ((hcond1 _).mp e)
    simp only [Bool.not_eq_true', beq_eq_false_iff_ne, ne_eq]; exact this
  · exact Bool.eq_false_iff.mpr fun hf => by have := (flush0_8 t).mp hf; omega
theorem leaves0_8_last (c : Dev nD) (t : Fin cfg0.N) (h9 : t.val = 9) : (dats m 0 c).leavesExact 8 t = owns (c : Thread nD τ) (ms0_8 t) fullShare (offAt m c) := by
  unfold Dat.leavesExact
  rw [show (cfg0.win 8).flush t = true from (flush0_8 t).mpr (by omega), after0_8]
  cases cfg0.idle 8 (cfg0.grid.coords t) <;> rfl
theorem leaves0_9_mid (c : Dev nD) (t : Fin cfg0.N) (h9 : t.val ≠ 9) : (dats m 0 c).leavesExact 9 t = iprop(∃ d, owns (c : Thread nD τ) (ms0_9 t) fullShare ((dats m 0 c).before 9 t d)) := by
  have hN : t.val < 10 := lt_of_lt_of_eq t.isLt (show cfg0.N = 10 from N_0)
  refine (dats m 0 c).leavesExact_idle 9 t ?_ ?_
  · rw [idle0_9]
    have : ¬ k0_cond2 (grid0.coords t) = 1#1 := fun e => h9 ((hcond2 _).mp e)
    simp only [Bool.not_eq_true', beq_eq_false_iff_ne, ne_eq]; exact this
  · exact Bool.eq_false_iff.mpr fun hf => by have := (flush0_9 t).mp hf; omega
theorem leaves0_9_last (c : Dev nD) (t : Fin cfg0.N) (h9 : t.val = 9) : (dats m 0 c).leavesExact 9 t = owns (c : Thread nD τ) (ms0_9 t) fullShare (amaxAt m c) := by
  unfold Dat.leavesExact
  rw [show (cfg0.win 9).flush t = true from (flush0_9 t).mpr (by omega), after0_9]
  cases cfg0.idle 9 (cfg0.grid.coords t) <;> rfl

set_option maxHeartbeats 4000000 in
/-- The body at the first point. -/
theorem body_at_first (c : Dev nD) (t : Fin cfg0.N) (hz : t.val = 0) :
    bodyPre m c t ⊢ wp frame (wpE (defs₀ (F := F)) Variants.none c none) Set.univ (bodyAt0 t) (fun _ => bodyPost m c t) := by
  have ht : t = pt0 := Fin.ext hz
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ, tmAt_zero m c t hz]
  rw [leaves0_0, leaves0_1, leaves0_2, leaves0_3, leaves0_4, leaves0_5_first m c t hz, leaves0_6_first m c t hz, leaves0_7_first m c t hz, leaves0_8_first m c t hz, leaves0_9_mid m c t (by omega)]
  rw [PhiS_castSucc m c t, PhiS_zero m c _ _ hz, PhiA0_eq]
  have hA : idsAt m c = iblk m c 0 t := by rw [ht]
  have hB : wordsAt m c = iblk m c 1 t := by rw [ht]
  have hC : histAt m c = iblk m c 2 t := by rw [ht]
  rw [body_first (F := F) (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond1 t).mpr hz), wp_bind]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (route (F := F) c Set.univ (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (idsAt m c) (wordsAt m c) (histAt m c) _)
  rw [hA, hB, hC]
  isplitl [H0]; · iexact H0
  isplitl [H1]; · iexact H1
  isplitl [H2]; · iexact H2
  isplitl [H5]; · iexists _; iexact H5
  isplitl [H6]; · iexists _; iexact H6
  isplitl [H7]; · iexists _; iexact H7
  isplitl [H8]; · iexists _; iexact H8
  isplitl [HS0]; · iexact HS0
  isplitl [HS1]; · iexact HS1
  isplitl [HS2]; · iexact HS2
  iintro ⟨H0, H1, H2, H5, H6, H7, H8, HS0, HS1, HS2⟩
  iapply (sweep_mid (F := F) c Set.univ (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => by have := (hcond2 t).mp h; omega) (iblk m c 3 t) _ _ _)
  isplitl [H3]; · iexact H3
  isplitl [H4]; · iexists _; iexact H4
  isplitl [HS0]; · iexact HS0
  isplitl [HS2]; · iexact HS2
  iintro ⟨H3, H4, HS0, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexists _; iexact H9

set_option maxHeartbeats 4000000 in
/-- The body at a point that is neither the first nor the last. -/
theorem body_at_mid (c : Dev nD) (t : Fin cfg0.N) (hz : t.val ≠ 0) (h9 : t.val ≠ 9) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ, tmAt_pos m c t hz]
  rw [leaves0_0, leaves0_1, leaves0_2, leaves0_3, leaves0_4, leaves0_5_mid m c t hz h9, leaves0_6_mid m c t hz h9, leaves0_7_mid m c t hz h9, leaves0_8_mid m c t hz h9, leaves0_9_mid m c t h9]
  rw [PhiS_castSucc m c t, PhiS_pos m c _ _ hz]
  rw [body_other (F := F) (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => hz ((hcond1 t).mp h))]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sweep_mid (F := F) c Set.univ (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h9 ((hcond2 t).mp h)) (iblk m c 3 t) _ _ _)
  isplitl [H3]; · iexact H3
  isplitl [H4]; · iexists _; iexact H4
  isplitl [HS0]; · iexact HS0
  isplitl [HS2]; · iexact HS2
  iintro ⟨H3, H4, HS0, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  iexists _; iexact H9

set_option maxHeartbeats 4000000 in
/-- The body at the last point. -/
theorem body_at_last (c : Dev nD) (t : Fin cfg0.N) (h9 : t.val = 9) :
    bodyPre m c t ⊢ wp frame (wpE (defs₀ (F := F)) Variants.none c none) Set.univ (bodyAt0 t) (fun _ => bodyPost m c t) := by
  have hz : t.val ≠ 0 := by omega
  have h10 : 8 + 1 < cfg0.N := by rw [show cfg0.N = 10 from N_0]; omega
  have ht : t = ⟨8 + 1, h10⟩ := Fin.ext h9
  unfold bodyPre bodyPost bodyAt0
  simp only [before0_0, before0_1, before0_2, before0_3]
  have b5 : ∀ d, (dats m 0 c).before 5 t d = scaleAt m c := fun d => by rw [ht]; exact before0_5 m c d 8 _
  have b6 : ∀ d, (dats m 0 c).before 6 t d = srcAt m c := fun d => by rw [ht]; exact before0_6 m c d 8 _
  have b7 : ∀ d, (dats m 0 c).before 7 t d = rwAt m c := fun d => by rw [ht]; exact before0_7 m c d 8 _
  have b8 : ∀ d, (dats m 0 c).before 8 t d = offAt m c := fun d => by rw [ht]; exact before0_8 m c d 8 _
  simp only [b5, b6, b7, b8]
  have hamax : amaxAt m c = k0_pay4 (tmAt m c t.val t.isLt) (memberAt m c) := by
    clear b5 b6 b7 b8
    obtain ⟨n, hn⟩ := t
    obtain rfl : n = 9 := h9
    rfl
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4, leaves0_5_last m c t h9, leaves0_6_last m c t h9, leaves0_7_last m c t h9, leaves0_8_last m c t h9, leaves0_9_last m c t h9]
  rw [hamax, tmAt_pos m c t hz]
  rw [PhiS_castSucc m c t, PhiS_pos m c _ _ hz]
  rw [body_other (F := F) (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => hz ((hcond1 t).mp h))]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sweep_last (F := F) c Set.univ (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond2 t).mpr h9) (iblk m c 3 t) _ _ _ _)
  isplitl [H3]; · iexact H3
  isplitl [H4]; · iexists _; iexact H4
  isplitl [H9]; · iexists _; iexact H9
  isplitl [HS0]; · iexact HS0
  isplitl [HS1]; · iexact HS1
  isplitl [HS2]; · iexact HS2
  iintro ⟨H3, H4, H9, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem sound_body (c : Dev nD) (t : Fin cfg0.N) :
    bodyPre m c t ⊢ wp frame (wpE (defs₀ (F := F)) Variants.none c none) Set.univ (bodyAt0 t) (fun _ => bodyPost m c t) := by
  by_cases hz : t.val = 0
  · exact body_at_first m c t hz
  · by_cases h9 : t.val = 9
    · exact body_at_last m c t h9
    · exact body_at_mid m c t hz h9

theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  have hN : cfg0.N = 10 := N_0
  rw [show (dats m 0 c).Φ (Fin.last cfg0.N) = PhiS m c (Fin.last cfg0.N).val (Nat.le_of_lt_succ (Fin.last cfg0.N).isLt) from rfl, PhiS_pos m c _ _ (by rw [Fin.val_last]; omega), PhiA0_eq]
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

set_option backward.isDefEq.respectTransparency.types false in
set_option maxHeartbeats 800000 in
/-- The launch: from any memory every core runs to the end, the buffers at what the proof data and the lines after the
    region say, and every semaphore counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track cfgs (dats m) (0 : Fin 1) launch0 defs₀ Variants.none m ρ main
    (hbody := fun c => (body_obligation m c).loose)
    (hshare := fun c => (dats m 0 c).share_full fun _ => rfl) (howed := fun _ _ => rfl)
    (V₀ := V0 m) (opss := [hostOps1]) (hsub := sfx_sub) (hfresh := sfx_fresh) (hkeep := sfx_keeps)
    (hmain := hmain m Variants.none) (hA := A_eq m) (hin := hin m) (hout := hout m)
    (Q' := _) (hQ' := fun _ h => h)

end Cert.Kernel.Val

end
-- ==== Proof.WRun.lean ====
/- The kernel as compiled runs to the end, leaves its arguments and returns every counter to zero. -/
module

public import proofs.«01_k».proof.Proof.WBody
public import Idealize.ShloMosaic.Lib.StableHlo.Run
public import Idealize.ShloMosaic.Lib.Claim

@[expose] public section

set_option maxRecDepth 16384

noncomputable section

namespace Cert.Kernel.Val

open Idealize.ShloMosaic Idealize.ShloMosaic.TcCoe
open Idealize.SL.Sem
open Cert.Kernel.Gen

variable {F : FTy → Type} [FloatOps F]
variable (m : (ℓ : Loc nD τ sig) → Buf (Elt F) ℓ) (ρ : Dev nD → PrngReg)

/-- The kernel ends with its arguments unchanged and every semaphore counter at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r hr => ⟨fun c =>
      ⟨((hr.1 c).2 main_arg0 (Pipeline.mem_restRefs_of main_arg0 (by decide) (by decide))).trans (W_main_arg0 m (dats m) c),
        ((hr.1 c).2 main_arg1 (Pipeline.mem_restRefs_of main_arg1 (by decide) (by decide))).trans (W_main_arg1 m (dats m) c),
        ((hr.1 c).2 main_arg2 (Pipeline.mem_restRefs_of main_arg2 (by decide) (by decide))).trans (W_main_arg2 m (dats m) c),
        ((hr.1 c).2 main_arg3 (Pipeline.mem_restRefs_of main_arg3 (by decide) (by decide))).trans (W_main_arg3 m (dats m) c)⟩, hr.2⟩)
    (run_main m ρ)

end Cert.Kernel.Val

end
-- ==== Proof.KVals.lean ====
/- What the routing step of the kernel computes, value by value, as functions of its three inputs: the expert ids, the words
   of the weights and the history of maxima. -/
module

public import proofs.«01_k».proof.Proof.Gen.KernelIdeal.Frame
public import proofs.«01_k».proof.Proof.Gen.KernelIdeal.Skeleton

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Cert.KernelIdeal.Gen
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

def i0 (x0 : Vec F S6x2x128 .i32) : Vec F S1x2x128 .i32 :=
  View.ld x0 (Rect.unit (s := S6x2x128) ![0, 0, 0] S1x2x128.size inb_S6x2x128_S1x2x128_0_0_0)

def w0 (x1 : Vec F S6x2x128 .i32) : Vec F S1x2x128 .i32 :=
  View.ld x1 (Rect.unit (s := S6x2x128) ![0, 0, 0] S1x2x128.size inb_S6x2x128_S1x2x128_0_0_0)

def i1 (x0 : Vec F S6x2x128 .i32) : Vec F S1x2x128 .i32 :=
  View.ld x0 (Rect.unit (s := S6x2x128) ![1, 0, 0] S1x2x128.size inb_S6x2x128_S1x2x128_1_0_0)

def w1 (x1 : Vec F S6x2x128 .i32) : Vec F S1x2x128 .i32 :=
  View.ld x1 (Rect.unit (s := S6x2x128) ![1, 0, 0] S1x2x128.size inb_S6x2x128_S1x2x128_1_0_0)

def i2 (x0 : Vec F S6x2x128 .i32) : Vec F S1x2x128 .i32 :=
  View.ld x0 (Rect.unit (s := S6x2x128) ![2, 0, 0] S1x2x128.size inb_S6x2x128_S1x2x128_2_0_0)

def w2 (x1 : Vec F S6x2x128 .i32) : Vec F S1x2x128 .i32 :=
  View.ld x1 (Rect.unit (s := S6x2x128) ![2, 0, 0] S1x2x128.size inb_S6x2x128_S1x2x128_2_0_0)

def i3 (x0 : Vec F S6x2x128 .i32) : Vec F S1x2x128 .i32 :=
  View.ld x0 (Rect.unit (s := S6x2x128) ![3, 0, 0] S1x2x128.size inb_S6x2x128_S1x2x128_3_0_0)

def w3 (x1 : Vec F S6x2x128 .i32) : Vec F S1x2x128 .i32 :=
  View.ld x1 (Rect.unit (s := S6x2x128) ![3, 0, 0] S1x2x128.size inb_S6x2x128_S1x2x128_3_0_0)

def i4 (x0 : Vec F S6x2x128 .i32) : Vec F S1x2x128 .i32 :=
  View.ld x0 (Rect.unit (s := S6x2x128) ![4, 0, 0] S1x2x128.size inb_S6x2x128_S1x2x128_4_0_0)

def w4 (x1 : Vec F S6x2x128 .i32) : Vec F S1x2x128 .i32 :=
  View.ld x1 (Rect.unit (s := S6x2x128) ![4, 0, 0] S1x2x128.size inb_S6x2x128_S1x2x128_4_0_0)

def i5 (x0 : Vec F S6x2x128 .i32) : Vec F S1x2x128 .i32 :=
  View.ld x0 (Rect.unit (s := S6x2x128) ![5, 0, 0] S1x2x128.size inb_S6x2x128_S1x2x128_5_0_0)

def w5 (x1 : Vec F S6x2x128 .i32) : Vec F S1x2x128 .i32 :=
  View.ld x1 (Rect.unit (s := S6x2x128) ![5, 0, 0] S1x2x128.size inb_S6x2x128_S1x2x128_5_0_0)

def v36 (x0 : Vec F S6x2x128 .i32) : IVec S1x256 32 :=
  k0_pay5 (F := F) (i0 x0)

def v41 (x0 : Vec F S6x2x128 .i32) : IVec S1x256 32 :=
  k0_pay6 (F := F) (i1 x0)

def v46 (x0 : Vec F S6x2x128 .i32) : IVec S1x256 32 :=
  k0_pay7 (F := F) (i2 x0)

def v51 (x0 : Vec F S6x2x128 .i32) : IVec S1x256 32 :=
  k0_pay8 (F := F) (i3 x0)

def v56 (x0 : Vec F S6x2x128 .i32) : IVec S1x256 32 :=
  k0_pay9 (F := F) (i4 x0)

def v61 (x0 : Vec F S6x2x128 .i32) : IVec S1x256 32 :=
  k0_pay10 (F := F) (i5 x0)

def v62 : IVec S168x256 32 := iota .tc S168x256 32 [0] iota_S168x256_d0_w32

def v63 : FVec F S168x256 .f32 := k0_pay11

def v64 : FVec F S168x256 .f32 := k0_pay12

def v69 (x0 : Vec F S6x2x128 .i32) : FVec F S168x256 .f32 :=
  k0_pay13 (i0 x0)

def v106 (x0 : Vec F S6x2x128 .i32) : FVec F S168x256 .f32 :=
  k0_pay14 (v41 x0) (v46 x0) (v51 x0) v62 (v63 (F := F)) (v69 x0)

def v112 (x0 : Vec F S6x2x128 .i32) : FVec F S168x256 .f32 :=
  k0_pay15 (v36 x0) (v41 x0) (v46 x0) (v51 x0) v62 (v64 (F := F))

def v114 (x0 : Vec F S6x2x128 .i32) : IVec S168x256 1 :=
  k0_pay16 (v56 x0) v62

/-- Whether some choice of a token is an expert. -/
def v137 (x0 : Vec F S6x2x128 .i32) : FVec F S168x256 .bf16 :=
  k0_pay17 (v61 x0) v62 (v106 x0) (v114 x0) (Scalar.ofBits .f32 0x3F800000#32)

/-- How many choices of a token are an expert. -/
def v138 (x0 : Vec F S6x2x128 .i32) : FVec F S168x256 .bf16 :=
  k0_pay18 (v56 x0) (v61 x0) v62 (v112 x0)

def v139 (x2 : Vec F S16x160 .f32) : Vec F S16x160 .f32 :=
  View.ld x2 (Rect.unit (s := S16x160) ![0, 0] S16x160.size inb_S16x160_S16x160_0_0)

def v158 (x2 : Vec F S16x160 .f32) : IVec S1x160 32 :=
  k0_pay19 (v139 x2)

/-- The scales' exponents. -/
def v164 (x2 : Vec F S16x160 .f32) : IVec S1x160 32 :=
  k0_pay20 (v158 x2)

def v189 (x0 : Vec F S6x2x128 .i32) (x2 : Vec F S16x160 .f32) : FVec F S168x256 .f32 :=
  k0_pay21 (v137 x0) (v138 x0) (v158 x2)

def v192 (x0 : Vec F S6x2x128 .i32) : FVec F S1x168 .f32 :=
  k0_pay22 (v138 x0)

def v198 (x0 : Vec F S6x2x128 .i32) (x2 : Vec F S16x160 .f32) : FVec F S1x256 .f32 :=
  k0_pay23 (v36 x0) v62 (v137 x0) (v138 x0) (v158 x2)

def v202 (x0 : Vec F S6x2x128 .i32) (x2 : Vec F S16x160 .f32) : FVec F S168x256 .f32 :=
  k0_pay24 (v41 x0) v62 (v137 x0) (v138 x0) (v158 x2)

def v230 (x0 : Vec F S6x2x128 .i32) (x2 : Vec F S16x160 .f32) : IVec S1x1536 32 :=
  k0_pay25 (v46 x0) (v51 x0) (v56 x0) (v61 x0) v62 (v189 x0 x2) (v198 x0 x2) (v202 x0 x2)

def v231 : IVec S1x256 32 := k0_pay26

def v237 (x0 : Vec F S6x2x128 .i32) : IVec S1x256 32 :=
  k0_pay27 (v36 x0) (v41 x0)

def v243 (x0 : Vec F S6x2x128 .i32) : IVec S1x256 32 :=
  k0_pay28 (v36 x0) (v46 x0)

def v244 (x0 : Vec F S6x2x128 .i32) : IVec S1x256 1 :=
  k0_pay29 (v41 x0) (v46 x0)

def v248 (x0 : Vec F S6x2x128 .i32) : IVec S1x256 32 :=
  k0_pay30 (v243 x0) (v244 x0) 1#32 0#32

def v264 (x0 : Vec F S6x2x128 .i32) : IVec S1x256 32 :=
  k0_pay31 (v36 x0) (v41 x0) (v46 x0) (v51 x0)

def v285 (x0 : Vec F S6x2x128 .i32) : IVec S1x256 32 :=
  k0_pay32 (v36 x0) (v41 x0) (v46 x0) (v51 x0) (v56 x0)

def v286 : IVec S1x256 32 := k0_pay33

def v287 (x0 : Vec F S6x2x128 .i32) : IVec S1x256 1 :=
  k0_pay34 (v36 x0) (v61 x0)

def v317 (x0 : Vec F S6x2x128 .i32) (x2 : Vec F S16x160 .f32) : IVec S1x1536 32 :=
  k0_pay37 (v41 x0) (v46 x0) (v51 x0) (v56 x0) (v61 x0) (v230 x0 x2) v231 (v237 x0) (v248 x0) (v264 x0) (v285 x0) v286 (v287 x0)

def v319 (x0 : Vec F S6x2x128 .i32) (x2 : Vec F S16x160 .f32) : IVec S1x1536 32 :=
  k0_pay38 (v41 x0) (v46 x0) (v51 x0) (v56 x0) (v61 x0) (v230 x0 x2) v231 (v237 x0) (v248 x0) (v264 x0) (v285 x0) v286 (v287 x0)

def v321 (x0 : Vec F S6x2x128 .i32) (x2 : Vec F S16x160 .f32) : IVec S1x1536 32 :=
  k0_pay39 (v41 x0) (v46 x0) (v51 x0) (v56 x0) (v61 x0) (v230 x0 x2) v231 (v237 x0) (v248 x0) (v264 x0) (v285 x0) v286 (v287 x0)

def v324 : IVec S1x1536 32 := k0_pay40

def v329 (x1 : Vec F S6x2x128 .i32) : IVec S1x256 32 :=
  k0_pay41 (F := F) (w0 x1)

def v355 (x1 : Vec F S6x2x128 .i32) : IVec S1x1536 32 :=
  k0_pay42 (F := F) (v329 x1) (w1 x1) (w2 x1) (w3 x1) (w4 x1) (w5 x1)

def v359 (x1 : Vec F S6x2x128 .i32) : IVec S1x1536 32 :=
  k0_pay43 (F := F) (v329 x1) (w1 x1) (w2 x1) (w3 x1) (w4 x1) (w5 x1)

def v363 (x1 : Vec F S6x2x128 .i32) : IVec S1x1536 32 :=
  k0_pay44 (F := F) (v329 x1) (w1 x1) (w2 x1) (w3 x1) (w4 x1) (w5 x1)

def v367 (x1 : Vec F S6x2x128 .i32) : IVec S1x1536 32 :=
  k0_pay45 (F := F) (v329 x1) (w1 x1) (w2 x1) (w3 x1) (w4 x1) (w5 x1)

def v413 (x0 : Vec F S6x2x128 .i32) (x2 : Vec F S16x160 .f32) : FVec F S128x1536 .bf16 :=
  k0_pay47 (F := F) (v321 x0 x2)

def v415 (x0 : Vec F S6x2x128 .i32) (x1 : Vec F S6x2x128 .i32) (x2 : Vec F S16x160 .f32) : IVec S96x128 32 :=
  k0_pay48 (F := F) (v317 x0 x2) (v319 x0 x2) (v321 x0 x2) v324 (v355 x1) (v359 x1) (v363 x1) (v367 x1) 24#32

def v416 (x0 : Vec F S6x2x128 .i32) (x1 : Vec F S6x2x128 .i32) (x2 : Vec F S16x160 .f32) : FVec F S32x1536 .bf16 :=
  k0_pay49 (F := F) (v317 x0 x2) (v319 x0 x2) v324 (v355 x1) (v359 x1) (v363 x1) (v367 x1) 24#32

def v418 (x0 : Vec F S6x2x128 .i32) (x1 : Vec F S6x2x128 .i32) (x2 : Vec F S16x160 .f32) : IVec S128x32 32 :=
  k0_pay50 (F := F) (v413 x0 x2) (v416 x0 x1 x2) (constant S128x32 .f32 0x00000000#32)

/-- The scales the routing stores. -/
def oScale (x2 : Vec F S16x160 .f32) : FVec F S1x160 .f32 :=
  k0_pay51 (F := F) (v164 x2)

/-- The offsets it stores. -/
def oOff (x0 : Vec F S6x2x128 .i32) : IVec S1x168 32 :=
  k0_pay52 (F := F) (v192 x0)

/-- The source tokens it stores. -/
def oSrc (x0 : Vec F S6x2x128 .i32) (x1 : Vec F S6x2x128 .i32) (x2 : Vec F S16x160 .f32) : IVec S12x128 32 :=
  k0_pay53 (v415 x0 x1 x2)

/-- The row weights it stores. -/
def oRw (x0 : Vec F S6x2x128 .i32) (x1 : Vec F S6x2x128 .i32) (x2 : Vec F S16x160 .f32) : FVec F S12x128 .f32 :=
  k0_pay54 (F := F) (v415 x0 x1 x2)

/-- The membership matrix it keeps. -/
def oMember (x0 : Vec F S6x2x128 .i32) : FVec F S168x256 .bf16 :=
  k0_pay55 (v137 x0)

def v471 (x0 : Vec F S6x2x128 .i32) (x1 : Vec F S6x2x128 .i32) (x2 : Vec F S16x160 .f32) : FVec F S128x16 .f32 :=
  k0_pay56 (F := F) (v418 x0 x1 x2)

def v472 : IVec S128x256 32 := iota .tc S128x256 32 [1] iota_S128x256_d1_w32

def v497 (x0 : Vec F S6x2x128 .i32) (x1 : Vec F S6x2x128 .i32) (x2 : Vec F S16x160 .f32) : IVec S128x1 32 :=
  k0_pay59 (v418 x0 x1 x2)

def v541 (x0 : Vec F S6x2x128 .i32) (x1 : Vec F S6x2x128 .i32) (x2 : Vec F S16x160 .f32) : FVec F S128x256 .bf16 :=
  k0_pay63 (v418 x0 x1 x2) (v471 x0 x1 x2) v472

def v588 (x0 : Vec F S6x2x128 .i32) (x1 : Vec F S6x2x128 .i32) (x2 : Vec F S16x160 .f32) : FVec F S128x256 .f32 :=
  k0_pay68 (v418 x0 x1 x2) (v471 x0 x1 x2) v472

/-- Rows 0 to 127 of the scaled permutation matrix. -/
def p0 (x0 : Vec F S6x2x128 .i32) (x1 : Vec F S6x2x128 .i32) (x2 : Vec F S16x160 .f32) : FVec F S128x256 .bf16 :=
  k0_pay57 (F := F) (v418 x0 x1 x2)

/-- Rows 128 to 255 of the scaled permutation matrix. -/
def p1 (x0 : Vec F S6x2x128 .i32) (x1 : Vec F S6x2x128 .i32) (x2 : Vec F S16x160 .f32) : FVec F S128x256 .bf16 :=
  k0_pay58 (F := F) (v418 x0 x1 x2)

/-- Rows 256 to 383 of the scaled permutation matrix. -/
def p2 (x0 : Vec F S6x2x128 .i32) (x1 : Vec F S6x2x128 .i32) (x2 : Vec F S16x160 .f32) : FVec F S128x256 .bf16 :=
  k0_pay60 (v471 x0 x1 x2) v472 (v497 x0 x1 x2)

/-- Rows 384 to 511 of the scaled permutation matrix. -/
def p3 (x0 : Vec F S6x2x128 .i32) (x1 : Vec F S6x2x128 .i32) (x2 : Vec F S16x160 .f32) : FVec F S128x256 .bf16 :=
  k0_pay61 (v418 x0 x1 x2) (v471 x0 x1 x2) v472

/-- Rows 512 to 639 of the scaled permutation matrix. -/
def p4 (x0 : Vec F S6x2x128 .i32) (x1 : Vec F S6x2x128 .i32) (x2 : Vec F S16x160 .f32) : FVec F S128x256 .bf16 :=
  k0_pay62 (v418 x0 x1 x2) (v471 x0 x1 x2) v472

/-- Rows 640 to 767 of the scaled permutation matrix. -/
def p5 (x0 : Vec F S6x2x128 .i32) (x1 : Vec F S6x2x128 .i32) (x2 : Vec F S16x160 .f32) : FVec F S128x256 .bf16 :=
  k0_pay64 (v541 x0 x1 x2)

/-- Rows 768 to 895 of the scaled permutation matrix. -/
def p6 (x0 : Vec F S6x2x128 .i32) (x1 : Vec F S6x2x128 .i32) (x2 : Vec F S16x160 .f32) : FVec F S128x256 .bf16 :=
  k0_pay65 (v418 x0 x1 x2) (v471 x0 x1 x2) v472

/-- Rows 896 to 1023 of the scaled permutation matrix. -/
def p7 (x0 : Vec F S6x2x128 .i32) (x1 : Vec F S6x2x128 .i32) (x2 : Vec F S16x160 .f32) : FVec F S128x256 .bf16 :=
  k0_pay66 (v418 x0 x1 x2) (v471 x0 x1 x2) v472

/-- Rows 1024 to 1151 of the scaled permutation matrix. -/
def p8 (x0 : Vec F S6x2x128 .i32) (x1 : Vec F S6x2x128 .i32) (x2 : Vec F S16x160 .f32) : FVec F S128x256 .bf16 :=
  k0_pay67 (v418 x0 x1 x2) (v471 x0 x1 x2) v472

/-- Rows 1152 to 1279 of the scaled permutation matrix. -/
def p9 (x0 : Vec F S6x2x128 .i32) (x1 : Vec F S6x2x128 .i32) (x2 : Vec F S16x160 .f32) : FVec F S128x256 .bf16 :=
  k0_pay69 (v588 x0 x1 x2)

/-- Rows 1280 to 1407 of the scaled permutation matrix. -/
def p10 (x0 : Vec F S6x2x128 .i32) (x1 : Vec F S6x2x128 .i32) (x2 : Vec F S16x160 .f32) : FVec F S128x256 .bf16 :=
  k0_pay70 (v418 x0 x1 x2) (v471 x0 x1 x2) v472

/-- Rows 1408 to 1535 of the scaled permutation matrix. -/
def p11 (x0 : Vec F S6x2x128 .i32) (x1 : Vec F S6x2x128 .i32) (x2 : Vec F S16x160 .f32) : FVec F S128x256 .bf16 :=
  k0_pay71 (v418 x0 x1 x2) (v471 x0 x1 x2) v472

/-- The twelve pieces of the scaled permutation matrix, last stored first. -/
def pPieces (x0 : Vec F S6x2x128 .i32) (x1 : Vec F S6x2x128 .i32) (x2 : Vec F S16x160 .f32) : List (View.Piece (Elt F) S1536x256 .bf16) :=
  [⟨(Rect.unit (s := S1536x256) ![1408, 0] S128x256.size inb_S1536x256_S128x256_1408_0), p11 x0 x1 x2⟩,
    ⟨(Rect.unit (s := S1536x256) ![1280, 0] S128x256.size inb_S1536x256_S128x256_1280_0), p10 x0 x1 x2⟩,
    ⟨(Rect.unit (s := S1536x256) ![1152, 0] S128x256.size inb_S1536x256_S128x256_1152_0), p9 x0 x1 x2⟩,
    ⟨(Rect.unit (s := S1536x256) ![1024, 0] S128x256.size inb_S1536x256_S128x256_1024_0), p8 x0 x1 x2⟩,
    ⟨(Rect.unit (s := S1536x256) ![896, 0] S128x256.size inb_S1536x256_S128x256_896_0), p7 x0 x1 x2⟩,
    ⟨(Rect.unit (s := S1536x256) ![768, 0] S128x256.size inb_S1536x256_S128x256_768_0), p6 x0 x1 x2⟩,
    ⟨(Rect.unit (s := S1536x256) ![640, 0] S128x256.size inb_S1536x256_S128x256_640_0), p5 x0 x1 x2⟩,
    ⟨(Rect.unit (s := S1536x256) ![512, 0] S128x256.size inb_S1536x256_S128x256_512_0), p4 x0 x1 x2⟩,
    ⟨(Rect.unit (s := S1536x256) ![384, 0] S128x256.size inb_S1536x256_S128x256_384_0), p3 x0 x1 x2⟩,
    ⟨(Rect.unit (s := S1536x256) ![256, 0] S128x256.size inb_S1536x256_S128x256_256_0), p2 x0 x1 x2⟩,
    ⟨(Rect.unit (s := S1536x256) ![128, 0] S128x256.size inb_S1536x256_S128x256_128_0), p1 x0 x1 x2⟩,
    ⟨(Rect.unit (s := S1536x256) ![0, 0] S128x256.size inb_S1536x256_S128x256_0_0), p0 x0 x1 x2⟩]

/-- The scaled permutation matrix the routing keeps. -/
def oP (x0 : Vec F S6x2x128 .i32) (x1 : Vec F S6x2x128 .i32) (x2 : Vec F S16x160 .f32) : Vec F S1536x256 .bf16 := View.canon (pPieces x0 x1 x2)

end Cert.KernelIdeal.Val

end
-- ==== Proof.KParts.lean ====
/- The parts of the routing step that only read, run. -/
module

public import proofs.«01_k».proof.Proof.KVals
public import Idealize.ShloMosaic.Lib.Pipeline.Value

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Cert.KernelIdeal.Gen
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Part 1 of the routing step reads its input and returns its values. -/
theorem part1 (c : Dev nD) (E : Set ℕ) (i : grid0.Coords) (arg1 : Memref sig .tc .vmem S6x2x128 .i32) (harg1 : arg1.IsWhole) (arg2 : Memref sig .tc .vmem S6x2x128 .i32) (harg2 : arg2.IsWhole) (arg3 : Memref sig .tc .vmem S16x160 .f32) (harg3 : arg3.IsWhole) (arg4 : Memref sig .tc .vmem S256x512 .bf16) (harg4 : arg4.IsWhole) (arg5 : Memref sig .tc .vmem S1536x512 .fp8e4m3) (harg5 : arg5.IsWhole) (arg6 : Memref sig .tc .vmem S1x160 .f32) (harg6 : arg6.IsWhole) (arg7 : Memref sig .tc .vmem S12x128 .i32) (harg7 : arg7.IsWhole) (arg8 : Memref sig .tc .vmem S12x128 .f32) (harg8 : arg8.IsWhole) (arg9 : Memref sig .tc .vmem S1x168 .i32) (harg9 : arg9.IsWhole) (arg10 : Memref sig .tc .vmem S1x168 .f32) (harg10 : arg10.IsWhole) (arg11 : Memref sig .tc .vmem S1536x256 .bf16) (harg11 : arg11.IsWhole) (arg12 : Memref sig .tc .vmem S168x256 .bf16) (harg12 : arg12.IsWhole) (arg13 : Memref sig .tc .vmem S256x128 .bf16) (harg13 : arg13.IsWhole)
    (x0 : Vec F S6x2x128 .i32) (K : _ → sProp 𝕄) :
    iprop(owns (c : Thread nD τ) arg1 fullShare x0 ∗ (owns (c : Thread nD τ) arg1 fullShare x0 -∗ K ⟨k0_pay5 (View.ld x0 (Rect.unit (s := S6x2x128) ![0, 0, 0] S1x2x128.size inb_S6x2x128_S1x2x128_0_0_0)), k0_pay6 (View.ld x0 (Rect.unit (s := S6x2x128) ![1, 0, 0] S1x2x128.size inb_S6x2x128_S1x2x128_1_0_0)), k0_pay7 (View.ld x0 (Rect.unit (s := S6x2x128) ![2, 0, 0] S1x2x128.size inb_S6x2x128_S1x2x128_2_0_0)), k0_pay8 (View.ld x0 (Rect.unit (s := S6x2x128) ![3, 0, 0] S1x2x128.size inb_S6x2x128_S1x2x128_3_0_0)), k0_pay9 (View.ld x0 (Rect.unit (s := S6x2x128) ![4, 0, 0] S1x2x128.size inb_S6x2x128_S1x2x128_4_0_0)), k0_pay10 (View.ld x0 (Rect.unit (s := S6x2x128) ![5, 0, 0] S1x2x128.size inb_S6x2x128_S1x2x128_5_0_0)), (iota .tc S168x256 32 [0] iota_S168x256_d0_w32), k0_pay11 (F := F), k0_pay12 (F := F), k0_pay13 (View.ld x0 (Rect.unit (s := S6x2x128) ![0, 0, 0] S1x2x128.size inb_S6x2x128_S1x2x128_0_0_0))⟩))
      ⊢ wp frame (wpE (defs₀ (F := F)) Variants.none c none) E (k0_part1 (F := F) i arg1 harg1 arg2 harg2 arg3 harg3 arg4 harg4 arg5 harg5 arg6 harg6 arg7 harg7 arg8 harg8 arg9 harg9 arg10 harg10 arg11 harg11 arg12 harg12 arg13 harg13 ) K := by
  rw [k0_part1_eq_skeleton]
  unfold k0_part1_skel
  unfold owns
  iintro ⟨⟨%f0, %hf0, H0⟩, Hk⟩
  subst hf0
  sl_exec
  sl_step
  sl_unfold_words
  simp only [View.readAt_eq_ld]
  iapply Hk
  iexists f0; isplitr; · ipureintro; rfl
  iexact H0

/-- Part 3 of the routing step reads its input and returns its values. -/
theorem part3 (c : Dev nD) (E : Set ℕ) (i : grid0.Coords) (arg1 : Memref sig .tc .vmem S6x2x128 .i32) (harg1 : arg1.IsWhole) (arg2 : Memref sig .tc .vmem S6x2x128 .i32) (harg2 : arg2.IsWhole) (arg3 : Memref sig .tc .vmem S16x160 .f32) (harg3 : arg3.IsWhole) (arg4 : Memref sig .tc .vmem S256x512 .bf16) (harg4 : arg4.IsWhole) (arg5 : Memref sig .tc .vmem S1536x512 .fp8e4m3) (harg5 : arg5.IsWhole) (arg6 : Memref sig .tc .vmem S1x160 .f32) (harg6 : arg6.IsWhole) (arg7 : Memref sig .tc .vmem S12x128 .i32) (harg7 : arg7.IsWhole) (arg8 : Memref sig .tc .vmem S12x128 .f32) (harg8 : arg8.IsWhole) (arg9 : Memref sig .tc .vmem S1x168 .i32) (harg9 : arg9.IsWhole) (arg10 : Memref sig .tc .vmem S1x168 .f32) (harg10 : arg10.IsWhole) (arg11 : Memref sig .tc .vmem S1536x256 .bf16) (harg11 : arg11.IsWhole) (arg12 : Memref sig .tc .vmem S168x256 .bf16) (harg12 : arg12.IsWhole) (arg13 : Memref sig .tc .vmem S256x128 .bf16) (harg13 : arg13.IsWhole) (v56 : IVec S1x256 32) (v61 : IVec S1x256 32) (v62 : IVec S168x256 32) (v106 : FVec F S168x256 .f32) (v112 : FVec F S168x256 .f32) (v114 : IVec S168x256 1) (cst_44 : F .f32)
    (x2 : Vec F S16x160 .f32) (K : _ → sProp 𝕄) :
    iprop(owns (c : Thread nD τ) arg3 fullShare x2 ∗ (owns (c : Thread nD τ) arg3 fullShare x2 -∗ K ⟨k0_pay17 v61 v62 v106 v114 cst_44, k0_pay18 v56 v61 v62 v112, k0_pay19 (View.ld x2 (Rect.unit (s := S16x160) ![0, 0] S16x160.size inb_S16x160_S16x160_0_0))⟩))
      ⊢ wp frame (wpE (defs₀ (F := F)) Variants.none c none) E (k0_part3 (F := F) i arg1 harg1 arg2 harg2 arg3 harg3 arg4 harg4 arg5 harg5 arg6 harg6 arg7 harg7 arg8 harg8 arg9 harg9 arg10 harg10 arg11 harg11 arg12 harg12 arg13 harg13 v56 v61 v62 v106 v112 v114 cst_44) K := by
  rw [k0_part3_eq_skeleton]
  unfold k0_part3_skel
  unfold owns
  iintro ⟨⟨%f0, %hf0, H0⟩, Hk⟩
  subst hf0
  sl_exec
  sl_step
  simp only [View.readAt_eq_ld]
  iapply Hk
  iexists f0; isplitr; · ipureintro; rfl
  iexact H0

/-- Part 7 of the routing step reads its input and returns its values. -/
theorem part7 (c : Dev nD) (E : Set ℕ) (i : grid0.Coords) (arg1 : Memref sig .tc .vmem S6x2x128 .i32) (harg1 : arg1.IsWhole) (arg2 : Memref sig .tc .vmem S6x2x128 .i32) (harg2 : arg2.IsWhole) (arg3 : Memref sig .tc .vmem S16x160 .f32) (harg3 : arg3.IsWhole) (arg4 : Memref sig .tc .vmem S256x512 .bf16) (harg4 : arg4.IsWhole) (arg5 : Memref sig .tc .vmem S1536x512 .fp8e4m3) (harg5 : arg5.IsWhole) (arg6 : Memref sig .tc .vmem S1x160 .f32) (harg6 : arg6.IsWhole) (arg7 : Memref sig .tc .vmem S12x128 .i32) (harg7 : arg7.IsWhole) (arg8 : Memref sig .tc .vmem S12x128 .f32) (harg8 : arg8.IsWhole) (arg9 : Memref sig .tc .vmem S1x168 .i32) (harg9 : arg9.IsWhole) (arg10 : Memref sig .tc .vmem S1x168 .f32) (harg10 : arg10.IsWhole) (arg11 : Memref sig .tc .vmem S1536x256 .bf16) (harg11 : arg11.IsWhole) (arg12 : Memref sig .tc .vmem S168x256 .bf16) (harg12 : arg12.IsWhole) (arg13 : Memref sig .tc .vmem S256x128 .bf16) (harg13 : arg13.IsWhole) (v41 : IVec S1x256 32) (v46 : IVec S1x256 32) (v51 : IVec S1x256 32) (v56 : IVec S1x256 32) (v61 : IVec S1x256 32) (v230 : IVec S1x1536 32) (v231 : IVec S1x256 32) (v237 : IVec S1x256 32) (v248 : IVec S1x256 32) (v264 : IVec S1x256 32) (v285 : IVec S1x256 32) (v286 : IVec S1x256 32) (v287 : IVec S1x256 1)
    (x1 : Vec F S6x2x128 .i32) (K : _ → sProp 𝕄) :
    iprop(owns (c : Thread nD τ) arg2 fullShare x1 ∗ (owns (c : Thread nD τ) arg2 fullShare x1 -∗ K ⟨k0_pay37 v41 v46 v51 v56 v61 v230 v231 v237 v248 v264 v285 v286 v287, k0_pay38 v41 v46 v51 v56 v61 v230 v231 v237 v248 v264 v285 v286 v287, k0_pay39 v41 v46 v51 v56 v61 v230 v231 v237 v248 v264 v285 v286 v287, k0_pay40, k0_pay41 (View.ld x1 (Rect.unit (s := S6x2x128) ![0, 0, 0] S1x2x128.size inb_S6x2x128_S1x2x128_0_0_0))⟩))
      ⊢ wp frame (wpE (defs₀ (F := F)) Variants.none c none) E (k0_part7 (F := F) i arg1 harg1 arg2 harg2 arg3 harg3 arg4 harg4 arg5 harg5 arg6 harg6 arg7 harg7 arg8 harg8 arg9 harg9 arg10 harg10 arg11 harg11 arg12 harg12 arg13 harg13 v41 v46 v51 v56 v61 v230 v231 v237 v248 v264 v285 v286 v287) K := by
  rw [k0_part7_eq_skeleton]
  unfold k0_part7_skel
  unfold owns
  iintro ⟨⟨%f0, %hf0, H0⟩, Hk⟩
  subst hf0
  sl_exec
  sl_step
  simp only [View.readAt_eq_ld]
  iapply Hk
  iexists f0; isplitr; · ipureintro; rfl
  iexact H0

/-- Part 8 of the routing step reads its input and returns its values. -/
theorem part8 (c : Dev nD) (E : Set ℕ) (i : grid0.Coords) (arg1 : Memref sig .tc .vmem S6x2x128 .i32) (harg1 : arg1.IsWhole) (arg2 : Memref sig .tc .vmem S6x2x128 .i32) (harg2 : arg2.IsWhole) (arg3 : Memref sig .tc .vmem S16x160 .f32) (harg3 : arg3.IsWhole) (arg4 : Memref sig .tc .vmem S256x512 .bf16) (harg4 : arg4.IsWhole) (arg5 : Memref sig .tc .vmem S1536x512 .fp8e4m3) (harg5 : arg5.IsWhole) (arg6 : Memref sig .tc .vmem S1x160 .f32) (harg6 : arg6.IsWhole) (arg7 : Memref sig .tc .vmem S12x128 .i32) (harg7 : arg7.IsWhole) (arg8 : Memref sig .tc .vmem S12x128 .f32) (harg8 : arg8.IsWhole) (arg9 : Memref sig .tc .vmem S1x168 .i32) (harg9 : arg9.IsWhole) (arg10 : Memref sig .tc .vmem S1x168 .f32) (harg10 : arg10.IsWhole) (arg11 : Memref sig .tc .vmem S1536x256 .bf16) (harg11 : arg11.IsWhole) (arg12 : Memref sig .tc .vmem S168x256 .bf16) (harg12 : arg12.IsWhole) (arg13 : Memref sig .tc .vmem S256x128 .bf16) (harg13 : arg13.IsWhole) (v329 : IVec S1x256 32)
    (x1 : Vec F S6x2x128 .i32) (K : _ → sProp 𝕄) :
    iprop(owns (c : Thread nD τ) arg2 fullShare x1 ∗ (owns (c : Thread nD τ) arg2 fullShare x1 -∗ K ⟨k0_pay42 v329 (View.ld x1 (Rect.unit (s := S6x2x128) ![1, 0, 0] S1x2x128.size inb_S6x2x128_S1x2x128_1_0_0)) (View.ld x1 (Rect.unit (s := S6x2x128) ![2, 0, 0] S1x2x128.size inb_S6x2x128_S1x2x128_2_0_0)) (View.ld x1 (Rect.unit (s := S6x2x128) ![3, 0, 0] S1x2x128.size inb_S6x2x128_S1x2x128_3_0_0)) (View.ld x1 (Rect.unit (s := S6x2x128) ![4, 0, 0] S1x2x128.size inb_S6x2x128_S1x2x128_4_0_0)) (View.ld x1 (Rect.unit (s := S6x2x128) ![5, 0, 0] S1x2x128.size inb_S6x2x128_S1x2x128_5_0_0)), k0_pay43 v329 (View.ld x1 (Rect.unit (s := S6x2x128) ![1, 0, 0] S1x2x128.size inb_S6x2x128_S1x2x128_1_0_0)) (View.ld x1 (Rect.unit (s := S6x2x128) ![2, 0, 0] S1x2x128.size inb_S6x2x128_S1x2x128_2_0_0)) (View.ld x1 (Rect.unit (s := S6x2x128) ![3, 0, 0] S1x2x128.size inb_S6x2x128_S1x2x128_3_0_0)) (View.ld x1 (Rect.unit (s := S6x2x128) ![4, 0, 0] S1x2x128.size inb_S6x2x128_S1x2x128_4_0_0)) (View.ld x1 (Rect.unit (s := S6x2x128) ![5, 0, 0] S1x2x128.size inb_S6x2x128_S1x2x128_5_0_0)), k0_pay44 v329 (View.ld x1 (Rect.unit (s := S6x2x128) ![1, 0, 0] S1x2x128.size inb_S6x2x128_S1x2x128_1_0_0)) (View.ld x1 (Rect.unit (s := S6x2x128) ![2, 0, 0] S1x2x128.size inb_S6x2x128_S1x2x128_2_0_0)) (View.ld x1 (Rect.unit (s := S6x2x128) ![3, 0, 0] S1x2x128.size inb_S6x2x128_S1x2x128_3_0_0)) (View.ld x1 (Rect.unit (s := S6x2x128) ![4, 0, 0] S1x2x128.size inb_S6x2x128_S1x2x128_4_0_0)) (View.ld x1 (Rect.unit (s := S6x2x128) ![5, 0, 0] S1x2x128.size inb_S6x2x128_S1x2x128_5_0_0)), k0_pay45 v329 (View.ld x1 (Rect.unit (s := S6x2x128) ![1, 0, 0] S1x2x128.size inb_S6x2x128_S1x2x128_1_0_0)) (View.ld x1 (Rect.unit (s := S6x2x128) ![2, 0, 0] S1x2x128.size inb_S6x2x128_S1x2x128_2_0_0)) (View.ld x1 (Rect.unit (s := S6x2x128) ![3, 0, 0] S1x2x128.size inb_S6x2x128_S1x2x128_3_0_0)) (View.ld x1 (Rect.unit (s := S6x2x128) ![4, 0, 0] S1x2x128.size inb_S6x2x128_S1x2x128_4_0_0)) (View.ld x1 (Rect.unit (s := S6x2x128) ![5, 0, 0] S1x2x128.size inb_S6x2x128_S1x2x128_5_0_0)), 24#32⟩))
      ⊢ wp frame (wpE (defs₀ (F := F)) Variants.none c none) E (k0_part8 (F := F) i arg1 harg1 arg2 harg2 arg3 harg3 arg4 harg4 arg5 harg5 arg6 harg6 arg7 harg7 arg8 harg8 arg9 harg9 arg10 harg10 arg11 harg11 arg12 harg12 arg13 harg13 v329) K := by
  rw [k0_part8_eq_skeleton]
  unfold k0_part8_skel
  unfold owns
  iintro ⟨⟨%f0, %hf0, H0⟩, Hk⟩
  subst hf0
  sl_exec
  sl_step
  simp only [View.readAt_eq_ld]
  iapply Hk
  iexists f0; isplitr; · ipureintro; rfl
  iexact H0

end Cert.KernelIdeal.Val

end
-- ==== Proof.KRest.lean ====
/- The stores of the routing step, run. -/
module

public import proofs.«01_k».proof.Proof.KVals
public import Idealize.ShloMosaic.Lib.Pipeline.Value

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Cert.KernelIdeal.Gen
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The pieces of the permutation matrix the routing step stores, last first, of the columns' words. -/
def pieces (v418 : IVec S128x32 32) : List (View.Piece (Elt F) S1536x256 .bf16) :=
  [⟨(Rect.unit (s := S1536x256) ![1408, 0] S128x256.size inb_S1536x256_S128x256_1408_0), k0_pay71 v418 (k0_pay56 (F := F) v418) v472⟩,
    ⟨(Rect.unit (s := S1536x256) ![1280, 0] S128x256.size inb_S1536x256_S128x256_1280_0), k0_pay70 v418 (k0_pay56 (F := F) v418) v472⟩,
    ⟨(Rect.unit (s := S1536x256) ![1152, 0] S128x256.size inb_S1536x256_S128x256_1152_0), k0_pay69 (k0_pay68 v418 (k0_pay56 (F := F) v418) v472)⟩,
    ⟨(Rect.unit (s := S1536x256) ![1024, 0] S128x256.size inb_S1536x256_S128x256_1024_0), k0_pay67 v418 (k0_pay56 (F := F) v418) v472⟩,
    ⟨(Rect.unit (s := S1536x256) ![896, 0] S128x256.size inb_S1536x256_S128x256_896_0), k0_pay66 v418 (k0_pay56 (F := F) v418) v472⟩,
    ⟨(Rect.unit (s := S1536x256) ![768, 0] S128x256.size inb_S1536x256_S128x256_768_0), k0_pay65 v418 (k0_pay56 (F := F) v418) v472⟩,
    ⟨(Rect.unit (s := S1536x256) ![640, 0] S128x256.size inb_S1536x256_S128x256_640_0), k0_pay64 (k0_pay63 v418 (k0_pay56 (F := F) v418) v472)⟩,
    ⟨(Rect.unit (s := S1536x256) ![512, 0] S128x256.size inb_S1536x256_S128x256_512_0), k0_pay62 v418 (k0_pay56 (F := F) v418) v472⟩,
    ⟨(Rect.unit (s := S1536x256) ![384, 0] S128x256.size inb_S1536x256_S128x256_384_0), k0_pay61 v418 (k0_pay56 (F := F) v418) v472⟩,
    ⟨(Rect.unit (s := S1536x256) ![256, 0] S128x256.size inb_S1536x256_S128x256_256_0), k0_pay60 (k0_pay56 (F := F) v418) v472 (k0_pay59 v418)⟩,
    ⟨(Rect.unit (s := S1536x256) ![128, 0] S128x256.size inb_S1536x256_S128x256_128_0), k0_pay58 (F := F) v418⟩,
    ⟨(Rect.unit (s := S1536x256) ![0, 0] S128x256.size inb_S1536x256_S128x256_0_0), k0_pay57 (F := F) v418⟩]

/-- An index of the kept permutation matrix lies in one of its twelve pieces. -/
theorem pieces_cover (v418 : IVec S128x32 32) (y : S1536x256.Idx) : ∃ pc ∈ pieces (F := F) v418, y ∈ pc.1.set :=
  View.cover_of_tiledL (pieces v418) S128x256.size (by sl_kernel_rfl) y

/-- What the stores of the whole of a buffer leave in it. -/
theorem whole_store {sp : Space} {s : Shape} {e : EltTy} (v : View sig .tc sp s e) (f : v.ty.Contents (Elt F)) (off : Fin s.rank → ℕ) (h : off = fun _ => 0)
    (inb : ∀ a, off a + s.size a ≤ s.size a) (w : s.Idx → Elt F e) :
    v.read (Elt F) (v.writes (Elt F) f [(⟨Rect.unit off s.size inb, w⟩ : View.Piece (Elt F) s e)]) = w :=
  (View.read_writes_eq_canon v f _ (fun y => ⟨_, List.mem_singleton_self _, View.mem_set_unit_zero h inb y⟩)).trans (View.canon_unit_zero h inb w)

theorem zz2 : (![0, 0] : Fin 2 → ℕ) = fun _ => 0 := funext fun a => by fin_cases a <;> rfl

/-- The routing step from its tenth part on: the stores. -/
def rest (i : grid0.Coords) (arg1 : Memref sig .tc .vmem S6x2x128 .i32) (harg1 : arg1.IsWhole) (arg2 : Memref sig .tc .vmem S6x2x128 .i32) (harg2 : arg2.IsWhole) (arg3 : Memref sig .tc .vmem S16x160 .f32) (harg3 : arg3.IsWhole) (arg4 : Memref sig .tc .vmem S256x512 .bf16) (harg4 : arg4.IsWhole) (arg5 : Memref sig .tc .vmem S1536x512 .fp8e4m3) (harg5 : arg5.IsWhole) (arg6 : Memref sig .tc .vmem S1x160 .f32) (harg6 : arg6.IsWhole) (arg7 : Memref sig .tc .vmem S12x128 .i32) (harg7 : arg7.IsWhole) (arg8 : Memref sig .tc .vmem S12x128 .f32) (harg8 : arg8.IsWhole) (arg9 : Memref sig .tc .vmem S1x168 .i32) (harg9 : arg9.IsWhole) (arg10 : Memref sig .tc .vmem S1x168 .f32) (harg10 : arg10.IsWhole) (arg11 : Memref sig .tc .vmem S1536x256 .bf16) (harg11 : arg11.IsWhole) (arg12 : Memref sig .tc .vmem S168x256 .bf16) (harg12 : arg12.IsWhole) (arg13 : Memref sig .tc .vmem S256x128 .bf16) (harg13 : arg13.IsWhole) (v137 : FVec F S168x256 .bf16) (v164 : IVec S1x160 32) (v192 : FVec F S1x168 .f32) (v413 : FVec F S128x1536 .bf16) (v415 : IVec S96x128 32) (v416 : FVec F S32x1536 .bf16) (cst_151 : FVec F S128x32 .f32) :
    Prog (TpuEff nD τ sig (Elt F) Λ₀ .tc) PUnit := do
  let ⟨v418, v453⟩ : Σ' (v418 : IVec S128x32 32), Vec F S168x256 .bf16 ← k0_part10 i arg1 harg1 arg2 harg2 arg3 harg3 arg4 harg4 arg5 harg5 arg6 harg6 arg7 harg7 arg8 harg8 arg9 harg9 arg10 harg10 arg11 harg11 arg12 harg12 arg13 harg13 v164 v192 v413 v415 v416 cst_151
  let ⟨v471, v472, v497⟩ : Σ' (v471 : FVec F S128x16 .f32) (v472 : IVec S128x256 32), IVec S128x1 32 ← k0_part11 i arg1 harg1 arg2 harg2 arg3 harg3 arg4 harg4 arg5 harg5 arg6 harg6 arg7 harg7 arg8 harg8 arg9 harg9 arg10 harg10 arg11 harg11 arg12 harg12 arg13 harg13 v137 v418 v453
  let ⟨v541, v542⟩ : Σ' (v541 : FVec F S128x256 .bf16), Vec F S128x256 .bf16 ← k0_part12 i arg1 harg1 arg2 harg2 arg3 harg3 arg4 harg4 arg5 harg5 arg6 harg6 arg7 harg7 arg8 harg8 arg9 harg9 arg10 harg10 arg11 harg11 arg12 harg12 arg13 harg13 v418 v471 v472 v497
  let v588 : FVec F S128x256 .f32 ← k0_part13 i arg1 harg1 arg2 harg2 arg3 harg3 arg4 harg4 arg5 harg5 arg6 harg6 arg7 harg7 arg8 harg8 arg9 harg9 arg10 harg10 arg11 harg11 arg12 harg12 arg13 harg13 v418 v471 v472 v541 v542
  let v590 : Vec F S128x256 .bf16 ← Prog.lift (.load arg11 (Rect.unit (s := S1536x256) ![1152, 0] S128x256.size inb_S1536x256_S128x256_1152_0).toLoadRect (View.loadsAt_vmem h_S128x256))
  Prog.lift (.store arg11 (Rect.unit (s := S1536x256) ![1152, 0] S128x256.size inb_S1536x256_S128x256_1152_0) (k0_pay69 v588) Finset.univ (View.stores_vmem h_S128x256 (harg11.storeExact_slice rfl _ packedbf16_S1536x256_S128x256_1152_0) (fun _ => rfl)) (.inl rfl))
  let v602 : Vec F S128x256 .bf16 ← Prog.lift (.load arg11 (Rect.unit (s := S1536x256) ![1280, 0] S128x256.size inb_S1536x256_S128x256_1280_0).toLoadRect (View.loadsAt_vmem h_S128x256))
  Prog.lift (.store arg11 (Rect.unit (s := S1536x256) ![1280, 0] S128x256.size inb_S1536x256_S128x256_1280_0) (k0_pay70 v418 v471 v472) Finset.univ (View.stores_vmem h_S128x256 (harg11.storeExact_slice rfl _ packedbf16_S1536x256_S128x256_1280_0) (fun _ => rfl)) (.inl rfl))
  let v614 : Vec F S128x256 .bf16 ← Prog.lift (.load arg11 (Rect.unit (s := S1536x256) ![1408, 0] S128x256.size inb_S1536x256_S128x256_1408_0).toLoadRect (View.loadsAt_vmem h_S128x256))
  Prog.lift (.store arg11 (Rect.unit (s := S1536x256) ![1408, 0] S128x256.size inb_S1536x256_S128x256_1408_0) (k0_pay71 v418 v471 v472) Finset.univ (View.stores_vmem h_S128x256 (harg11.storeExact_slice rfl _ packedbf16_S1536x256_S128x256_1408_0) (fun _ => rfl)) (.inl rfl))
  let v618 : Vec F S256x128 .bf16 ← Prog.lift (.load arg13 (Rect.unit (s := S256x128) ![0, 0] S256x128.size inb_S256x128_S256x128_0_0).toLoadRect (View.loadsAt_vmem h_S256x128))
  Prog.lift (.store arg13 (Rect.unit (s := S256x128) ![0, 0] S256x128.size inb_S256x128_S256x128_0_0) (k0_pay72 (F := F)) Finset.univ (View.stores_vmem h_S256x128 (harg13.storeExact_slice rfl _ packedbf16_S256x128_S256x128_0_0) (fun _ => rfl)) (.inl rfl))
  pure ⟨⟩

/-- The stores, run. -/
theorem rest_run (c : Dev nD) (E : Set ℕ) (i : grid0.Coords) (arg1 : Memref sig .tc .vmem S6x2x128 .i32) (harg1 : arg1.IsWhole) (arg2 : Memref sig .tc .vmem S6x2x128 .i32) (harg2 : arg2.IsWhole) (arg3 : Memref sig .tc .vmem S16x160 .f32) (harg3 : arg3.IsWhole) (arg4 : Memref sig .tc .vmem S256x512 .bf16) (harg4 : arg4.IsWhole) (arg5 : Memref sig .tc .vmem S1536x512 .fp8e4m3) (harg5 : arg5.IsWhole) (arg6 : Memref sig .tc .vmem S1x160 .f32) (harg6 : arg6.IsWhole) (arg7 : Memref sig .tc .vmem S12x128 .i32) (harg7 : arg7.IsWhole) (arg8 : Memref sig .tc .vmem S12x128 .f32) (harg8 : arg8.IsWhole) (arg9 : Memref sig .tc .vmem S1x168 .i32) (harg9 : arg9.IsWhole) (arg10 : Memref sig .tc .vmem S1x168 .f32) (harg10 : arg10.IsWhole) (arg11 : Memref sig .tc .vmem S1536x256 .bf16) (harg11 : arg11.IsWhole) (arg12 : Memref sig .tc .vmem S168x256 .bf16) (harg12 : arg12.IsWhole) (arg13 : Memref sig .tc .vmem S256x128 .bf16) (harg13 : arg13.IsWhole) (v137 : FVec F S168x256 .bf16) (v164 : IVec S1x160 32) (v192 : FVec F S1x168 .f32) (v413 : FVec F S128x1536 .bf16) (v415 : IVec S96x128 32) (v416 : FVec F S32x1536 .bf16) (cst_151 : FVec F S128x32 .f32) (K : PUnit → sProp 𝕄) :
    iprop((∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg6 fullShare (k0_pay51 (F := F) v164) ∗ owns (c : Thread nD τ) arg7 fullShare (k0_pay53 v415) ∗ owns (c : Thread nD τ) arg8 fullShare (k0_pay54 (F := F) v415) ∗ owns (c : Thread nD τ) arg9 fullShare (k0_pay52 v192) ∗ owns (c : Thread nD τ) arg11 fullShare (View.canon (pieces (F := F) (k0_pay50 (F := F) v413 v416 cst_151))) ∗ owns (c : Thread nD τ) arg12 fullShare (k0_pay55 v137) ∗ owns (c : Thread nD τ) arg13 fullShare (k0_pay72 (F := F))) -∗ K ⟨⟩))
      ⊢ wp frame (wpE (defs₀ (F := F)) Variants.none c none) E (rest i arg1 harg1 arg2 harg2 arg3 harg3 arg4 harg4 arg5 harg5 arg6 harg6 arg7 harg7 arg8 harg8 arg9 harg9 arg10 harg10 arg11 harg11 arg12 harg12 arg13 harg13 v137 v164 v192 v413 v415 v416 cst_151) K := by
  unfold rest
  simp only [k0_part10_eq_skeleton, k0_part11_eq_skeleton, k0_part12_eq_skeleton, k0_part13_eq_skeleton]
  unfold owns
  iintro ⟨⟨%d5, %f5, -, H5⟩, ⟨%d6, %f6, -, H6⟩, ⟨%d7, %f7, -, H7⟩, ⟨%d8, %f8, -, H8⟩, ⟨%ds0, %fs0, -, HS0⟩, ⟨%ds1, %fs1, -, HS1⟩, ⟨%ds2, %fs2, -, HS2⟩, Hk⟩
  sl_exec
  sl_step
  iapply Hk
  isplitl [H5]
  · iexists _; isplitr; swap; · iexact H5
    ipureintro
    exact whole_store (s := S1x160) _ _ _ zz2 _ _
  isplitl [H6]
  · iexists _; isplitr; swap; · iexact H6
    ipureintro
    exact whole_store (s := S12x128) _ _ _ zz2 _ _
  isplitl [H7]
  · iexists _; isplitr; swap; · iexact H7
    ipureintro
    exact whole_store (s := S12x128) _ _ _ zz2 _ _
  isplitl [H8]
  · iexists _; isplitr; swap; · iexact H8
    ipureintro
    exact whole_store (s := S1x168) _ _ _ zz2 _ _
  isplitl [HS0]
  · iexists _; isplitr; swap; · iexact HS0
    ipureintro
    exact View.read_writes_eq_canon _ _ _ (pieces_cover _)
  isplitl [HS1]
  · iexists _; isplitr; swap; · iexact HS1
    ipureintro
    exact whole_store (s := S168x256) _ _ _ zz2 _ _
  iexists _; isplitr; swap; · iexact HS2
  ipureintro
  exact whole_store (s := S256x128) _ _ _ zz2 _ _

end Cert.KernelIdeal.Val

end
-- ==== Proof.KRoute.lean ====
/- The routing step of the kernel, run: what it leaves in every buffer it stores into. -/
module

public import proofs.«01_k».proof.Proof.KParts
public import proofs.«01_k».proof.Proof.KRest

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Cert.KernelIdeal.Gen
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- THE ROUTING STEP: from the ids, the words of the weights and the history at `x0`, `x1`, `x2` it leaves each of its outputs and
    scratch buffers at the value named of the three. -/
theorem route (c : Dev nD) (E : Set ℕ) (i : grid0.Coords) (arg1 : Memref sig .tc .vmem S6x2x128 .i32) (harg1 : arg1.IsWhole) (arg2 : Memref sig .tc .vmem S6x2x128 .i32) (harg2 : arg2.IsWhole) (arg3 : Memref sig .tc .vmem S16x160 .f32) (harg3 : arg3.IsWhole) (arg4 : Memref sig .tc .vmem S256x512 .bf16) (harg4 : arg4.IsWhole) (arg5 : Memref sig .tc .vmem S1536x512 .fp8e4m3) (harg5 : arg5.IsWhole) (arg6 : Memref sig .tc .vmem S1x160 .f32) (harg6 : arg6.IsWhole) (arg7 : Memref sig .tc .vmem S12x128 .i32) (harg7 : arg7.IsWhole) (arg8 : Memref sig .tc .vmem S12x128 .f32) (harg8 : arg8.IsWhole) (arg9 : Memref sig .tc .vmem S1x168 .i32) (harg9 : arg9.IsWhole) (arg10 : Memref sig .tc .vmem S1x168 .f32) (harg10 : arg10.IsWhole) (arg11 : Memref sig .tc .vmem S1536x256 .bf16) (harg11 : arg11.IsWhole) (arg12 : Memref sig .tc .vmem S168x256 .bf16) (harg12 : arg12.IsWhole) (arg13 : Memref sig .tc .vmem S256x128 .bf16) (harg13 : arg13.IsWhole)
    (x0 x1 : Vec F S6x2x128 .i32) (x2 : Vec F S16x160 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg6 fullShare (oScale x2) ∗ owns (c : Thread nD τ) arg7 fullShare (oSrc x0 x1 x2) ∗ owns (c : Thread nD τ) arg8 fullShare (oRw x0 x1 x2) ∗ owns (c : Thread nD τ) arg9 fullShare (oOff x0) ∗ owns (c : Thread nD τ) arg11 fullShare (oP x0 x1 x2) ∗ owns (c : Thread nD τ) arg12 fullShare (oMember x0) ∗ owns (c : Thread nD τ) arg13 fullShare (k0_pay72 (F := F))) -∗ K ⟨⟩))
      ⊢ wp frame (wpE (defs₀ (F := F)) Variants.none c none) E (k0_part14 i arg1 harg1 arg2 harg2 arg3 harg3 arg4 harg4 arg5 harg5 arg6 harg6 arg7 harg7 arg8 harg8 arg9 harg9 arg10 harg10 arg11 harg11 arg12 harg12 arg13 harg13) K := by
  rw [k0_part14_eq_skeleton]
  unfold k0_part14_skel
  iintro ⟨H0, H1, H2, H5, H6, H7, H8, HS0, HS1, HS2, Hk⟩
  rw [wp_bind]
  iapply (part1 c E i arg1 harg1 arg2 harg2 arg3 harg3 arg4 harg4 arg5 harg5 arg6 harg6 arg7 harg7 arg8 harg8 arg9 harg9 arg10 harg10 arg11 harg11 arg12 harg12 arg13 harg13 x0 _)
  isplitl [H0]; · iexact H0
  iintro H0
  dsimp only
  rw [wp_bind, k0_part2_eq_skeleton]
  unfold k0_part2_skel
  dsimp only
  sl_step
  dsimp only
  rw [wp_bind]
  iapply (part3 c E i arg1 harg1 arg2 harg2 arg3 harg3 arg4 harg4 arg5 harg5 arg6 harg6 arg7 harg7 arg8 harg8 arg9 harg9 arg10 harg10 arg11 harg11 arg12 harg12 arg13 harg13 (v56 x0) (v61 x0) v62 (v106 x0) (v112 x0) (v114 x0) (Scalar.ofBits .f32 0x3F800000#32) x2 _)
  isplitl [H2]; · iexact H2
  iintro H2
  dsimp only
  rw [wp_bind, k0_part4_eq_skeleton]
  unfold k0_part4_skel
  sl_step
  dsimp only
  rw [wp_bind, k0_part5_eq_skeleton]
  unfold k0_part5_skel
  sl_step
  dsimp only
  rw [wp_bind, k0_part6_eq_skeleton]
  unfold k0_part6_skel
  sl_step
  dsimp only
  rw [wp_bind]
  iapply (part7 c E i arg1 harg1 arg2 harg2 arg3 harg3 arg4 harg4 arg5 harg5 arg6 harg6 arg7 harg7 arg8 harg8 arg9 harg9 arg10 harg10 arg11 harg11 arg12 harg12 arg13 harg13 (v41 x0) (v46 x0) (v51 x0) (v56 x0) (v61 x0) (v230 x0 x2) v231 (v237 x0) (v248 x0) (v264 x0) (v285 x0) v286 (v287 x0) x1 _)
  isplitl [H1]; · iexact H1
  iintro H1
  dsimp only
  rw [wp_bind]
  iapply (part8 c E i arg1 harg1 arg2 harg2 arg3 harg3 arg4 harg4 arg5 harg5 arg6 harg6 arg7 harg7 arg8 harg8 arg9 harg9 arg10 harg10 arg11 harg11 arg12 harg12 arg13 harg13 (v329 x1) x1 _)
  isplitl [H1]; · iexact H1
  iintro H1
  dsimp only
  rw [wp_bind, k0_part9_eq_skeleton]
  unfold k0_part9_skel
  dsimp only
  sl_step
  dsimp only
  iapply (rest_run c E i arg1 harg1 arg2 harg2 arg3 harg3 arg4 harg4 arg5 harg5 arg6 harg6 arg7 harg7 arg8 harg8 arg9 harg9 arg10 harg10 arg11 harg11 arg12 harg12 arg13 harg13 (v137 x0) (v164 x2) (v192 x0) (v413 x0 x2) (v415 x0 x1 x2) (v416 x0 x1 x2) (constant S128x32 .f32 0x00000000#32) K)
  isplitl [H5]; · iexact H5
  isplitl [H6]; · iexact H6
  isplitl [H7]; · iexact H7
  isplitl [H8]; · iexact H8
  isplitl [HS0]; · iexact HS0
  isplitl [HS1]; · iexact HS1
  isplitl [HS2]; · iexact HS2
  iintro ⟨H5, H6, H7, H8, HS0, HS1, HS2⟩
  iapply Hk
  isplitl [H0]; · iexact H0
  isplitl [H1]; · iexact H1
  isplitl [H2]; · iexact H2
  isplitl [H5]; · iexact H5
  isplitl [H6]; · iexact H6
  isplitl [H7]; · iexact H7
  isplitl [H8]; · iexact H8
  isplitl [HS0]; · iexact HS0
  isplitl [HS1]; · iexact HS1
  iexact HS2

end Cert.KernelIdeal.Val

end
-- ==== Proof.KSweep.lean ====
/- The body of the kernel after its routing step, run. -/
module

public import proofs.«01_k».proof.Proof.KRest

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Cert.KernelIdeal.Gen
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem ld_whole_S256x512 {e : EltTy} (inb : ∀ a, (![0, 0] : Fin S256x512.rank → ℕ) a + S256x512.size a ≤ S256x512.size a) (X : S256x512.Idx → Elt F e) :
    View.ld (Val := Elt F) X (Rect.unit (s := S256x512) ![0, 0] S256x512.size inb) = X :=
  View.ld_unit_zero (S := S256x512) zz2 inb X
theorem ld_whole_S256x128 {e : EltTy} (inb : ∀ a, (![0, 0] : Fin S256x128.rank → ℕ) a + S256x128.size a ≤ S256x128.size a) (X : S256x128.Idx → Elt F e) :
    View.ld (Val := Elt F) X (Rect.unit (s := S256x128) ![0, 0] S256x128.size inb) = X :=
  View.ld_unit_zero (S := S256x128) zz2 inb X
theorem ld_whole_S1536x256 {e : EltTy} (inb : ∀ a, (![0, 0] : Fin S1536x256.rank → ℕ) a + S1536x256.size a ≤ S1536x256.size a) (X : S1536x256.Idx → Elt F e) :
    View.ld (Val := Elt F) X (Rect.unit (s := S1536x256) ![0, 0] S1536x256.size inb) = X :=
  View.ld_unit_zero (S := S1536x256) zz2 inb X
theorem ld_whole_S168x256 {e : EltTy} (inb : ∀ a, (![0, 0] : Fin S168x256.rank → ℕ) a + S168x256.size a ≤ S168x256.size a) (X : S168x256.Idx → Elt F e) :
    View.ld (Val := Elt F) X (Rect.unit (s := S168x256) ![0, 0] S168x256.size inb) = X :=
  View.ld_unit_zero (S := S168x256) zz2 inb X
theorem readCov_whole_S256x128 (v : View sig .tc .vmem S256x128 .bf16) (inb inb' : ∀ a, (![0, 0] : Fin S256x128.rank → ℕ) a + S256x128.size a ≤ S256x128.size a) (w : S256x128.Idx → Elt F .bf16) :
    v.readCov [(⟨Rect.unit (s := S256x128) ![0, 0] S256x128.size inb, w⟩ : View.Piece (Elt F) S256x128 .bf16)] (Rect.unit (s := S256x128) ![0, 0] S256x128.size inb').toLoadRect = w :=
  View.readCov_unit_zero v zz2 inb w

/-- The body after the routing step: one block of the rows is folded into the running maxima and its codes are stored; at the
    last point the experts' maxima are stored. -/
def sweep (i : grid0.Coords) (arg1 : Memref sig .tc .vmem S6x2x128 .i32) (harg1 : arg1.IsWhole) (arg2 : Memref sig .tc .vmem S6x2x128 .i32) (harg2 : arg2.IsWhole) (arg3 : Memref sig .tc .vmem S16x160 .f32) (harg3 : arg3.IsWhole) (arg4 : Memref sig .tc .vmem S256x512 .bf16) (harg4 : arg4.IsWhole) (arg5 : Memref sig .tc .vmem S1536x512 .fp8e4m3) (harg5 : arg5.IsWhole) (arg6 : Memref sig .tc .vmem S1x160 .f32) (harg6 : arg6.IsWhole) (arg7 : Memref sig .tc .vmem S12x128 .i32) (harg7 : arg7.IsWhole) (arg8 : Memref sig .tc .vmem S12x128 .f32) (harg8 : arg8.IsWhole) (arg9 : Memref sig .tc .vmem S1x168 .i32) (harg9 : arg9.IsWhole) (arg10 : Memref sig .tc .vmem S1x168 .f32) (harg10 : arg10.IsWhole) (arg11 : Memref sig .tc .vmem S1536x256 .bf16) (harg11 : arg11.IsWhole) (arg12 : Memref sig .tc .vmem S168x256 .bf16) (harg12 : arg12.IsWhole) (arg13 : Memref sig .tc .vmem S256x128 .bf16) (harg13 : arg13.IsWhole) :
    Prog (TpuEff nD τ sig (Elt F) Λ₀ .tc) PUnit := do
  let v3 : Vec F S256x512 .bf16 ← Prog.lift (.load arg4 (Rect.unit (s := S256x512) ![0, 0] S256x512.size inb_S256x512_S256x512_0_0).toLoadRect (View.loadsAt_vmem h_S256x512))
  let v5 : Vec F S256x128 .bf16 ← Prog.lift (.load arg13 (Rect.unit (s := S256x128) ![0, 0] S256x128.size inb_S256x128_S256x128_0_0).toLoadRect (View.loadsAt_vmem h_S256x128))
  let v18 : Vec F S256x128 .bf16 ← Prog.lift (.load arg13 (Rect.unit (s := S256x128) ![0, 0] S256x128.size inb_S256x128_S256x128_0_0).toLoadRect (View.loadsAt_vmem h_S256x128))
  Prog.lift (.store arg13 (Rect.unit (s := S256x128) ![0, 0] S256x128.size inb_S256x128_S256x128_0_0) (k0_pay2 v3 v5) Finset.univ (View.stores_vmem h_S256x128 (harg13.storeExact_slice rfl _ packedbf16_S256x128_S256x128_0_0) (fun _ => rfl)) (.inl rfl))
  let v21 : Vec F S1536x256 .bf16 ← Prog.lift (.load arg11 (Rect.unit (s := S1536x256) ![0, 0] S1536x256.size inb_S1536x256_S1536x256_0_0).toLoadRect (View.loadsAt_vmem h_S1536x256))
  let v28 : Vec F S1536x512 .fp8e4m3 ← Prog.lift (.load arg5 (Rect.unit (s := S1536x512) ![0, 0] S1536x512.size inb_S1536x512_S1536x512_0_0).toLoadRect (View.loadsAt_vmem h_S1536x512))
  Prog.lift (.store arg5 (Rect.unit (s := S1536x512) ![0, 0] S1536x512.size inb_S1536x512_S1536x512_0_0) (k0_pay3 v3 v21) Finset.univ (View.stores_vmem h_S1536x512 (harg5.storeExact_slice rfl _ packedfp8e4m3_S1536x512_S1536x512_0_0) (fun _ => rfl)) (.inl rfl))
  if k0_h2 : k0_cond2 i = 1#1 then do
    let v32 : Vec F S256x128 .bf16 ← Prog.lift (.load arg13 (Rect.unit (s := S256x128) ![0, 0] S256x128.size inb_S256x128_S256x128_0_0).toLoadRect (View.loadsAt_vmem h_S256x128))
    let v37 : Vec F S168x256 .bf16 ← Prog.lift (.load arg12 (Rect.unit (s := S168x256) ![0, 0] S168x256.size inb_S168x256_S168x256_0_0).toLoadRect (View.loadsAt_vmem h_S168x256))
    let v54 : Vec F S1x168 .f32 ← Prog.lift (.load arg10 (Rect.unit (s := S1x168) ![0, 0] S1x168.size inb_S1x168_S1x168_0_0).toLoadRect (View.loadsAt_vmem h_S1x168))
    Prog.lift (.store arg10 (Rect.unit (s := S1x168) ![0, 0] S1x168.size inb_S1x168_S1x168_0_0) (k0_pay4 v32 v37) Finset.univ (View.stores_vmem_bits_univ h_S1x168 rfl) (.inl rfl))
    pure ⟨⟩
  else do
    pure ⟨⟩
  pure ⟨⟩

/-- At the first point the body is the routing step and then the sweep. -/
theorem body_first (i : grid0.Coords) (arg1 : Memref sig .tc .vmem S6x2x128 .i32) (harg1 : arg1.IsWhole) (arg2 : Memref sig .tc .vmem S6x2x128 .i32) (harg2 : arg2.IsWhole) (arg3 : Memref sig .tc .vmem S16x160 .f32) (harg3 : arg3.IsWhole) (arg4 : Memref sig .tc .vmem S256x512 .bf16) (harg4 : arg4.IsWhole) (arg5 : Memref sig .tc .vmem S1536x512 .fp8e4m3) (harg5 : arg5.IsWhole) (arg6 : Memref sig .tc .vmem S1x160 .f32) (harg6 : arg6.IsWhole) (arg7 : Memref sig .tc .vmem S12x128 .i32) (harg7 : arg7.IsWhole) (arg8 : Memref sig .tc .vmem S12x128 .f32) (harg8 : arg8.IsWhole) (arg9 : Memref sig .tc .vmem S1x168 .i32) (harg9 : arg9.IsWhole) (arg10 : Memref sig .tc .vmem S1x168 .f32) (harg10 : arg10.IsWhole) (arg11 : Memref sig .tc .vmem S1536x256 .bf16) (harg11 : arg11.IsWhole) (arg12 : Memref sig .tc .vmem S168x256 .bf16) (harg12 : arg12.IsWhole) (arg13 : Memref sig .tc .vmem S256x128 .bf16) (harg13 : arg13.IsWhole) (hc : k0_cond1 i = 1#1) :
    cc0_moe_permute (F := F) i arg1 harg1 arg2 harg2 arg3 harg3 arg4 harg4 arg5 harg5 arg6 harg6 arg7 harg7 arg8 harg8 arg9 harg9 arg10 harg10 arg11 harg11 arg12 harg12 arg13 harg13
      = (k0_part14 (F := F) i arg1 harg1 arg2 harg2 arg3 harg3 arg4 harg4 arg5 harg5 arg6 harg6 arg7 harg7 arg8 harg8 arg9 harg9 arg10 harg10 arg11 harg11 arg12 harg12 arg13 harg13) >>= fun _ => sweep (F := F) i arg1 harg1 arg2 harg2 arg3 harg3 arg4 harg4 arg5 harg5 arg6 harg6 arg7 harg7 arg8 harg8 arg9 harg9 arg10 harg10 arg11 harg11 arg12 harg12 arg13 harg13 := by
  rw [cc0_moe_permute_eq_skeleton]
  unfold cc0_moe_permute_skel
  rw [dif_pos hc]
  show (k0_part14 (F := F) i arg1 harg1 arg2 harg2 arg3 harg3 arg4 harg4 arg5 harg5 arg6 harg6 arg7 harg7 arg8 harg8 arg9 harg9 arg10 harg10 arg11 harg11 arg12 harg12 arg13 harg13 >>= fun _ => Prog.ret PUnit.unit) >>= _ = _
  rw [bind_assoc]
  rfl

/-- At every other point it is the sweep alone. -/
theorem body_other (i : grid0.Coords) (arg1 : Memref sig .tc .vmem S6x2x128 .i32) (harg1 : arg1.IsWhole) (arg2 : Memref sig .tc .vmem S6x2x128 .i32) (harg2 : arg2.IsWhole) (arg3 : Memref sig .tc .vmem S16x160 .f32) (harg3 : arg3.IsWhole) (arg4 : Memref sig .tc .vmem S256x512 .bf16) (harg4 : arg4.IsWhole) (arg5 : Memref sig .tc .vmem S1536x512 .fp8e4m3) (harg5 : arg5.IsWhole) (arg6 : Memref sig .tc .vmem S1x160 .f32) (harg6 : arg6.IsWhole) (arg7 : Memref sig .tc .vmem S12x128 .i32) (harg7 : arg7.IsWhole) (arg8 : Memref sig .tc .vmem S12x128 .f32) (harg8 : arg8.IsWhole) (arg9 : Memref sig .tc .vmem S1x168 .i32) (harg9 : arg9.IsWhole) (arg10 : Memref sig .tc .vmem S1x168 .f32) (harg10 : arg10.IsWhole) (arg11 : Memref sig .tc .vmem S1536x256 .bf16) (harg11 : arg11.IsWhole) (arg12 : Memref sig .tc .vmem S168x256 .bf16) (harg12 : arg12.IsWhole) (arg13 : Memref sig .tc .vmem S256x128 .bf16) (harg13 : arg13.IsWhole) (hc : ¬ k0_cond1 i = 1#1) :
    cc0_moe_permute (F := F) i arg1 harg1 arg2 harg2 arg3 harg3 arg4 harg4 arg5 harg5 arg6 harg6 arg7 harg7 arg8 harg8 arg9 harg9 arg10 harg10 arg11 harg11 arg12 harg12 arg13 harg13 = sweep (F := F) i arg1 harg1 arg2 harg2 arg3 harg3 arg4 harg4 arg5 harg5 arg6 harg6 arg7 harg7 arg8 harg8 arg9 harg9 arg10 harg10 arg11 harg11 arg12 harg12 arg13 harg13 := by
  rw [cc0_moe_permute_eq_skeleton]
  unfold cc0_moe_permute_skel
  rw [dif_neg hc]
  rfl

/-- The sweep at a point that is not the last. -/
theorem sweep_mid (c : Dev nD) (E : Set ℕ) (i : grid0.Coords) (arg1 : Memref sig .tc .vmem S6x2x128 .i32) (harg1 : arg1.IsWhole) (arg2 : Memref sig .tc .vmem S6x2x128 .i32) (harg2 : arg2.IsWhole) (arg3 : Memref sig .tc .vmem S16x160 .f32) (harg3 : arg3.IsWhole) (arg4 : Memref sig .tc .vmem S256x512 .bf16) (harg4 : arg4.IsWhole) (arg5 : Memref sig .tc .vmem S1536x512 .fp8e4m3) (harg5 : arg5.IsWhole) (arg6 : Memref sig .tc .vmem S1x160 .f32) (harg6 : arg6.IsWhole) (arg7 : Memref sig .tc .vmem S12x128 .i32) (harg7 : arg7.IsWhole) (arg8 : Memref sig .tc .vmem S12x128 .f32) (harg8 : arg8.IsWhole) (arg9 : Memref sig .tc .vmem S1x168 .i32) (harg9 : arg9.IsWhole) (arg10 : Memref sig .tc .vmem S1x168 .f32) (harg10 : arg10.IsWhole) (arg11 : Memref sig .tc .vmem S1536x256 .bf16) (harg11 : arg11.IsWhole) (arg12 : Memref sig .tc .vmem S168x256 .bf16) (harg12 : arg12.IsWhole) (arg13 : Memref sig .tc .vmem S256x128 .bf16) (harg13 : arg13.IsWhole) (hc : ¬ k0_cond2 i = 1#1)
    (x3 : Vec F S256x512 .bf16) (P : Vec F S1536x256 .bf16) (xs : Vec F S256x128 .bf16) (K : PUnit → sProp 𝕄) :
    iprop(owns (c : Thread nD τ) arg4 fullShare x3 ∗ (∃ d, owns (c : Thread nD τ) arg5 fullShare d) ∗ owns (c : Thread nD τ) arg11 fullShare P ∗ owns (c : Thread nD τ) arg13 fullShare xs
        ∗ (iprop(owns (c : Thread nD τ) arg4 fullShare x3 ∗ owns (c : Thread nD τ) arg5 fullShare (k0_pay3 x3 P) ∗ owns (c : Thread nD τ) arg11 fullShare P ∗ owns (c : Thread nD τ) arg13 fullShare (k0_pay2 x3 xs)) -∗ K ⟨⟩))
      ⊢ wp frame (wpE (defs₀ (F := F)) Variants.none c none) E (sweep i arg1 harg1 arg2 harg2 arg3 harg3 arg4 harg4 arg5 harg5 arg6 harg6 arg7 harg7 arg8 harg8 arg9 harg9 arg10 harg10 arg11 harg11 arg12 harg12 arg13 harg13) K := by
  unfold sweep
  unfold owns
  iintro ⟨⟨%f3, %hf3, H3⟩, ⟨%d4, %f4, -, H4⟩, ⟨%g0, %hg0, HS0⟩, ⟨%g2, %hg2, HS2⟩, Hk⟩
  subst hf3 hg0 hg2
  sl_exec (disch := sl_exact hc)
  sl_step
  iapply Hk
  isplitl [H3]
  · iexists f3; isplitr; · ipureintro; rfl
    iexact H3
  isplitl [H4]
  · iexists _; isplitr; swap; · iexact H4
    ipureintro
    sl_unfold_words
    refine (whole_store (F := F) (s := S1536x512) _ _ _ zz2 _ _).trans ?_
    exact congrArg₂ (k0_pay3 (F := F)) (ld_whole_S256x512 _ _) (ld_whole_S1536x256 _ _)
  isplitl [HS0]
  · iexists g0; isplitr; · ipureintro; rfl
    iexact HS0
  iexists _; isplitr; swap; · iexact HS2
  ipureintro
  sl_unfold_words
  refine (whole_store (F := F) (s := S256x128) _ _ _ zz2 _ _).trans ?_
  exact congrArg₂ (k0_pay2 (F := F)) (ld_whole_S256x512 _ _) (ld_whole_S256x128 _ _)

/-- The sweep at the last point. -/
theorem sweep_last (c : Dev nD) (E : Set ℕ) (i : grid0.Coords) (arg1 : Memref sig .tc .vmem S6x2x128 .i32) (harg1 : arg1.IsWhole) (arg2 : Memref sig .tc .vmem S6x2x128 .i32) (harg2 : arg2.IsWhole) (arg3 : Memref sig .tc .vmem S16x160 .f32) (harg3 : arg3.IsWhole) (arg4 : Memref sig .tc .vmem S256x512 .bf16) (harg4 : arg4.IsWhole) (arg5 : Memref sig .tc .vmem S1536x512 .fp8e4m3) (harg5 : arg5.IsWhole) (arg6 : Memref sig .tc .vmem S1x160 .f32) (harg6 : arg6.IsWhole) (arg7 : Memref sig .tc .vmem S12x128 .i32) (harg7 : arg7.IsWhole) (arg8 : Memref sig .tc .vmem S12x128 .f32) (harg8 : arg8.IsWhole) (arg9 : Memref sig .tc .vmem S1x168 .i32) (harg9 : arg9.IsWhole) (arg10 : Memref sig .tc .vmem S1x168 .f32) (harg10 : arg10.IsWhole) (arg11 : Memref sig .tc .vmem S1536x256 .bf16) (harg11 : arg11.IsWhole) (arg12 : Memref sig .tc .vmem S168x256 .bf16) (harg12 : arg12.IsWhole) (arg13 : Memref sig .tc .vmem S256x128 .bf16) (harg13 : arg13.IsWhole) (hc : k0_cond2 i = 1#1)
    (x3 : Vec F S256x512 .bf16) (P : Vec F S1536x256 .bf16) (M : Vec F S168x256 .bf16) (xs : Vec F S256x128 .bf16) (K : PUnit → sProp 𝕄) :
    iprop(owns (c : Thread nD τ) arg4 fullShare x3 ∗ (∃ d, owns (c : Thread nD τ) arg5 fullShare d) ∗ (∃ d, owns (c : Thread nD τ) arg10 fullShare d) ∗ owns (c : Thread nD τ) arg11 fullShare P ∗ owns (c : Thread nD τ) arg12 fullShare M ∗ owns (c : Thread nD τ) arg13 fullShare xs
        ∗ (iprop(owns (c : Thread nD τ) arg4 fullShare x3 ∗ owns (c : Thread nD τ) arg5 fullShare (k0_pay3 x3 P) ∗ owns (c : Thread nD τ) arg10 fullShare (k0_pay4 (k0_pay2 x3 xs) M) ∗ owns (c : Thread nD τ) arg11 fullShare P ∗ owns (c : Thread nD τ) arg12 fullShare M ∗ owns (c : Thread nD τ) arg13 fullShare (k0_pay2 x3 xs)) -∗ K ⟨⟩))
      ⊢ wp frame (wpE (defs₀ (F := F)) Variants.none c none) E (sweep i arg1 harg1 arg2 harg2 arg3 harg3 arg4 harg4 arg5 harg5 arg6 harg6 arg7 harg7 arg8 harg8 arg9 harg9 arg10 harg10 arg11 harg11 arg12 harg12 arg13 harg13) K := by
  unfold sweep
  unfold owns
  iintro ⟨⟨%f3, %hf3, H3⟩, ⟨%d4, %f4, -, H4⟩, ⟨%d9, %f9, -, H9⟩, ⟨%g0, %hg0, HS0⟩, ⟨%g1, %hg1, HS1⟩, ⟨%g2, %hg2, HS2⟩, Hk⟩
  subst hf3 hg0 hg1 hg2
  sl_exec (disch := sl_exact hc)
  sl_step
  iapply Hk
  isplitl [H3]
  · iexists f3; isplitr; · ipureintro; rfl
    iexact H3
  isplitl [H4]
  · iexists _; isplitr; swap; · iexact H4
    ipureintro
    sl_unfold_words
    refine (whole_store (F := F) (s := S1536x512) _ _ _ zz2 _ _).trans ?_
    exact congrArg₂ (k0_pay3 (F := F)) (ld_whole_S256x512 _ _) (ld_whole_S1536x256 _ _)
  isplitl [H9]
  · iexists _; isplitr; swap; · iexact H9
    ipureintro
    sl_unfold_words
    refine (whole_store (F := F) (s := S1x168) _ _ _ zz2 _ _).trans ?_
    exact congrArg₂ (k0_pay4 (F := F)) ((readCov_whole_S256x128 _ _ _ _).trans
      (congrArg₂ (k0_pay2 (F := F)) (ld_whole_S256x512 _ _) (ld_whole_S256x128 _ _))) (ld_whole_S168x256 _ _)
  isplitl [HS0]
  · iexists g0; isplitr; · ipureintro; rfl
    iexact HS0
  isplitl [HS1]
  · iexists g1; isplitr; · ipureintro; rfl
    iexact HS1
  iexists _; isplitr; swap; · iexact HS2
  ipureintro
  sl_unfold_words
  refine (whole_store (F := F) (s := S256x128) _ _ _ zz2 _ _).trans ?_
  exact congrArg₂ (k0_pay2 (F := F)) (ld_whole_S256x512 _ _) (ld_whole_S256x128 _ _)

end Cert.KernelIdeal.Val

end
-- ==== Proof.KBody.lean ====
/- The kernel on the grid: what each point finds and leaves, and the launch. -/
module

public import proofs.«01_k».proof.Proof.KRoute
public import proofs.«01_k».proof.Proof.KSweep

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Cert.KernelIdeal.Gen
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Where the body branches and where the windows are idle -/

/-- The routing step runs at the first point only. -/
theorem hcond1 : ∀ t : Fin cfg0.N, k0_cond1 (grid0.coords t) = 1#1 ↔ t.val = 0 :=
  (fun t => by
    have ht : t.val < 10 := Nat.lt_of_lt_of_eq t.isLt N_0
    have e0 : (grid0.coords t 0).val = t.val / 1 % 10 := Pipeline.Grid.coords_val t 0 (by decide) rfl
    simp only [k0_cond1, e0]
    word_cmp
   : ∀ t : Fin grid0.N, k0_cond1 (grid0.coords t) = 1#1 ↔ t.val = 0)

/-- The experts' maxima are written at the last point only. -/
theorem hcond2 : ∀ t : Fin cfg0.N, k0_cond2 (grid0.coords t) = 1#1 ↔ t.val = 9 :=
  (fun t => by
    have ht : t.val < 10 := Nat.lt_of_lt_of_eq t.isLt N_0
    have e0 : (grid0.coords t 0).val = t.val / 1 % 10 := Pipeline.Grid.coords_val t 0 (by decide) rfl
    simp only [k0_cond2, e0]
    word_cmp
   : ∀ t : Fin grid0.N, k0_cond2 (grid0.coords t) = 1#1 ↔ t.val = 9)

abbrev ms0_0 (t : Fin cfg0.N) : Memref sig .tc .vmem S6x2x128 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S6x2x128 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16x160 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1536x512 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x160 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S12x128 .i32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S12x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x168 .i32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x168 .f32 := win0_9.stage (cfg0.slots t 9)
abbrev hs0_9 (t : Fin cfg0.N) : (ms0_9 t).IsWhole := hstage0_9 ((cfg0.slots t 9).cast nbuf0_9)
abbrev scM0_0 : Memref sig .tc .vmem S1536x256 .bf16 := Memref.whole cc0_scratch0
abbrev scM0_1 : Memref sig .tc .vmem S168x256 .bf16 := Memref.whole cc0_scratch1
abbrev scM0_2 : Memref sig .tc .vmem S256x128 .bf16 := Memref.whole cc0_scratch2

/-- What the region keeps beside the windows, with the scratch buffers as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

variable (m : (ℓ : Loc nD τ sig) → Buf (Elt F) ℓ) (ρ : Dev nD → PrngReg)

/-! ## What the windows are left holding -/

abbrev pt0 : Fin cfg0.N := t0_0
/-- The expert ids, the words of the weights and the history, as the first point finds them. -/
abbrev idsAt (c : Dev nD) : Vec F S6x2x128 .i32 := iblk m c 0 pt0
abbrev wordsAt (c : Dev nD) : Vec F S6x2x128 .i32 := iblk m c 1 pt0
abbrev histAt (c : Dev nD) : Vec F S16x160 .f32 := iblk m c 2 pt0
/-- The permutation matrix and the membership matrix the first point leaves. -/
abbrev permAt (c : Dev nD) : Vec F S1536x256 .bf16 := oP (idsAt m c) (wordsAt m c) (histAt m c)
abbrev memberAt (c : Dev nD) : Vec F S168x256 .bf16 := oMember (F := F) (idsAt m c)
/-- The running maxima after point `n`. -/
def tmAt (c : Dev nD) : (n : ℕ) → n < cfg0.N → Vec F S256x128 .bf16
  | 0, h => k0_pay2 (iblk m c 3 ⟨0, h⟩) (k0_pay72 (F := F))
  | n + 1, h => k0_pay2 (iblk m c 3 ⟨n + 1, h⟩) (tmAt c n (Nat.lt_of_succ_lt h))

/-- The contents after each point (the codes' window at its point, the others once written). -/
abbrev codesAt (c : Dev nD) (t : Fin cfg0.N) : Vec F S1536x512 .fp8e4m3 := k0_pay3 (iblk m c 3 t) (permAt m c)
abbrev scaleAt (c : Dev nD) : Vec F S1x160 .f32 := oScale (histAt m c)
abbrev srcAt (c : Dev nD) : Vec F S12x128 .i32 := oSrc (idsAt m c) (wordsAt m c) (histAt m c)
abbrev rwAt (c : Dev nD) : Vec F S12x128 .f32 := oRw (idsAt m c) (wordsAt m c) (histAt m c)
abbrev offAt (c : Dev nD) : Vec F S1x168 .i32 := oOff (F := F) (idsAt m c)
abbrev amaxAt (c : Dev nD) : Vec F S1x168 .f32 := k0_pay4 (tmAt m c 9 (by rw [show cfg0.N = 10 from N_0]; omega)) (memberAt m c)

/-- The invariant: after a point the scratch holds the two matrices and the running maxima. -/
def PhiS (c : Dev nD) : (n : ℕ) → n ≤ cfg0.N → sProp 𝕄
  | 0, _ => Pipeline.ΦA spec0 c
  | n + 1, hn => iprop(iprop(owns (c : Thread nD τ) scM0_0 fullShare (permAt m c) ∗ owns (c : Thread nD τ) scM0_1 fullShare (memberAt m c) ∗ owns (c : Thread nD τ) scM0_2 fullShare (tmAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (permAt m c) ∗ owns (c : Thread nD τ) scM0_1 fullShare (memberAt m c) ∗ owns (c : Thread nD τ) scM0_2 fullShare (tmAt m c n hn)) ∗ (∃ r, prngReg c r)) := rfl

theorem PhiS_pos (c : Dev nD) (n : ℕ) (h : n ≤ cfg0.N) (hz : n ≠ 0) :
    PhiS m c n h = iprop(iprop(owns (c : Thread nD τ) scM0_0 fullShare (permAt m c) ∗ owns (c : Thread nD τ) scM0_1 fullShare (memberAt m c) ∗ owns (c : Thread nD τ) scM0_2 fullShare (tmAt m c (n - 1) (by omega))) ∗ (∃ r, prngReg c r)) := by
  cases n with
  | zero => exact absurd rfl hz
  | succ n => rfl

theorem tmAt_zero (c : Dev nD) (t : Fin cfg0.N) (hz : t.val = 0) : tmAt m c t.val t.isLt = k0_pay2 (iblk m c 3 t) (k0_pay72 (F := F)) := by
  obtain ⟨n, hn⟩ := t
  cases n with
  | zero => rfl
  | succ n => exact absurd hz (Nat.succ_ne_zero n)

theorem tmAt_pos (c : Dev nD) (t : Fin cfg0.N) (hz : t.val ≠ 0) :
    tmAt m c t.val t.isLt = k0_pay2 (iblk m c 3 t) (tmAt m c (t.val - 1) (by have := t.isLt; omega)) := by
  obtain ⟨n, hn⟩ := t
  cases n with
  | zero => exact absurd rfl hz
  | succ n => rfl

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => codesAt m c t
    | ⟨5, _⟩ => scaleAt m c
    | ⟨6, _⟩ => srcAt m c
    | ⟨7, _⟩ => rwAt m c
    | ⟨8, _⟩ => offAt m c
    | ⟨9, _⟩ => amaxAt m c
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = codesAt m c t := by dsimp only [dats]
theorem after0_5 (c : Dev nD) (t : Fin cfg0.N) : (dats m 0 c).after 5 t = scaleAt m c := by dsimp only [dats]
theorem after0_6 (c : Dev nD) (t : Fin cfg0.N) : (dats m 0 c).after 6 t = srcAt m c := by dsimp only [dats]
theorem after0_7 (c : Dev nD) (t : Fin cfg0.N) : (dats m 0 c).after 7 t = rwAt m c := by dsimp only [dats]
theorem after0_8 (c : Dev nD) (t : Fin cfg0.N) : (dats m 0 c).after 8 t = offAt m c := by dsimp only [dats]
theorem after0_9 (c : Dev nD) (t : Fin cfg0.N) : (dats m 0 c).after 9 t = amaxAt m c := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

theorem idle0_5 (t : Fin cfg0.N) : cfg0.idle 5 (cfg0.grid.coords t) = !(k0_cond1 (grid0.coords t) == 1#1) := rfl
/-- Window 5 keeps through the later points what the first wrote. -/
theorem before0_5 (c : Dev nD) (d) : ∀ (n : ℕ) (h : n + 1 < cfg0.N), (dats m 0 c).before 5 ⟨n + 1, h⟩ d = scaleAt m c := by
  intro n
  induction n with
  | zero =>
    intro h
    rw [Dat.before_of_pos _ _ _ (Nat.succ_ne_zero _) rfl, if_neg (fun hf => by have := (flush0_5 _).mp hf; simp at this)]
    unfold Dat.left
    rw [show cfg0.idle 5 (cfg0.grid.coords ⟨0 + 1 - 1, Nat.lt_of_le_of_lt (Nat.sub_le _ _) h⟩) = false from by
      rw [idle0_5, (hcond1 _).mpr rfl]; rfl]
    rfl
  | succ n ih =>
    intro h
    have hN : cfg0.N = 10 := N_0
    rw [Dat.before_of_pos _ _ _ (Nat.succ_ne_zero _) rfl, if_neg (fun hf => by have := (flush0_5 _).mp hf; simp at this; omega)]
    unfold Dat.left
    rw [show cfg0.idle 5 (cfg0.grid.coords ⟨n + 1 + 1 - 1, Nat.lt_of_le_of_lt (Nat.sub_le _ _) h⟩) = true from by
      rw [idle0_5]
      have : ¬ k0_cond1 (grid0.coords ⟨n + 1 + 1 - 1, Nat.lt_of_le_of_lt (Nat.sub_le _ _) h⟩) = 1#1 := fun e => absurd ((hcond1 _).mp e) (by simp)
      simp only [Bool.not_eq_true', beq_eq_false_iff_ne, ne_eq]; exact this]
    exact ih _

theorem idle0_6 (t : Fin cfg0.N) : cfg0.idle 6 (cfg0.grid.coords t) = !(k0_cond1 (grid0.coords t) == 1#1) := rfl
/-- Window 6 keeps through the later points what the first wrote. -/
theorem before0_6 (c : Dev nD) (d) : ∀ (n : ℕ) (h : n + 1 < cfg0.N), (dats m 0 c).before 6 ⟨n + 1, h⟩ d = srcAt m c := by
  intro n
  induction n with
  | zero =>
    intro h
    rw [Dat.before_of_pos _ _ _ (Nat.succ_ne_zero _) rfl, if_neg (fun hf => by have := (flush0_6 _).mp hf; simp at this)]
    unfold Dat.left
    rw [show cfg0.idle 6 (cfg0.grid.coords ⟨0 + 1 - 1, Nat.lt_of_le_of_lt (Nat.sub_le _ _) h⟩) = false from by
      rw [idle0_6, (hcond1 _).mpr rfl]; rfl]
    rfl
  | succ n ih =>
    intro h
    have hN : cfg0.N = 10 := N_0
    rw [Dat.before_of_pos _ _ _ (Nat.succ_ne_zero _) rfl, if_neg (fun hf => by have := (flush0_6 _).mp hf; simp at this; omega)]
    unfold Dat.left
    rw [show cfg0.idle 6 (cfg0.grid.coords ⟨n + 1 + 1 - 1, Nat.lt_of_le_of_lt (Nat.sub_le _ _) h⟩) = true from by
      rw [idle0_6]
      have : ¬ k0_cond1 (grid0.coords ⟨n + 1 + 1 - 1, Nat.lt_of_le_of_lt (Nat.sub_le _ _) h⟩) = 1#1 := fun e => absurd ((hcond1 _).mp e) (by simp)
      simp only [Bool.not_eq_true', beq_eq_false_iff_ne, ne_eq]; exact this]
    exact ih _

theorem idle0_7 (t : Fin cfg0.N) : cfg0.idle 7 (cfg0.grid.coords t) = !(k0_cond1 (grid0.coords t) == 1#1) := rfl
/-- Window 7 keeps through the later points what the first wrote. -/
theorem before0_7 (c : Dev nD) (d) : ∀ (n : ℕ) (h : n + 1 < cfg0.N), (dats m 0 c).before 7 ⟨n + 1, h⟩ d = rwAt m c := by
  intro n
  induction n with
  | zero =>
    intro h
    rw [Dat.before_of_pos _ _ _ (Nat.succ_ne_zero _) rfl, if_neg (fun hf => by have := (flush0_7 _).mp hf; simp at this)]
    unfold Dat.left
    rw [show cfg0.idle 7 (cfg0.grid.coords ⟨0 + 1 - 1, Nat.lt_of_le_of_lt (Nat.sub_le _ _) h⟩) = false from by
      rw [idle0_7, (hcond1 _).mpr rfl]; rfl]
    rfl
  | succ n ih =>
    intro h
    have hN : cfg0.N = 10 := N_0
    rw [Dat.before_of_pos _ _ _ (Nat.succ_ne_zero _) rfl, if_neg (fun hf => by have := (flush0_7 _).mp hf; simp at this; omega)]
    unfold Dat.left
    rw [show cfg0.idle 7 (cfg0.grid.coords ⟨n + 1 + 1 - 1, Nat.lt_of_le_of_lt (Nat.sub_le _ _) h⟩) = true from by
      rw [idle0_7]
      have : ¬ k0_cond1 (grid0.coords ⟨n + 1 + 1 - 1, Nat.lt_of_le_of_lt (Nat.sub_le _ _) h⟩) = 1#1 := fun e => absurd ((hcond1 _).mp e) (by simp)
      simp only [Bool.not_eq_true', beq_eq_false_iff_ne, ne_eq]; exact this]
    exact ih _

theorem idle0_8 (t : Fin cfg0.N) : cfg0.idle 8 (cfg0.grid.coords t) = !(k0_cond1 (grid0.coords t) == 1#1) := rfl
/-- Window 8 keeps through the later points what the first wrote. -/
theorem before0_8 (c : Dev nD) (d) : ∀ (n : ℕ) (h : n + 1 < cfg0.N), (dats m 0 c).before 8 ⟨n + 1, h⟩ d = offAt m c := by
  intro n
  induction n with
  | zero =>
    intro h
    rw [Dat.before_of_pos _ _ _ (Nat.succ_ne_zero _) rfl, if_neg (fun hf => by have := (flush0_8 _).mp hf; simp at this)]
    unfold Dat.left
    rw [show cfg0.idle 8 (cfg0.grid.coords ⟨0 + 1 - 1, Nat.lt_of_le_of_lt (Nat.sub_le _ _) h⟩) = false from by
      rw [idle0_8, (hcond1 _).mpr rfl]; rfl]
    rfl
  | succ n ih =>
    intro h
    have hN : cfg0.N = 10 := N_0
    rw [Dat.before_of_pos _ _ _ (Nat.succ_ne_zero _) rfl, if_neg (fun hf => by have := (flush0_8 _).mp hf; simp at this; omega)]
    unfold Dat.left
    rw [show cfg0.idle 8 (cfg0.grid.coords ⟨n + 1 + 1 - 1, Nat.lt_of_le_of_lt (Nat.sub_le _ _) h⟩) = true from by
      rw [idle0_8]
      have : ¬ k0_cond1 (grid0.coords ⟨n + 1 + 1 - 1, Nat.lt_of_le_of_lt (Nat.sub_le _ _) h⟩) = 1#1 := fun e => absurd ((hcond1 _).mp e) (by simp)
      simp only [Bool.not_eq_true', beq_eq_false_iff_ne, ne_eq]; exact this]
    exact ih _

theorem idle0_9 (t : Fin cfg0.N) : cfg0.idle 9 (cfg0.grid.coords t) = !(k0_cond2 (grid0.coords t) == 1#1) := rfl

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

theorem leaves0_0 (c : Dev nD) (t : Fin cfg0.N) : (dats m 0 c).leavesExact 0 t = owns (c : Thread nD τ) (ms0_0 t) fullShare (iblk m c 0 t) := by
  unfold Dat.leavesExact; rw [show cfg0.idle 0 (cfg0.grid.coords t) = false from rfl, after0_0]
theorem leaves0_1 (c : Dev nD) (t : Fin cfg0.N) : (dats m 0 c).leavesExact 1 t = owns (c : Thread nD τ) (ms0_1 t) fullShare (iblk m c 1 t) := by
  unfold Dat.leavesExact; rw [show cfg0.idle 1 (cfg0.grid.coords t) = false from rfl, after0_1]
theorem leaves0_2 (c : Dev nD) (t : Fin cfg0.N) : (dats m 0 c).leavesExact 2 t = owns (c : Thread nD τ) (ms0_2 t) fullShare (iblk m c 2 t) := by
  unfold Dat.leavesExact; rw [show cfg0.idle 2 (cfg0.grid.coords t) = false from rfl, after0_2]
theorem leaves0_3 (c : Dev nD) (t : Fin cfg0.N) : (dats m 0 c).leavesExact 3 t = owns (c : Thread nD τ) (ms0_3 t) fullShare (iblk m c 3 t) := by
  unfold Dat.leavesExact; rw [show cfg0.idle 3 (cfg0.grid.coords t) = false from rfl, after0_3]
theorem leaves0_4 (c : Dev nD) (t : Fin cfg0.N) : (dats m 0 c).leavesExact 4 t = owns (c : Thread nD τ) (ms0_4 t) fullShare (codesAt m c t) := by
  unfold Dat.leavesExact; rw [show cfg0.idle 4 (cfg0.grid.coords t) = false from rfl, after0_4]
theorem leaves0_5_first (c : Dev nD) (t : Fin cfg0.N) (hz : t.val = 0) : (dats m 0 c).leavesExact 5 t = owns (c : Thread nD τ) (ms0_5 t) fullShare (scaleAt m c) := by
  unfold Dat.leavesExact; rw [show cfg0.idle 5 (cfg0.grid.coords t) = false from by rw [idle0_5, (hcond1 _).mpr hz]; rfl, after0_5]
theorem leaves0_5_mid (c : Dev nD) (t : Fin cfg0.N) (hz : t.val ≠ 0) (h9 : t.val ≠ 9) : (dats m 0 c).leavesExact 5 t = iprop(∃ d, owns (c : Thread nD τ) (ms0_5 t) fullShare ((dats m 0 c).before 5 t d)) := by
  have hN : t.val < 10 := lt_of_lt_of_eq t.isLt (show cfg0.N = 10 from N_0)
  refine (dats m 0 c).leavesExact_idle 5 t ?_ ?_
  · rw [idle0_5]
    have : ¬ k0_cond1 (grid0.coords t) = 1#1 := fun e => hz ((hcond1 _).mp e)
    simp only [Bool.not_eq_true', beq_eq_false_iff_ne, ne_eq]; exact this
  · exact Bool.eq_false_iff.mpr fun hf => by have := (flush0_5 t).mp hf; omega
theorem leaves0_5_last (c : Dev nD) (t : Fin cfg0.N) (h9 : t.val = 9) : (dats m 0 c).leavesExact 5 t = owns (c : Thread nD τ) (ms0_5 t) fullShare (scaleAt m c) := by
  unfold Dat.leavesExact
  rw [show (cfg0.win 5).flush t = true from (flush0_5 t).mpr (by omega), after0_5]
  cases cfg0.idle 5 (cfg0.grid.coords t) <;> rfl
theorem leaves0_6_first (c : Dev nD) (t : Fin cfg0.N) (hz : t.val = 0) : (dats m 0 c).leavesExact 6 t = owns (c : Thread nD τ) (ms0_6 t) fullShare (srcAt m c) := by
  unfold Dat.leavesExact; rw [show cfg0.idle 6 (cfg0.grid.coords t) = false from by rw [idle0_6, (hcond1 _).mpr hz]; rfl, after0_6]
theorem leaves0_6_mid (c : Dev nD) (t : Fin cfg0.N) (hz : t.val ≠ 0) (h9 : t.val ≠ 9) : (dats m 0 c).leavesExact 6 t = iprop(∃ d, owns (c : Thread nD τ) (ms0_6 t) fullShare ((dats m 0 c).before 6 t d)) := by
  have hN : t.val < 10 := lt_of_lt_of_eq t.isLt (show cfg0.N = 10 from N_0)
  refine (dats m 0 c).leavesExact_idle 6 t ?_ ?_
  · rw [idle0_6]
    have : ¬ k0_cond1 (grid0.coords t) = 1#1 := fun e => hz ((hcond1 _).mp e)
    simp only [Bool.not_eq_true', beq_eq_false_iff_ne, ne_eq]; exact this
  · exact Bool.eq_false_iff.mpr fun hf => by have := (flush0_6 t).mp hf; omega
theorem leaves0_6_last (c : Dev nD) (t : Fin cfg0.N) (h9 : t.val = 9) : (dats m 0 c).leavesExact 6 t = owns (c : Thread nD τ) (ms0_6 t) fullShare (srcAt m c) := by
  unfold Dat.leavesExact
  rw [show (cfg0.win 6).flush t = true from (flush0_6 t).mpr (by omega), after0_6]
  cases cfg0.idle 6 (cfg0.grid.coords t) <;> rfl
theorem leaves0_7_first (c : Dev nD) (t : Fin cfg0.N) (hz : t.val = 0) : (dats m 0 c).leavesExact 7 t = owns (c : Thread nD τ) (ms0_7 t) fullShare (rwAt m c) := by
  unfold Dat.leavesExact; rw [show cfg0.idle 7 (cfg0.grid.coords t) = false from by rw [idle0_7, (hcond1 _).mpr hz]; rfl, after0_7]
theorem leaves0_7_mid (c : Dev nD) (t : Fin cfg0.N) (hz : t.val ≠ 0) (h9 : t.val ≠ 9) : (dats m 0 c).leavesExact 7 t = iprop(∃ d, owns (c : Thread nD τ) (ms0_7 t) fullShare ((dats m 0 c).before 7 t d)) := by
  have hN : t.val < 10 := lt_of_lt_of_eq t.isLt (show cfg0.N = 10 from N_0)
  refine (dats m 0 c).leavesExact_idle 7 t ?_ ?_
  · rw [idle0_7]
    have : ¬ k0_cond1 (grid0.coords t) = 1#1 := fun e => hz ((hcond1 _).mp e)
    simp only [Bool.not_eq_true', beq_eq_false_iff_ne, ne_eq]; exact this
  · exact Bool.eq_false_iff.mpr fun hf => by have := (flush0_7 t).mp hf; omega
theorem leaves0_7_last (c : Dev nD) (t : Fin cfg0.N) (h9 : t.val = 9) : (dats m 0 c).leavesExact 7 t = owns (c : Thread nD τ) (ms0_7 t) fullShare (rwAt m c) := by
  unfold Dat.leavesExact
  rw [show (cfg0.win 7).flush t = true from (flush0_7 t).mpr (by omega), after0_7]
  cases cfg0.idle 7 (cfg0.grid.coords t) <;> rfl
theorem leaves0_8_first (c : Dev nD) (t : Fin cfg0.N) (hz : t.val = 0) : (dats m 0 c).leavesExact 8 t = owns (c : Thread nD τ) (ms0_8 t) fullShare (offAt m c) := by
  unfold Dat.leavesExact; rw [show cfg0.idle 8 (cfg0.grid.coords t) = false from by rw [idle0_8, (hcond1 _).mpr hz]; rfl, after0_8]
theorem leaves0_8_mid (c : Dev nD) (t : Fin cfg0.N) (hz : t.val ≠ 0) (h9 : t.val ≠ 9) : (dats m 0 c).leavesExact 8 t = iprop(∃ d, owns (c : Thread nD τ) (ms0_8 t) fullShare ((dats m 0 c).before 8 t d)) := by
  have hN : t.val < 10 := lt_of_lt_of_eq t.isLt (show cfg0.N = 10 from N_0)
  refine (dats m 0 c).leavesExact_idle 8 t ?_ ?_
  · rw [idle0_8]
    have : ¬ k0_cond1 (grid0.coords t) = 1#1 := fun e => hz ((hcond1 _).mp e)
    simp only [Bool.not_eq_true', beq_eq_false_iff_ne, ne_eq]; exact this
  · exact Bool.eq_false_iff.mpr fun hf => by have := (flush0_8 t).mp hf; omega
theorem leaves0_8_last (c : Dev nD) (t : Fin cfg0.N) (h9 : t.val = 9) : (dats m 0 c).leavesExact 8 t = owns (c : Thread nD τ) (ms0_8 t) fullShare (offAt m c) := by
  unfold Dat.leavesExact
  rw [show (cfg0.win 8).flush t = true from (flush0_8 t).mpr (by omega), after0_8]
  cases cfg0.idle 8 (cfg0.grid.coords t) <;> rfl
theorem leaves0_9_mid (c : Dev nD) (t : Fin cfg0.N) (h9 : t.val ≠ 9) : (dats m 0 c).leavesExact 9 t = iprop(∃ d, owns (c : Thread nD τ) (ms0_9 t) fullShare ((dats m 0 c).before 9 t d)) := by
  have hN : t.val < 10 := lt_of_lt_of_eq t.isLt (show cfg0.N = 10 from N_0)
  refine (dats m 0 c).leavesExact_idle 9 t ?_ ?_
  · rw [idle0_9]
    have : ¬ k0_cond2 (grid0.coords t) = 1#1 := fun e => h9 ((hcond2 _).mp e)
    simp only [Bool.not_eq_true', beq_eq_false_iff_ne, ne_eq]; exact this
  · exact Bool.eq_false_iff.mpr fun hf => by have := (flush0_9 t).mp hf; omega
theorem leaves0_9_last (c : Dev nD) (t : Fin cfg0.N) (h9 : t.val = 9) : (dats m 0 c).leavesExact 9 t = owns (c : Thread nD τ) (ms0_9 t) fullShare (amaxAt m c) := by
  unfold Dat.leavesExact
  rw [show (cfg0.win 9).flush t = true from (flush0_9 t).mpr (by omega), after0_9]
  cases cfg0.idle 9 (cfg0.grid.coords t) <;> rfl

set_option maxHeartbeats 4000000 in
/-- The body at the first point. -/
theorem body_at_first (c : Dev nD) (t : Fin cfg0.N) (hz : t.val = 0) :
    bodyPre m c t ⊢ wp frame (wpE (defs₀ (F := F)) Variants.none c none) Set.univ (bodyAt0 t) (fun _ => bodyPost m c t) := by
  have ht : t = pt0 := Fin.ext hz
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ, tmAt_zero m c t hz]
  rw [leaves0_0, leaves0_1, leaves0_2, leaves0_3, leaves0_4, leaves0_5_first m c t hz, leaves0_6_first m c t hz, leaves0_7_first m c t hz, leaves0_8_first m c t hz, leaves0_9_mid m c t (by omega)]
  rw [PhiS_castSucc m c t, PhiS_zero m c _ _ hz, PhiA0_eq]
  have hA : idsAt m c = iblk m c 0 t := by rw [ht]
  have hB : wordsAt m c = iblk m c 1 t := by rw [ht]
  have hC : histAt m c = iblk m c 2 t := by rw [ht]
  rw [body_first (F := F) (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond1 t).mpr hz), wp_bind]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (route (F := F) c Set.univ (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (idsAt m c) (wordsAt m c) (histAt m c) _)
  rw [hA, hB, hC]
  isplitl [H0]; · iexact H0
  isplitl [H1]; · iexact H1
  isplitl [H2]; · iexact H2
  isplitl [H5]; · iexists _; iexact H5
  isplitl [H6]; · iexists _; iexact H6
  isplitl [H7]; · iexists _; iexact H7
  isplitl [H8]; · iexists _; iexact H8
  isplitl [HS0]; · iexact HS0
  isplitl [HS1]; · iexact HS1
  isplitl [HS2]; · iexact HS2
  iintro ⟨H0, H1, H2, H5, H6, H7, H8, HS0, HS1, HS2⟩
  iapply (sweep_mid (F := F) c Set.univ (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => by have := (hcond2 t).mp h; omega) (iblk m c 3 t) _ _ _)
  isplitl [H3]; · iexact H3
  isplitl [H4]; · iexists _; iexact H4
  isplitl [HS0]; · iexact HS0
  isplitl [HS2]; · iexact HS2
  iintro ⟨H3, H4, HS0, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexists _; iexact H9

set_option maxHeartbeats 4000000 in
/-- The body at a point that is neither the first nor the last. -/
theorem body_at_mid (c : Dev nD) (t : Fin cfg0.N) (hz : t.val ≠ 0) (h9 : t.val ≠ 9) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ, tmAt_pos m c t hz]
  rw [leaves0_0, leaves0_1, leaves0_2, leaves0_3, leaves0_4, leaves0_5_mid m c t hz h9, leaves0_6_mid m c t hz h9, leaves0_7_mid m c t hz h9, leaves0_8_mid m c t hz h9, leaves0_9_mid m c t h9]
  rw [PhiS_castSucc m c t, PhiS_pos m c _ _ hz]
  rw [body_other (F := F) (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => hz ((hcond1 t).mp h))]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sweep_mid (F := F) c Set.univ (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h9 ((hcond2 t).mp h)) (iblk m c 3 t) _ _ _)
  isplitl [H3]; · iexact H3
  isplitl [H4]; · iexists _; iexact H4
  isplitl [HS0]; · iexact HS0
  isplitl [HS2]; · iexact HS2
  iintro ⟨H3, H4, HS0, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  iexists _; iexact H9

set_option maxHeartbeats 4000000 in
/-- The body at the last point. -/
theorem body_at_last (c : Dev nD) (t : Fin cfg0.N) (h9 : t.val = 9) :
    bodyPre m c t ⊢ wp frame (wpE (defs₀ (F := F)) Variants.none c none) Set.univ (bodyAt0 t) (fun _ => bodyPost m c t) := by
  have hz : t.val ≠ 0 := by omega
  have h10 : 8 + 1 < cfg0.N := by rw [show cfg0.N = 10 from N_0]; omega
  have ht : t = ⟨8 + 1, h10⟩ := Fin.ext h9
  unfold bodyPre bodyPost bodyAt0
  simp only [before0_0, before0_1, before0_2, before0_3]
  have b5 : ∀ d, (dats m 0 c).before 5 t d = scaleAt m c := fun d => by rw [ht]; exact before0_5 m c d 8 _
  have b6 : ∀ d, (dats m 0 c).before 6 t d = srcAt m c := fun d => by rw [ht]; exact before0_6 m c d 8 _
  have b7 : ∀ d, (dats m 0 c).before 7 t d = rwAt m c := fun d => by rw [ht]; exact before0_7 m c d 8 _
  have b8 : ∀ d, (dats m 0 c).before 8 t d = offAt m c := fun d => by rw [ht]; exact before0_8 m c d 8 _
  simp only [b5, b6, b7, b8]
  have hamax : amaxAt m c = k0_pay4 (tmAt m c t.val t.isLt) (memberAt m c) := by
    clear b5 b6 b7 b8
    obtain ⟨n, hn⟩ := t
    obtain rfl : n = 9 := h9
    rfl
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4, leaves0_5_last m c t h9, leaves0_6_last m c t h9, leaves0_7_last m c t h9, leaves0_8_last m c t h9, leaves0_9_last m c t h9]
  rw [hamax, tmAt_pos m c t hz]
  rw [PhiS_castSucc m c t, PhiS_pos m c _ _ hz]
  rw [body_other (F := F) (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => hz ((hcond1 t).mp h))]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sweep_last (F := F) c Set.univ (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond2 t).mpr h9) (iblk m c 3 t) _ _ _ _)
  isplitl [H3]; · iexact H3
  isplitl [H4]; · iexists _; iexact H4
  isplitl [H9]; · iexists _; iexact H9
  isplitl [HS0]; · iexact HS0
  isplitl [HS1]; · iexact HS1
  isplitl [HS2]; · iexact HS2
  iintro ⟨H3, H4, H9, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem sound_body (c : Dev nD) (t : Fin cfg0.N) :
    bodyPre m c t ⊢ wp frame (wpE (defs₀ (F := F)) Variants.none c none) Set.univ (bodyAt0 t) (fun _ => bodyPost m c t) := by
  by_cases hz : t.val = 0
  · exact body_at_first m c t hz
  · by_cases h9 : t.val = 9
    · exact body_at_last m c t h9
    · exact body_at_mid m c t hz h9

theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  have hN : cfg0.N = 10 := N_0
  rw [show (dats m 0 c).Φ (Fin.last cfg0.N) = PhiS m c (Fin.last cfg0.N).val (Nat.le_of_lt_succ (Fin.last cfg0.N).isLt) from rfl, PhiS_pos m c _ _ (by rw [Fin.val_last]; omega), PhiA0_eq]
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

set_option backward.isDefEq.respectTransparency.types false in
set_option maxHeartbeats 800000 in
/-- The launch: from any memory every core runs to the end, the buffers at what the proof data and the lines after the
    region say, and every semaphore counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track cfgs (dats m) (0 : Fin 1) launch0 defs₀ Variants.none m ρ main
    (hbody := fun c => (body_obligation m c).loose)
    (hshare := fun c => (dats m 0 c).share_full fun _ => rfl) (howed := fun _ _ => rfl)
    (V₀ := V0 m) (opss := [hostOps1]) (hsub := sfx_sub) (hfresh := sfx_fresh) (hkeep := sfx_keeps)
    (hmain := hmain m Variants.none) (hA := A_eq m) (hin := hin m) (hout := hout m)
    (Q' := _) (hQ' := fun _ h => h)

end Cert.KernelIdeal.Val

end
-- ==== Proof.Ranks.lean ====
/- Sorting by expert, counted. The choices are numbered through, six to a token, and sorted by expert and then by number. The
   place of a choice in that order is a sum of three counts: the choices of earlier tokens that name its expert, the choices of all
   tokens that name an expert below it, and the earlier choices of its own token that name its expert. -/
module

public import Idealize.ShloMosaic.Lib.SortFacts
public import Mathlib.Algebra.BigOperators.Fin
public import Mathlib.Algebra.BigOperators.Ring.Finset
public import Mathlib.Tactic.Ring
public import Mathlib.Data.Fintype.BigOperators

@[expose] public section

namespace Cert.Ranks

open Idealize.ShloMosaic Finset

/-! ## Sorted positions by count -/

/-- A sorted list's entry at position `p` has exactly `p` entries with smaller keys. -/
theorem card_lt_sortedFrom {n : ℕ} (K : Fin n → ℕ) (hK : Function.Injective K) (p : Fin n) :
    (univ.filter fun f => K f < K (sortedFrom (fun a b => decide (K a < K b)) p)).card = p.val := by
  have hmono : ∀ a b : Fin n, a < b → K (sortedFrom (fun a b => decide (K a < K b)) a) < K (sortedFrom (fun a b => decide (K a < K b)) b) := by
    intro a b hab
    have h := sortedFrom_noInversion (fun a b => decide (K a < K b)) (fun a b => decide (K a < K b))
      (fun a b h => by simp only [decide_eq_true_eq, decide_eq_false_iff_not] at h ⊢; omega) (fun _ _ h => h)
      (fun a b c h₁ h₂ => by simp only [decide_eq_false_iff_not] at h₁ h₂ ⊢; omega) a b hab
    simp only [decide_eq_false_iff_not, not_lt] at h
    refine lt_of_le_of_ne h fun h => ?_
    exact absurd (sortedFrom_injective _ (hK h)) (ne_of_lt hab)
  have hiff : ∀ a b : Fin n, K (sortedFrom (fun a b => decide (K a < K b)) a) < K (sortedFrom (fun a b => decide (K a < K b)) b) ↔ a < b := by
    intro a b
    refine ⟨fun h => ?_, hmono a b⟩
    by_contra hn
    rcases lt_or_eq_of_le (not_lt.mp hn) with h' | h'
    · exact absurd (hmono b a h') (by omega)
    · subst h'; exact absurd h (lt_irrefl _)
  have e : (univ.filter fun f => K f < K (sortedFrom (fun a b => decide (K a < K b)) p))
      = (univ.filter fun q : Fin n => q < p).map ⟨sortedFrom (fun a b => decide (K a < K b)), sortedFrom_injective _⟩ := by
    ext f
    obtain ⟨q, rfl⟩ := sortedFrom_surjective (fun a b => decide (K a < K b)) f
    simp only [mem_filter, mem_univ, true_and, mem_map, Function.Embedding.coeFn_mk, hiff]
    constructor
    · exact fun h => ⟨q, h, rfl⟩
    · rintro ⟨q', h, hq⟩
      rw [← sortedFrom_injective _ hq]; exact h
  rw [e, card_map]
  rw [show (univ.filter fun q : Fin n => q < p) = Iio p by ext; simp]
  exact Fin.card_Iio p

/-! ## The three counts -/

/-- The batch of a token. -/
def hi (t : Fin 256) : Fin 2 := ⟨t.val / 128, by omega⟩

/-- The place of a token in its batch. -/
def lo (t : Fin 256) : Fin 128 := ⟨t.val % 128, by omega⟩

/-- The token of choice number `f`. -/
def ftok (f : Fin 1536) : Fin 256 := ⟨f.val / 6, by omega⟩

/-- Which of its token's choices it is. -/
def fch (f : Fin 1536) : Fin 6 := ⟨f.val % 6, by omega⟩

variable (e : Fin 6 → Fin 256 → ℕ)

/-- The expert of choice number `f`. -/
def expert (f : Fin 1536) : ℕ := e ⟨f.val % 6, by omega⟩ ⟨f.val / 6, by omega⟩

/-- What the choices are sorted by. -/
def key (f : Fin 1536) : ℕ := expert e f * 1536 + f.val

theorem key_injective : Function.Injective (key e) := by
  intro a b h
  unfold key at h
  apply Fin.ext
  omega

/-- How many choices of a token name an expert. -/
def mem (c : ℕ) (t : Fin 256) : ℕ := ∑ k : Fin 6, if e k t = c then 1 else 0

/-- How many choices of a token name an expert below one. -/
def bel (c : ℕ) (t : Fin 256) : ℕ := ∑ k : Fin 6, if e k t < c then 1 else 0

/-- How many earlier choices of a token name the same expert. -/
def bump (k : Fin 6) (t : Fin 256) : ℕ := ∑ j : Fin 6, if j < k ∧ e j t = e k t then 1 else 0

/-- The place of a choice among all choices sorted by expert. -/
def rank (k : Fin 6) (t : Fin 256) : ℕ :=
  (∑ t' : Fin 256, if t' < t then mem e (e k t) t' else 0) + (∑ t' : Fin 256, bel e (e k t) t') + bump e k t

/-- Choice `k` of token `t` by its number. -/
def flat (k : Fin 6) (t : Fin 256) : Fin 1536 := ⟨6 * t.val + k.val, by omega⟩

theorem expert_flat (k : Fin 6) (t : Fin 256) : expert e (flat k t) = e k t := by
  unfold expert flat
  congr 1
  · apply Fin.ext; show (6 * t.val + k.val) % 6 = k.val; omega
  · apply Fin.ext; show (6 * t.val + k.val) / 6 = t.val; omega

/-- Numbers of choices as tokens with choices. -/
def flatEquiv : Fin 256 × Fin 6 ≃ Fin 1536 where
  toFun x := flat x.2 x.1
  invFun f := (⟨f.val / 6, by omega⟩, ⟨f.val % 6, by omega⟩)
  left_inv x := by
    apply Prod.ext
    · apply Fin.ext; show (6 * x.1.val + x.2.val) / 6 = x.1.val; omega
    · apply Fin.ext; show (6 * x.1.val + x.2.val) % 6 = x.2.val; omega
  right_inv f := by
    apply Fin.ext; show 6 * (f.val / 6) + f.val % 6 = f.val; omega

theorem sum_flat (g : Fin 1536 → ℕ) : ∑ f, g f = ∑ t : Fin 256, ∑ k : Fin 6, g (flat k t) := by
  rw [← Fintype.sum_prod_type', ← Equiv.sum_comp flatEquiv]
  rfl

theorem rank_eq_card (k : Fin 6) (t : Fin 256) : rank e k t = (univ.filter fun f => key e f < key e (flat k t)).card := by
  rw [card_filter, sum_flat]
  have h : ∀ (t' : Fin 256) (k' : Fin 6), (if key e (flat k' t') < key e (flat k t) then 1 else 0)
      = (if t' < t then (if e k' t' = e k t then 1 else 0) else 0) + (if e k' t' < e k t then 1 else 0)
        + (if t' = t then (if k' < k ∧ e k' t' = e k t then 1 else 0) else 0) := by
    intro t' k'
    unfold key
    rw [expert_flat, expert_flat]
    unfold flat
    dsimp only
    have := t.isLt; have := t'.isLt; have := k.isLt; have := k'.isLt
    by_cases h1 : e k' t' = e k t
    · rw [h1]
      simp only [lt_irrefl, if_false, and_true, if_true, add_zero]
      by_cases h2 : t' = t
      · subst h2
        simp only [lt_irrefl, if_false, if_true, zero_add]
        by_cases h3 : k' < k
        · have : k'.val < k.val := h3
          rw [if_pos (by omega), if_pos h3]
        · have : ¬ k'.val < k.val := h3
          rw [if_neg (by omega), if_neg h3]
      · rw [if_neg h2]
        have h2' : t'.val ≠ t.val := fun h => h2 (Fin.ext h)
        by_cases h3 : t' < t
        · have : t'.val < t.val := h3
          rw [if_pos (by omega), if_pos h3]
        · have : ¬ t'.val < t.val := h3
          rw [if_neg (by omega), if_neg h3]
    · simp only [h1, if_false, and_false, ite_self, zero_add, add_zero]
      by_cases h2 : e k' t' < e k t
      · rw [if_pos (by omega), if_pos h2]
      · rw [if_neg (by omega), if_neg h2]
  simp only [h, sum_add_distrib]
  unfold rank mem bel bump
  refine congrArg₂ (· + ·) (congrArg₂ (· + ·) (sum_congr rfl fun t' _ => ?_) rfl) ?_
  · by_cases h1 : t' < t
    · simp only [if_pos h1]
    · simp only [if_neg h1, sum_const_zero]
  · refine Eq.symm ((sum_eq_single t (fun b _ hb => ?_) fun hb => absurd (mem_univ t) hb).trans ?_)
    · simp only [if_neg hb, sum_const_zero]
    · simp only [if_true]

/-! ## The sorted order -/

/-- The number of the choice at place `p` of the sorted order. -/
def srt (p : Fin 1536) : Fin 1536 := sortedFrom (fun a b => decide (key e a < key e b)) p

/-- Its token. -/
def tokAt (p : Fin 1536) : Fin 256 := ⟨(srt e p).val / 6, by omega⟩

/-- Which of its token's choices it is. -/
def chAt (p : Fin 1536) : Fin 6 := ⟨(srt e p).val % 6, by omega⟩

theorem flat_at (p : Fin 1536) : flat (chAt e p) (tokAt e p) = srt e p := by
  apply Fin.ext
  show 6 * ((srt e p).val / 6) + (srt e p).val % 6 = (srt e p).val
  omega

/-- The expert at place `p`. -/
def expAt (p : Fin 1536) : ℕ := e (chAt e p) (tokAt e p)

theorem expAt_eq (p : Fin 1536) : expAt e p = expert e (srt e p) := rfl

theorem rank_at (p : Fin 1536) : rank e (chAt e p) (tokAt e p) = p.val := by
  rw [rank_eq_card, flat_at]
  exact card_lt_sortedFrom (key e) (key_injective e) p

theorem rank_lt (k : Fin 6) (t : Fin 256) : rank e k t < 1536 := by
  rw [rank_eq_card]
  have h := card_lt_univ_of_notMem (s := univ.filter fun f => key e f < key e (flat k t)) (x := flat k t)
    (fun hm => absurd (mem_filter.mp hm).2 (lt_irrefl _))
  rwa [Fintype.card_fin] at h

/-- A place belongs to one choice only. -/
theorem rank_eq_iff (k : Fin 6) (t : Fin 256) (p : Fin 1536) : rank e k t = p.val ↔ k = chAt e p ∧ t = tokAt e p := by
  constructor
  · intro h
    obtain ⟨q, hq⟩ := sortedFrom_surjective (fun a b => decide (key e a < key e b)) (flat k t)
    have h2 : flat k t = flat (chAt e q) (tokAt e q) := by rw [flat_at]; exact hq.symm
    have h3 := flatEquiv.injective (a₁ := (t, k)) (a₂ := (tokAt e q, chAt e q)) h2
    obtain ⟨h4, h5⟩ := Prod.mk.inj h3
    have h6 : q = p := by
      apply Fin.ext
      rw [← h, h4, h5, rank_at]
    rw [← h6]; exact ⟨h5, h4⟩
  · rintro ⟨rfl, rfl⟩; exact rank_at e p

end Cert.Ranks
-- ==== Proof.KIn.lean ====
/- What the kernel's input windows hold, element by element, of the argument arrays as launched. -/
module

public import proofs.«01_k».proof.Proof.KBody
public import proofs.«01_k».proof.Proof.Ranks
public import Idealize.ShloMosaic.Lib.Pointwise
public import Idealize.ShloMosaic.Lib.Pipeline.ValueKit.Geometry
public import Idealize.ShloMosaic.Lib.StableHlo.Run
public import Idealize.ShloMosaic.Lib.Claim

@[expose] public section

set_option maxRecDepth 16384

noncomputable section

namespace Cert.KernelIdeal.Val

open Idealize.ShloMosaic Idealize.ShloMosaic.TcCoe Idealize.ShloMosaic.Pointwise
open Idealize.SL.Sem
open Cert.KernelIdeal.Gen
open Cert.Ranks

variable {F : FTy → Type} [FloatOps F]
variable (m : (ℓ : Loc nD τ sig) → Buf (Elt F) ℓ)

/-! ## The host lines before the region -/

theorem V_v0 (c : Dev nD) : V m c main_v0 = transpose S6x2x128 [2, 0, 1] (m ((c : Thread nD τ).loc main_arg1)) transposes_S2x128x6_S6x2x128_2_0_1 := by
  show StableHlo.after hostOps0 (fun b => m (c, b)) (Proc.devRef .tc main_v0) = _
  unfold hostOps0
  after_results

theorem V_v1 (c : Dev nD) : V m c main_v1 = transpose S6x2x128 [2, 0, 1] (m ((c : Thread nD τ).loc main_arg2)) transposes_S2x128x6_S6x2x128_2_0_1 := by
  show StableHlo.after hostOps0 (fun b => m (c, b)) (Proc.devRef .tc main_v1) = _
  unfold hostOps0
  after_results

theorem V_v2 (c : Dev nD) : V m c main_v2 = transpose S16x160 [1, 0] (m ((c : Thread nD τ).loc main_arg3)) transposes_S160x16_S16x160_1_0 := by
  show StableHlo.after hostOps0 (fun b => m (c, b)) (Proc.devRef .tc main_v2) = _
  unfold hostOps0
  after_results

theorem V_v3 (c : Dev nD) : V m c main_v3 = shapeCast _ (m ((c : Thread nD τ).loc main_arg0)) shapeCasts_S2x128x5120_S256x5120 := by
  show StableHlo.after hostOps0 (fun b => m (c, b)) (Proc.devRef .tc main_v3) = _
  unfold hostOps0
  after_results
  try rfl

/-! ## The windows' block indices -/

theorem idx0 : ∀ t : Fin cfg0.N, win0_0.index t = ![0, 0, 0] := (by decide +kernel : ∀ t : Fin grid0.N, _)
theorem idx1 : ∀ t : Fin cfg0.N, win0_1.index t = ![0, 0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, t.val] := (by decide +kernel : ∀ t : Fin grid0.N, _)

/-! ## The inputs -/

/-- The ids' window holds choice `k` of token `128·h + l` at `(k, h, l)`. -/
theorem ids_apply (c : Dev nD) (k : Fin 6) (h : Fin 2) (l : Fin 128) :
    idsAt m c (ix3 k h l) = m ((c : Thread nD τ).loc main_arg1) (ix3 h l k) := by
  have e : idsAt m c (ix3 k h l) = V m c main_v0 (ix3 k h l) := by
    unfold idsAt
    blk_simp [iblk]
    congr 1
    blk_ext [idx0]
  rw [e, V_v0]
  pointwise

theorem words_apply (c : Dev nD) (k : Fin 6) (h : Fin 2) (l : Fin 128) :
    wordsAt m c (ix3 k h l) = m ((c : Thread nD τ).loc main_arg2) (ix3 h l k) := by
  have e : wordsAt m c (ix3 k h l) = V m c main_v1 (ix3 k h l) := by
    unfold wordsAt
    blk_simp [iblk]
    congr 1
    blk_ext [idx1]
  rw [e, V_v1]
  pointwise

theorem hist_apply (c : Dev nD) (h : Fin 16) (x : Fin 160) :
    histAt m c (ix2 h x) = m ((c : Thread nD τ).loc main_arg3) (ix2 x h) := by
  have e : histAt m c (ix2 h x) = V m c main_v2 (ix2 h x) := by
    unfold histAt
    blk_simp [iblk]
    congr 1
    blk_ext [idx2]
  rw [e, V_v2]
  pointwise

/-- Point `t` finds columns `512·t` to `512·t + 511` of the tokens. -/
theorem x_apply (c : Dev nD) (t : Fin cfg0.N) (r : Fin 256) (j : Fin 512) (d : Fin 5120) (hd : d.val = t.val * 512 + j.val) :
    (iblk m c 3 t : Vec F S256x512 .bf16) (ix2 r j) = m ((c : Thread nD τ).loc main_arg0) (ix3 (hi r) (lo r) d) := by
  have e : (iblk m c 3 t : Vec F S256x512 .bf16) (ix2 r j) = V m c main_v3 (ix2 r d) := by
    blk_simp [iblk]
    congr 1
    blk_ext [idx3]
  rw [e, V_v3]
  refine shapeCast_apply _ _ _ _ ?_
  refine (Shape.rowMajor_val_three (d := ![2, 128, 5120]) _).trans (Eq.trans ?_ (Shape.rowMajor_val_two (d := ![256, 5120]) _).symm)
  show ((hi r).val * 128 + (lo r).val) * 5120 + d.val = r.val * 5120 + d.val
  simp only [hi, lo]
  omega

end Cert.KernelIdeal.Val

end
-- ==== Proof.KRun.lean ====
/- The kernel's run: what each result array holds at the end. -/
module

public import proofs.«01_k».proof.Proof.KBody
public import Idealize.ShloMosaic.Lib.Pointwise
public import Idealize.ShloMosaic.Lib.Pipeline.ValueKit.Geometry
public import Idealize.ShloMosaic.Lib.StableHlo.Run
public import Idealize.ShloMosaic.Lib.Claim

@[expose] public section

set_option maxRecDepth 16384

noncomputable section

namespace Cert.KernelIdeal.Val

open Idealize.ShloMosaic Idealize.ShloMosaic.TcCoe Idealize.ShloMosaic.Pointwise
open Idealize.SL.Sem
open Cert.KernelIdeal.Gen
open Idealize.ShloMosaic.Pipeline (Dat)

variable {F : FTy → Type} [FloatOps F]
variable (m : (ℓ : Loc nD τ sig) → Buf (Elt F) ℓ) (ρ : Dev nD → PrngReg)

/-! ## The arrays the windows write back -/

theorem idx4 : ∀ t : Fin cfg0.N, win0_4.index t = ![0, t.val] := (by decide +kernel : ∀ t : Fin grid0.N, _)

/-- The last grid point, where the small results are written back. -/
abbrev pt9 : Fin cfg0.N := ⟨9, by rw [show cfg0.N = 10 from N_0]; omega⟩

/-- The grid point that writes column `d` of the codes, and the column within its block. -/
def ptOf (d : Fin 5120) : Fin cfg0.N := ⟨d.val / 512, by rw [show cfg0.N = 10 from N_0]; have := d.isLt; omega⟩
def inOf (d : Fin 5120) : Fin 512 := ⟨d.val % 512, Nat.mod_lt _ (by omega)⟩

/-- The codes as one array: column `d` is the column of the point that covers it. -/
def codesOf (c : Dev nD) : Vec F S1536x5120 .fp8e4m3 := fun i =>
  codesAt m c (ptOf (i 1)) (ix2 (i 0) (inOf (i 1)))

theorem arr4 (c : Dev nD) : (dats m 0 c).arrAt 4 cfg0.N = codesOf m c := by
  refine (dats m 0 c).arrAt_eq_of_covers 4 (codesOf m c) (by decide +kernel) fun t hf y => ?_
  blk_simp
  rw [after0_4]
  have h0 : ((win0_4.blk t).view.emb y 0 : Fin 1536) = y 0 := Fin.ext (by blk_simp [idx4])
  have hy : (y 1).val < 512 := (y 1).isLt
  have h1 : ((win0_4.blk t).view.emb y 1 : Fin 5120).val = t.val * 512 + (y 1).val := by blk_simp [idx4]
  have hp : ptOf ((win0_4.blk t).view.emb y 1) = t := Fin.ext (by show _ / 512 = _; rw [h1]; omega)
  have hi : inOf ((win0_4.blk t).view.emb y 1) = y 1 := Fin.ext (by show _ % 512 = _; rw [h1]; omega)
  unfold codesOf
  rw [hp, hi, h0]
  exact congrArg _ (funext fun a => by fin_cases a <;> rfl)

theorem arr5 (c : Dev nD) : (dats m 0 c).arrAt 5 cfg0.N = scaleAt m c :=
  (dats m 0 c).arrAt_eq_of_after_last 5 pt9 (by decide +kernel) (scaleAt m c) fun j => by
    rw [after0_5]; generalize scaleAt m c = y; rfl
theorem arr6 (c : Dev nD) : (dats m 0 c).arrAt 6 cfg0.N = srcAt m c :=
  (dats m 0 c).arrAt_eq_of_after_last 6 pt9 (by decide +kernel) (srcAt m c) fun j => by
    rw [after0_6]; generalize srcAt m c = y; rfl
theorem arr7 (c : Dev nD) : (dats m 0 c).arrAt 7 cfg0.N = rwAt m c :=
  (dats m 0 c).arrAt_eq_of_after_last 7 pt9 (by decide +kernel) (rwAt m c) fun j => by
    rw [after0_7]; generalize rwAt m c = y; rfl
theorem arr8 (c : Dev nD) : (dats m 0 c).arrAt 8 cfg0.N = offAt m c :=
  (dats m 0 c).arrAt_eq_of_after_last 8 pt9 (by decide +kernel) (offAt m c) fun j => by
    rw [after0_8]; generalize offAt m c = y; rfl
theorem arr9 (c : Dev nD) : (dats m 0 c).arrAt 9 cfg0.N = amaxAt m c :=
  (dats m 0 c).arrAt_eq_of_after_last 9 pt9 (by decide +kernel) (amaxAt m c) fun j => by
    rw [after0_9]; generalize amaxAt m c = y; rfl

/-! ## The host lines after the region -/

/-- The contents of the buffers when the region ends. -/
abbrev Vend (c : Dev nD) : Valuation τ sig (Elt F) :=
  Pipeline.withArrays (cfgs 0).spec c (V0 m c) fun w => (dats m 0 c).arrAt w (cfgs 0).N

theorem Vend5 (c : Dev nD) : Vend m c (Proc.devRef .tc main_v4_1) = scaleAt m c :=
  (Pipeline.withArrays_arr spec0 (by decide +kernel) c (V0 m c) _ 5).trans (arr5 m c)
theorem Vend6 (c : Dev nD) : Vend m c (Proc.devRef .tc main_v4_2) = srcAt m c :=
  (Pipeline.withArrays_arr spec0 (by decide +kernel) c (V0 m c) _ 6).trans (arr6 m c)
theorem Vend7 (c : Dev nD) : Vend m c (Proc.devRef .tc main_v4_3) = rwAt m c :=
  (Pipeline.withArrays_arr spec0 (by decide +kernel) c (V0 m c) _ 7).trans (arr7 m c)
theorem Vend8 (c : Dev nD) : Vend m c (Proc.devRef .tc main_v4_4) = offAt m c :=
  (Pipeline.withArrays_arr spec0 (by decide +kernel) c (V0 m c) _ 8).trans (arr8 m c)
theorem Vend9 (c : Dev nD) : Vend m c (Proc.devRef .tc main_v4_5) = amaxAt m c :=
  (Pipeline.withArrays_arr spec0 (by decide +kernel) c (V0 m c) _ 9).trans (arr9 m c)

theorem Vend4 (c : Dev nD) : Vend m c (Proc.devRef .tc main_v4_0) = codesOf m c :=
  (Pipeline.withArrays_arr spec0 (by decide +kernel) c (V0 m c) _ 4).trans (arr4 m c)

/-- The results as the host lines make them of the arrays: a reshape, and for the last two a cut. -/
def flat1 (x : Vec F S1x160 .f32) : Vec F S160 .f32 := shapeCast S160 x shapeCasts_S1x160_S160
def flat2 (x : Vec F S12x128 .i32) : Vec F S1536 .i32 := shapeCast S1536 x shapeCasts_S12x128_S1536
def flat3 (x : Vec F S12x128 .f32) : Vec F S1536 .f32 := shapeCast S1536 x shapeCasts_S12x128_S1536
def flat4 (x : Vec F S1x168 .i32) : Vec F S161 .i32 :=
  extractStridedSlice S161 ![0] (shapeCast S168 x shapeCasts_S1x168_S168) slices_S168_S161_0
def flat5 (x : Vec F S1x168 .f32) : Vec F S160 .f32 :=
  extractStridedSlice S160 ![0] (shapeCast S168 x shapeCasts_S1x168_S168) slices_S168_S160_0

theorem tail5 (W : Valuation τ sig (Elt F)) : StableHlo.after hostOps1 W (Proc.devRef .tc main_v5)
    = flat1 (W (Proc.devRef .tc main_v4_1)) := by
  unfold hostOps1 flat1
  after_results
  rfl
theorem tail6 (W : Valuation τ sig (Elt F)) : StableHlo.after hostOps1 W (Proc.devRef .tc main_v6)
    = flat2 (W (Proc.devRef .tc main_v4_2)) := by
  unfold hostOps1 flat2
  after_results
  rfl
theorem tail7 (W : Valuation τ sig (Elt F)) : StableHlo.after hostOps1 W (Proc.devRef .tc main_v7)
    = flat3 (W (Proc.devRef .tc main_v4_3)) := by
  unfold hostOps1 flat3
  after_results
  rfl
theorem tail9 (W : Valuation τ sig (Elt F)) : StableHlo.after hostOps1 W (Proc.devRef .tc main_v9)
    = flat4 (W (Proc.devRef .tc main_v4_4)) := by
  unfold hostOps1 flat4
  after_results
  try rfl
theorem tail11 (W : Valuation τ sig (Elt F)) : StableHlo.after hostOps1 W (Proc.devRef .tc main_v11)
    = flat5 (W (Proc.devRef .tc main_v4_5)) := by
  unfold hostOps1 flat5
  after_results
  try rfl

/-! ## The run -/

theorem end1 (c : Dev nD) : Pipeline.afterTail₀ cfgs (dats m) 0 (V0 m) [hostOps1] c main_v5 = flat1 (scaleAt m c) :=
  (tail5 (Vend m c)).trans (congrArg flat1 (Vend5 m c))
theorem end2 (c : Dev nD) : Pipeline.afterTail₀ cfgs (dats m) 0 (V0 m) [hostOps1] c main_v6 = flat2 (srcAt m c) :=
  (tail6 (Vend m c)).trans (congrArg flat2 (Vend6 m c))
theorem end3 (c : Dev nD) : Pipeline.afterTail₀ cfgs (dats m) 0 (V0 m) [hostOps1] c main_v7 = flat3 (rwAt m c) :=
  (tail7 (Vend m c)).trans (congrArg flat3 (Vend7 m c))
theorem end4 (c : Dev nD) : Pipeline.afterTail₀ cfgs (dats m) 0 (V0 m) [hostOps1] c main_v9 = flat4 (offAt m c) :=
  (tail9 (Vend m c)).trans (congrArg flat4 (Vend8 m c))
theorem end5 (c : Dev nD) : Pipeline.afterTail₀ cfgs (dats m) 0 (V0 m) [hostOps1] c main_v11 = flat5 (amaxAt m c) :=
  (tail11 (Vend m c)).trans (congrArg flat5 (Vend9 m c))

/-- The kernel ends with its arguments unchanged and every semaphore counter at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r hr => ⟨fun c =>
      ⟨((hr.1 c).2 main_arg0 (Pipeline.mem_restRefs_of main_arg0 (by decide) (by decide))).trans (W_main_arg0 m (dats m) c),
        ((hr.1 c).2 main_arg1 (Pipeline.mem_restRefs_of main_arg1 (by decide) (by decide))).trans (W_main_arg1 m (dats m) c),
        ((hr.1 c).2 main_arg2 (Pipeline.mem_restRefs_of main_arg2 (by decide) (by decide))).trans (W_main_arg2 m (dats m) c),
        ((hr.1 c).2 main_arg3 (Pipeline.mem_restRefs_of main_arg3 (by decide) (by decide))).trans (W_main_arg3 m (dats m) c)⟩, hr.2⟩)
    (run_main m ρ)

/-- The kernel ends with each result at the array above, and its arguments unchanged. -/
theorem run : θ_run defs (onTc (τ := τ) (main (F := F))) ⟨m, fun _ => 0, ρ⟩ (fun r => ∀ c : Dev nD,
      r.2.mem ((c.tc : Thread nD τ).loc main_v4_0) = codesOf m c
      ∧ r.2.mem ((c.tc : Thread nD τ).loc main_v5) = flat1 (scaleAt m c)
      ∧ r.2.mem ((c.tc : Thread nD τ).loc main_v6) = flat2 (srcAt m c)
      ∧ r.2.mem ((c.tc : Thread nD τ).loc main_v7) = flat3 (rwAt m c)
      ∧ r.2.mem ((c.tc : Thread nD τ).loc main_v9) = flat4 (offAt m c)
      ∧ r.2.mem ((c.tc : Thread nD τ).loc main_v11) = flat5 (amaxAt m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r hr c =>
      ⟨((hr.1 c).1 4).trans (arr4 m c),
        ((hr.1 c).2 main_v5 (Pipeline.mem_restRefs_of main_v5 (by decide) (by decide))).trans (end1 m c),
        ((hr.1 c).2 main_v6 (Pipeline.mem_restRefs_of main_v6 (by decide) (by decide))).trans (end2 m c),
        ((hr.1 c).2 main_v7 (Pipeline.mem_restRefs_of main_v7 (by decide) (by decide))).trans (end3 m c),
        ((hr.1 c).2 main_v9 (Pipeline.mem_restRefs_of main_v9 (by decide) (by decide))).trans (end4 m c),
        ((hr.1 c).2 main_v11 (Pipeline.mem_restRefs_of main_v11 (by decide) (by decide))).trans (end5 m c),
        ((hr.1 c).2 main_arg0 (Pipeline.mem_restRefs_of main_arg0 (by decide) (by decide))).trans (W_main_arg0 m (dats m) c),
        ((hr.1 c).2 main_arg1 (Pipeline.mem_restRefs_of main_arg1 (by decide) (by decide))).trans (W_main_arg1 m (dats m) c),
        ((hr.1 c).2 main_arg2 (Pipeline.mem_restRefs_of main_arg2 (by decide) (by decide))).trans (W_main_arg2 m (dats m) c),
        ((hr.1 c).2 main_arg3 (Pipeline.mem_restRefs_of main_arg3 (by decide) (by decide))).trans (W_main_arg3 m (dats m) c)⟩)
    (run_main m ρ)

end Cert.KernelIdeal.Val

end
-- ==== Proof.KIds.lean ====
/- The rows of expert ids read at a token, and the two counts that the routing makes of them: how many choices of a token are
   an expert, and how many lie below it. -/
module

public import proofs.«01_k».proof.Proof.KVals
public import Idealize.ShloMosaic.Lib.Pointwise
public import Idealize.ShloMosaic.Lib.Routing.BitFacts

@[expose] public section

set_option maxRecDepth 16384

noncomputable section

namespace Cert.KernelIdeal.Ids

open Idealize.ShloMosaic Idealize.ShloMosaic.Pointwise
open Cert.KernelIdeal Cert.KernelIdeal.Gen Cert.KernelIdeal.Val

/-- Entry `(k, t)` of an array of choices by token, the tokens numbered through. -/
def wid (x0 : Vec Ideal S6x2x128 .i32) (k : Fin 6) (t : Fin 256) : BitVec 32 :=
  x0 (ix3 k ⟨t.val / 128, by omega⟩ ⟨t.val % 128, by omega⟩)

theorem wid_halves (x0 : Vec Ideal S6x2x128 .i32) (k : Fin 6) (t : Fin 256) :
    (if h : t.val < 128 then x0 (ix3 k 0 ⟨t.val, h⟩) else x0 (ix3 k 1 ⟨t.val - 128, by omega⟩)) = wid x0 k t := by
  unfold wid
  split
  · rename_i h
    congr 1; apply congrArg₂ (ix3 k)
    · apply Fin.ext; show 0 = t.val / 128; omega
    · apply Fin.ext; show t.val = t.val % 128; omega
  · rename_i h
    congr 1; apply congrArg₂ (ix3 k)
    · apply Fin.ext; show 1 = t.val / 128; omega
    · apply Fin.ext; show t.val - 128 = t.val % 128; omega

theorem v36_apply (x0 : Vec Ideal S6x2x128 .i32) (t : Fin 256) : v36 x0 (ix2 0 t) = wid x0 0 t := by
  pointwise [v36, k0_pay5, i0]
  exact wid_halves x0 0 t

theorem v41_apply (x0 : Vec Ideal S6x2x128 .i32) (t : Fin 256) : v41 x0 (ix2 0 t) = wid x0 1 t := by
  pointwise [v41, k0_pay6, i1]
  exact wid_halves x0 1 t

theorem v46_apply (x0 : Vec Ideal S6x2x128 .i32) (t : Fin 256) : v46 x0 (ix2 0 t) = wid x0 2 t := by
  pointwise [v46, k0_pay7, i2]
  exact wid_halves x0 2 t

theorem v51_apply (x0 : Vec Ideal S6x2x128 .i32) (t : Fin 256) : v51 x0 (ix2 0 t) = wid x0 3 t := by
  pointwise [v51, k0_pay8, i3]
  exact wid_halves x0 3 t

theorem v56_apply (x0 : Vec Ideal S6x2x128 .i32) (t : Fin 256) : v56 x0 (ix2 0 t) = wid x0 4 t := by
  pointwise [v56, k0_pay9, i4]
  exact wid_halves x0 4 t

theorem v61_apply (x0 : Vec Ideal S6x2x128 .i32) (t : Fin 256) : v61 x0 (ix2 0 t) = wid x0 5 t := by
  pointwise [v61, k0_pay10, i5]
  exact wid_halves x0 5 t

/-- One for a true word, zero for a false one. -/
theorem select_one_zero (p : Prop) [Decidable p] : Scalar.select (BitVec.ofBool (decide p)) (1 : EReal) 0 = ((if p then 1 else 0 : ℕ) : EReal) := by
  by_cases h : p <;> simp [h, Scalar.select]

section
variable {x0 : Vec Ideal S6x2x128 .i32} {e : Fin 6 → Fin 256 → ℕ}
  (he : ∀ k t, wid x0 k t = BitVec.ofNat 32 (e k t)) (hlt : ∀ k t, e k t < 160)
include he hlt

theorem hit (k : Fin 6) (t : Fin 256) (c : ℕ) (hc : c < 2 ^ 31) :
    IntOp.cmpi .eq (wid x0 k t) (BitVec.ofNat 32 c) = BitVec.ofBool (decide (e k t = c)) := by
  have := hlt k t
  rw [he]
  show BitVec.ofBool (BitVec.ofNat 32 (e k t) == BitVec.ofNat 32 c) = _
  congr 1
  rw [Bool.eq_iff_iff]
  simp only [beq_iff_eq, decide_eq_true_eq]
  constructor
  · intro h
    have := congrArg BitVec.toNat h
    simp only [BitVec.toNat_ofNat] at this
    omega
  · intro h; rw [h]

theorem under (k : Fin 6) (t : Fin 256) (c : ℕ) (hc : c < 2 ^ 31) :
    IntOp.cmpi .slt (wid x0 k t) (BitVec.ofNat 32 c) = BitVec.ofBool (decide (e k t < c)) := by
  have := hlt k t
  rw [he]
  show BitVec.ofBool ((BitVec.ofNat 32 (e k t)).slt (BitVec.ofNat 32 c)) = _
  rw [Routing.slt_ofNat32 (by omega) hc]

theorem member_apply (c : Fin 168) (t : Fin 256) :
    v137 x0 (ix2 c t) = ((∑ k : Fin 6, if e k t = c.val then 1 else 0 : ℕ) : EReal) := by
  have hc : c.val < 2 ^ 31 := by omega
  have e36 : ∀ y, k0_pay5 (F := Ideal) (i0 x0) y = v36 x0 y := fun _ => rfl
  pointwise [v137, k0_pay17, v106, k0_pay14, v69, k0_pay13, v114, k0_pay16, v63, k0_pay11, v62, e36, v36_apply, v41_apply, v46_apply, v51_apply, v56_apply, v61_apply]
  simp only [hit he hlt _ _ _ hc, select_one_zero]
  rw [Nat.cast_sum, Fin.sum_univ_six]

theorem below_apply (c : Fin 168) (t : Fin 256) :
    v138 x0 (ix2 c t) = ((∑ k : Fin 6, if e k t < c.val then 1 else 0 : ℕ) : EReal) := by
  have hc : c.val < 2 ^ 31 := by omega
  pointwise [v138, k0_pay18, v112, k0_pay15, v64, k0_pay12, v62, v36_apply, v41_apply, v46_apply, v51_apply, v56_apply, v61_apply]
  simp only [under he hlt _ _ _ hc, select_one_zero]
  rw [Nat.cast_sum, Fin.sum_univ_six]
end

end Cert.KernelIdeal.Ids
-- ==== Proof.Nats.lean ====
/- Natural numbers inside the extended reals and inside 32-bit words: the conversions between the two are exact, and sums that are
   cut in equal pieces or hold a single nonzero term. -/
module

public import Idealize.ShloMosaic.Lib.Pointwise
public import Idealize.ShloMosaic.Lib.Routing.BitFacts

@[expose] public section

noncomputable section

namespace Cert.Nats

open Idealize.ShloMosaic

theorem nat_coe (n : ℕ) : ((n : ℕ) : EReal) = ((n : ℝ) : EReal) := rfl

theorem fptosi_nat (n : ℕ) (h : n < 2 ^ 31) : Ideal.fptosi 32 ((n : ℕ) : EReal) = BitVec.ofNat 32 n := by
  rw [nat_coe, Ideal.fptosi, Ideal.toIntClamped_coe, if_pos (Nat.cast_nonneg n), Int.floor_natCast]
  rw [min_eq_right (by push_cast; omega), max_eq_right (by push_cast; omega)]
  rfl

theorem sitofp_nat (φ : FTy) (n : ℕ) (h : n < 2 ^ 31) : FloatOps.sitofp (F := Ideal) φ (BitVec.ofNat 32 n) = ((n : ℕ) : EReal) := by
  show (((BitVec.ofNat 32 n).toInt : ℝ) : EReal) = _
  have : (BitVec.ofNat 32 n).toInt = (n : ℤ) := by
    rw [BitVec.toInt_eq_toNat_of_msb (Routing.msb_ofNat32 h), BitVec.toNat_ofNat, Nat.mod_eq_of_lt (by omega)]
  rw [this, nat_coe]
  push_cast
  rfl

theorem ofBits_2048 : Ideal.ofBits .bf16 17664#16 = ((2048 : ℕ) : EReal) := by
  rw [nat_coe]
  simp [Ideal.ofBits, Ideal.ieee, -EReal.coe_mul]
  norm_num

theorem select_nat (p : Prop) [Decidable p] (a : ℕ) : Scalar.select (BitVec.ofBool (decide p)) ((a : ℕ) : EReal) 0 = ((if p then a else 0 : ℕ) : EReal) := by
  by_cases h : p <;> simp [h, Scalar.select]

theorem cmp_eq (a b : ℕ) (ha : a < 2 ^ 32) (hb : b < 2 ^ 32) :
    IntOp.cmpi .eq (BitVec.ofNat 32 a) (BitVec.ofNat 32 b) = BitVec.ofBool (decide (a = b)) := by
  show BitVec.ofBool (BitVec.ofNat 32 a == BitVec.ofNat 32 b) = _
  congr 1
  rw [Bool.eq_iff_iff]
  simp only [beq_iff_eq, decide_eq_true_eq]
  constructor
  · intro h
    have := congrArg BitVec.toNat h
    simp only [BitVec.toNat_ofNat] at this
    omega
  · intro h; rw [h]

theorem cmp_slt (a b : ℕ) (ha : a < 2 ^ 31) (hb : b < 2 ^ 31) :
    IntOp.cmpi .slt (BitVec.ofNat 32 a) (BitVec.ofNat 32 b) = BitVec.ofBool (decide (a < b)) := by
  show BitVec.ofBool ((BitVec.ofNat 32 a).slt (BitVec.ofNat 32 b)) = _
  rw [Routing.slt_ofNat32 ha hb]

/-- A sum over 768 terms, cut in three. -/
theorem sum_three {M : Type} [AddCommMonoid M] (f : Fin 768 → M) :
    ∑ i, f i = (∑ i : Fin 256, f ⟨i.val, by omega⟩) + (∑ i : Fin 256, f ⟨256 + i.val, by omega⟩) + ∑ i : Fin 256, f ⟨512 + i.val, by omega⟩ := by
  have h1 := Fin.sum_univ_add (a := 512) (b := 256) f
  have h2 := Fin.sum_univ_add (a := 256) (b := 256) fun i => f (Fin.castAdd 256 i)
  rw [h1, h2]
  rfl

/-- The product of two conditional terms that are zero off their conditions. -/
theorem select_mul (p q : Prop) [Decidable p] [Decidable q] (a : EReal) :
    Scalar.select (BitVec.ofBool (decide p)) a 0 * Scalar.select (BitVec.ofBool (decide q)) 1 0 = if p ∧ q then a else 0 := by
  by_cases h : p <;> by_cases h' : q <;> simp [h, h', Scalar.select]

end Cert.Nats
-- ==== Proof.KDest.lean ====
/- The product that places the choices: at an expert and a token, the choices of earlier tokens for the expert, plus all choices
   for experts below it, plus 2048 times the number that stands for the expert's scale. -/
module

public import proofs.«01_k».proof.Proof.KIds
public import proofs.«01_k».proof.Proof.Ranks
public import proofs.«01_k».proof.Proof.Nats

@[expose] public section

set_option maxRecDepth 16384

noncomputable section

namespace Cert.KernelIdeal.Ids

open Idealize.ShloMosaic Idealize.ShloMosaic.Pointwise
open Cert.KernelIdeal Cert.KernelIdeal.Gen Cert.KernelIdeal.Val Cert.Ranks

variable {x0 : Vec Ideal S6x2x128 .i32} {x2 : Vec Ideal S16x160 .f32} {e : Fin 6 → Fin 256 → ℕ} {kf : ℕ → ℕ}
  (he : ∀ k t, wid x0 k t = BitVec.ofNat 32 (e k t)) (hlt : ∀ k t, e k t < 160)
  (hk : ∀ c : Fin 160, v164 x2 (ix2 0 c) + 126#32 = BitVec.ofNat 32 (kf c.val)) (hk2 : ∀ c, kf c < 256)

include he hlt in
theorem offsets_apply (c : Fin 168) : v192 x0 (ix2 0 c) = ((∑ t : Fin 256, bel e c.val t : ℕ) : EReal) := by
  pointwise [v192, k0_pay22, below_apply he hlt]
  rw [Nat.cast_sum]; rfl

include he hlt hk hk2 in
theorem dest_apply (c : Fin 168) (t : Fin 256) :
    v189 x0 x2 (ix2 c t) = (((∑ t' : Fin 256, if t' < t then mem e c.val t' else 0) + (∑ t' : Fin 256, bel e c.val t')
      + (if c.val < 160 then kf c.val * 2048 else 0) : ℕ) : EReal) := by
  have hc : c.val < 168 := c.isLt
  have ht : t.val < 256 := t.isLt
  have hpay : ∀ y, k0_pay20 (v158 x2) y = v164 x2 y := fun _ => rfl
  pointwise [v189, k0_pay21, member_apply he hlt, below_apply he hlt]
  rw [Nats.sum_three, Nat.cast_add, Nat.cast_add, Nat.cast_sum, Nat.cast_sum]
  refine congrArg₂ (· + ·) (congrArg₂ (· + ·) (Finset.sum_congr rfl fun i _ => ?_) (Finset.sum_congr rfl fun i _ => ?_)) ?_
  · have hi : i.val < 256 := i.isLt
    dsimp only
    rw [dif_pos hi, dif_pos hi, Nats.cmp_slt _ _ (by omega) (by omega), select_one_zero, ← EReal.natCast_mul]
    refine congrArg _ ?_
    by_cases h : i < t
    · have : i.val < t.val := h
      rw [if_pos this, if_pos h, mul_one]; rfl
    · have : ¬ i.val < t.val := h
      rw [if_neg this, if_neg h, mul_zero]
  · have hi : i.val < 256 := i.isLt
    dsimp only
    have n1 : ¬ 256 + i.val < 256 := by omega
    have n2 : 256 + i.val - 256 < 256 := by omega
    have n3 : (⟨256 + i.val - 256, n2⟩ : Fin 256) = i := Fin.ext (Nat.add_sub_cancel_left 256 i.val)
    simp only [n1, n2, ↓reduceDIte]
    rw [mul_one, n3]
    rfl
  · have hterm : ∀ i : Fin 256, (if c.val = i.val then (if i.val < 160 then kf i.val * 2048 else 0) else 0 : ℕ)
        = if i = ⟨c.val, by omega⟩ then (if c.val < 160 then kf c.val * 2048 else 0) else 0 := by
      intro i
      by_cases h : c.val = i.val
      · rw [if_pos h, if_pos (Fin.ext h.symm), h]
      · rw [if_neg h, if_neg fun hh => h (by rw [hh])]
    have hs : (∑ i : Fin 256, if c.val = i.val then (if i.val < 160 then kf i.val * 2048 else 0) else 0 : ℕ)
        = if c.val < 160 then kf c.val * 2048 else 0 := by
      rw [Finset.sum_congr rfl fun i _ => hterm i, Finset.sum_ite_eq' Finset.univ, if_pos (Finset.mem_univ _)]
    rw [← hs, Nat.cast_sum]
    refine Finset.sum_congr rfl fun i _ => ?_
    have hi : i.val < 256 := i.isLt
    dsimp only
    have e1 : 512 + i.val - 256 - 256 = i.val := by omega
    have n1 : ¬ 512 + i.val < 256 := by omega
    have n2 : ¬ 512 + i.val - 256 < 256 := by omega
    simp only [n1, n2, ↓reduceDIte]
    rw [Nats.ofBits_2048]
    have e2 : ∀ (g : (n : ℕ) → n < 160 → BitVec 32) (z : BitVec 32), (if h : 512 + i.val - 256 - 256 < 160 then g _ h else z)
        = if h : i.val < 160 then g _ h else z := by intro g z; rw [e1]
    rw [e2 (fun n h => IntOp.addi (k0_pay20 (v158 x2) (ix2 0 ⟨n, h⟩)) 126#32), e1]
    rw [Nats.cmp_eq _ _ (by omega) (by omega)]
    by_cases h : i.val < 160
    · rw [dif_pos h, if_pos h, hpay]
      have := hk ⟨i.val, h⟩
      rw [show IntOp.addi (v164 x2 (ix2 0 ⟨i.val, h⟩)) 126#32 = BitVec.ofNat 32 (kf i.val) from this,
        Nats.sitofp_nat _ _ (by have := hk2 i.val; omega), Nats.select_nat, ← EReal.natCast_mul]
      refine congrArg _ ?_
      split <;> simp
    · rw [dif_neg h, if_neg h, show (0#32 : BitVec 32) = BitVec.ofNat 32 0 from rfl, Nats.sitofp_nat _ _ (by omega), Nats.select_nat]
      simp

end Cert.KernelIdeal.Ids
-- ==== Proof.KEntry.lean ====
/- The word the routing makes of each choice: its place among the choices sorted by expert, with the number that stands for its
   expert's scale above it, and that word's three fields. The choices are listed choice by choice, the tokens within each. -/
module

public import proofs.«01_k».proof.Proof.KDest

@[expose] public section

set_option maxRecDepth 16384

noncomputable section

namespace Cert.KernelIdeal.Ids

open Idealize.ShloMosaic Idealize.ShloMosaic.Pointwise
open Cert.KernelIdeal Cert.KernelIdeal.Gen Cert.KernelIdeal.Val Cert.Ranks

/-- The choice at a position of the list. -/
def qk (q : Fin 1536) : Fin 6 := ⟨q.val / 256, by omega⟩

/-- The token at a position of the list. -/
def qt (q : Fin 1536) : Fin 256 := ⟨q.val % 256, by omega⟩

/-- Six rows joined, read at a position. -/
theorem ladder {α : Type} (G : Fin 6 → Fin 256 → α) (q : Fin 1536) :
    (if h : q.val < 256 then G 0 ⟨q.val, h⟩ else
      if h : q.val - 256 < 256 then G 1 ⟨q.val - 256, h⟩ else
      if h : q.val - 256 - 256 < 256 then G 2 ⟨q.val - 256 - 256, h⟩ else
      if h : q.val - 256 - 256 - 256 < 256 then G 3 ⟨q.val - 256 - 256 - 256, h⟩ else
      if h : q.val - 256 - 256 - 256 - 256 < 256 then G 4 ⟨q.val - 256 - 256 - 256 - 256, h⟩ else
      G 5 ⟨q.val - 256 - 256 - 256 - 256 - 256, by omega⟩) = G (qk q) (qt q) := by
  have aux : ∀ (k k' : Fin 6) (t t' : Fin 256), k.val = k'.val → t.val = t'.val → G k t = G k' t' := fun k k' t t' h h' => by
    rw [Fin.ext h, Fin.ext h']
  unfold qk qt
  split
  · exact aux _ _ _ _ (by dsimp only [Fin.isValue, Fin.val_zero]; omega) (by dsimp only; omega)
  split
  · exact aux _ _ _ _ (by show 1 = _; dsimp only; omega) (by dsimp only; omega)
  split
  · exact aux _ _ _ _ (by show 2 = _; dsimp only; omega) (by dsimp only; omega)
  split
  · exact aux _ _ _ _ (by show 3 = _; dsimp only; omega) (by dsimp only; omega)
  split
  · exact aux _ _ _ _ (by show 4 = _; dsimp only; omega) (by dsimp only; omega)
  · exact aux _ _ _ _ (by show 5 = _; dsimp only; omega) (by dsimp only; omega)

variable {x0 : Vec Ideal S6x2x128 .i32} {x2 : Vec Ideal S16x160 .f32} {e : Fin 6 → Fin 256 → ℕ} {kf : ℕ → ℕ}
  (he : ∀ k t, wid x0 k t = BitVec.ofNat 32 (e k t)) (hlt : ∀ k t, e k t < 160)
  (hk : ∀ c : Fin 160, v164 x2 (ix2 0 c) + 126#32 = BitVec.ofNat 32 (kf c.val)) (hk2 : ∀ c, kf c < 256)

/-- What `dest_apply` says the product holds. -/
def destN (e : Fin 6 → Fin 256 → ℕ) (kf : ℕ → ℕ) (c : ℕ) (t : Fin 256) : ℕ :=
  (∑ t' : Fin 256, if t' < t then mem e c t' else 0) + (∑ t' : Fin 256, bel e c t') + (if c < 160 then kf c * 2048 else 0)

include he hlt hk hk2 in
theorem pick (k : Fin 6) (t : Fin 256) :
    ∑ c : Fin 168, Scalar.select (IntOp.cmpi .eq (wid x0 k t) (BitVec.ofNat 32 c.val)) (v189 x0 x2 (ix2 c t)) 0
      = ((destN e kf (e k t) t : ℕ) : EReal) := by
  have hl := hlt k t
  rw [Finset.sum_eq_single (⟨e k t, by omega⟩ : Fin 168)]
  · rw [hit he hlt _ _ _ (by dsimp only; omega), dest_apply he hlt hk hk2, Nats.select_nat, if_pos rfl]
    rfl
  · intro c _ hc
    rw [hit he hlt _ _ _ (by omega), dest_apply he hlt hk hk2, Nats.select_nat, if_neg fun h => hc (Fin.ext h.symm)]
    exact Nat.cast_zero
  · intro h; exact absurd (Finset.mem_univ _) h

theorem destN_lt (k : Fin 6) (t : Fin 256) (hl : e k t < 160) (hkk : kf (e k t) < 256) :
    destN e kf (e k t) t + bump e k t = rank e k t + kf (e k t) * 2048 := by
  unfold destN rank
  rw [if_pos hl]; omega

theorem destN_small (k : Fin 6) (t : Fin 256) (hl : e k t < 160) (hkk : kf (e k t) < 256) : destN e kf (e k t) t < 2 ^ 30 := by
  have h := destN_lt (e := e) (kf := kf) k t hl hkk
  have := rank_lt e k t
  omega

include he hlt hk hk2 in
theorem v230_apply (q : Fin 1536) :
    v230 x0 x2 (ix2 0 q) = BitVec.ofNat 32 (destN e kf (e (qk q) (qt q)) (qt q)) := by
  have hpay : ∀ y, k0_pay21 (v137 x0) (v138 x0) (v158 x2) y = v189 x0 x2 y := fun _ => rfl
  pointwise [v230, k0_pay25, v198, k0_pay23, v202, k0_pay24, v62, hpay, v36_apply, v41_apply, v46_apply, v51_apply, v56_apply, v61_apply]
  have h := ladder (fun k t => ∑ c : Fin 168, Scalar.select (IntOp.cmpi .eq (wid x0 k t) (BitVec.ofNat 32 c.val)) (v189 x0 x2 (ix2 c t)) (0 : EReal)) q
  refine (congrArg (Ideal.fptosi 32) (h.trans (pick he hlt hk hk2 _ _))).trans ?_
  have := destN_small (e := e) (kf := kf) (qk q) (qt q) (hlt _ _) (hk2 _)
  exact Nats.fptosi_nat _ (by omega)

include he hlt in
theorem same (j k : Fin 6) (t : Fin 256) :
    Scalar.select (IntOp.cmpi .eq (wid x0 j t) (wid x0 k t)) 1#32 0#32 = BitVec.ofNat 32 (if e j t = e k t then 1 else 0) := by
  have h := hlt k t
  rw [he k t, hit he hlt _ _ _ (by omega)]
  by_cases h : e j t = e k t <;> simp [h, Scalar.select]

/-- The earlier choices of a token for the same expert, counted as the kernel does. -/
def bumpW (x0 : Vec Ideal S6x2x128 .i32) (k : Fin 6) (t : Fin 256) : BitVec 32 :=
  let s (j k : Fin 6) : BitVec 32 := Scalar.select (IntOp.cmpi .eq (wid x0 j t) (wid x0 k t)) 1#32 0#32
  (![0#32, IntOp.addi 0#32 (s 0 1), IntOp.addi (IntOp.addi 0#32 (s 0 2)) (s 1 2),
    IntOp.addi (IntOp.addi (IntOp.addi 0#32 (s 0 3)) (s 1 3)) (s 2 3),
    IntOp.addi (IntOp.addi (IntOp.addi (IntOp.addi 0#32 (s 0 4)) (s 1 4)) (s 2 4)) (s 3 4),
    IntOp.addi (IntOp.addi (IntOp.addi (IntOp.addi (IntOp.addi 0#32 (s 0 5)) (s 1 5)) (s 2 5)) (s 3 5)) (s 4 5)] : Fin 6 → BitVec 32) k

theorem add_word (a b : ℕ) : IntOp.addi (BitVec.ofNat 32 a) (BitVec.ofNat 32 b) = BitVec.ofNat 32 (a + b) := (BitVec.ofNat_add ..).symm

include he hlt in
theorem bumpW_eq (k : Fin 6) (t : Fin 256) : bumpW x0 k t = BitVec.ofNat 32 (bump e k t) := by
  unfold bumpW bump
  simp only [same he hlt, show (0#32 : BitVec 32) = BitVec.ofNat 32 0 from rfl, add_word, Fin.sum_univ_six]
  have hb : ∀ (j k : Fin 6), (if j < k ∧ e j t = e k t then 1 else 0) = if j < k then (if e j t = e k t then 1 else 0) else 0 := by
    intro j k; by_cases h : j < k <;> simp [h]
  simp only [hb]
  fin_cases k <;> simp

set_option maxHeartbeats 1600000 in
include he hlt hk hk2 in
theorem entry_apply (q : Fin 1536) :
    k0_pay35 (v41 x0) (v46 x0) (v51 x0) (v56 x0) (v61 x0) (v230 x0 x2) v231 (v237 x0) (v248 x0) (v264 x0) (v285 x0) v286 (v287 x0) (ix2 0 q)
      = BitVec.ofNat 32 (rank e (qk q) (qt q) + kf (e (qk q) (qt q)) * 2048) := by
  pointwise [k0_pay35, v231, k0_pay26, v237, k0_pay27, v248, k0_pay30, v243, v244, k0_pay28, k0_pay29, v264, k0_pay31, v285, k0_pay32, v286, k0_pay33, v287, k0_pay34,
    v36_apply, v41_apply, v46_apply, v51_apply, v56_apply, v61_apply, v230_apply he hlt hk hk2]
  rw [← destN_lt (e := e) (kf := kf) (qk q) (qt q) (hlt _ _) (hk2 _), ← add_word, ← bumpW_eq he hlt]
  exact congrArg _ (ladder (bumpW x0) q)

/-! ## The fields -/

theorem and_word (a j : ℕ) (hj : j < 32) : IntOp.andi (BitVec.ofNat 32 a) (BitVec.ofNat 32 (2 ^ j - 1)) = BitVec.ofNat 32 (a % 2 ^ j) := by
  apply BitVec.eq_of_toNat_eq
  have h : 2 ^ j ≤ 2 ^ 31 := Nat.pow_le_pow_right (by decide) (by omega)
  have h0 : 0 < 2 ^ j := Nat.two_pow_pos j
  have hm : a % 2 ^ j < 2 ^ j := Nat.mod_lt _ h0
  show (BitVec.ofNat 32 a &&& BitVec.ofNat 32 (2 ^ j - 1)).toNat = _
  rw [BitVec.toNat_and, BitVec.toNat_ofNat, BitVec.toNat_ofNat, BitVec.toNat_ofNat, Nat.mod_eq_of_lt (a := 2 ^ j - 1) (by omega),
    Nat.and_two_pow_sub_one_eq_mod, Nat.mod_mod_of_dvd _ (pow_dvd_pow 2 (by omega)), Nat.mod_eq_of_lt (a := a % 2 ^ j) (by omega)]

theorem shr_word (u : ArithUnit) (a j : ℕ) (ha : a < 2 ^ 31) (hj : j < 32) :
    IntOp.shrsi u (BitVec.ofNat 32 a) (BitVec.ofNat 32 j) = BitVec.ofNat 32 (a / 2 ^ j) := by
  have hjn : (BitVec.ofNat 32 j).toNat = j := by rw [BitVec.toNat_ofNat, Nat.mod_eq_of_lt (by omega)]
  unfold IntOp.shrsi
  rw [if_pos (by omega), BitVec.sshiftRight', hjn, BitVec.sshiftRight_eq_of_msb_false (Routing.msb_ofNat32 ha)]
  apply BitVec.eq_of_toNat_eq
  have : a / 2 ^ j ≤ a := Nat.div_le_self _ _
  rw [BitVec.toNat_ushiftRight, BitVec.toNat_ofNat, BitVec.toNat_ofNat, Nat.shiftRight_eq_div_pow, Nat.mod_eq_of_lt (by omega),
    Nat.mod_eq_of_lt (by omega)]

include he hlt hk hk2 in
theorem kof_apply (q : Fin 1536) : v317 x0 x2 (ix2 0 q) = BitVec.ofNat 32 (kf (e (qk q) (qt q))) := by
  have h1 := rank_lt e (qk q) (qt q)
  have h2 := hk2 (e (qk q) (qt q))
  pointwise [v317, k0_pay37, entry_apply he hlt hk hk2]
  rw [show (11#32 : BitVec 32) = BitVec.ofNat 32 11 from rfl, shr_word _ _ _ (by omega) (by omega)]
  congr 1
  omega

include he hlt hk hk2 in
theorem grp_apply (q : Fin 1536) : v319 x0 x2 (ix2 0 q) = BitVec.ofNat 32 (rank e (qk q) (qt q) / 128) := by
  have h1 := rank_lt e (qk q) (qt q)
  have h2 := hk2 (e (qk q) (qt q))
  pointwise [v319, k0_pay38, k0_pay36, entry_apply he hlt hk hk2]
  rw [show (2047#32 : BitVec 32) = BitVec.ofNat 32 (2 ^ 11 - 1) from rfl, and_word _ _ (by omega),
    show (7#32 : BitVec 32) = BitVec.ofNat 32 7 from rfl, shr_word _ _ _ (by omega) (by omega)]
  congr 1
  omega

include he hlt hk hk2 in
theorem lane_apply (q : Fin 1536) : v321 x0 x2 (ix2 0 q) = BitVec.ofNat 32 (rank e (qk q) (qt q) % 128) := by
  have h1 := rank_lt e (qk q) (qt q)
  have h2 := hk2 (e (qk q) (qt q))
  pointwise [v321, k0_pay39, k0_pay36, entry_apply he hlt hk hk2]
  rw [show (2047#32 : BitVec 32) = BitVec.ofNat 32 (2 ^ 11 - 1) from rfl, and_word _ _ (by omega),
    show (127#32 : BitVec 32) = BitVec.ofNat 32 (2 ^ 7 - 1) from rfl, and_word _ _ (by omega)]
  congr 1
  omega

theorem tok_apply (q : Fin 1536) : v324 (ix2 0 q) = BitVec.ofNat 32 (qt q).val := by
  pointwise [v324, k0_pay40]
  exact and_word q.val 8 (by omega)

/-! ## The words of the weights -/

theorem words_apply (x1 : Vec Ideal S6x2x128 .i32) (q : Fin 1536) : v355 x1 (ix2 0 q) = wid x1 (qk q) (qt q) := by
  pointwise [v355, k0_pay42, v329, k0_pay41, w0, w1, w2, w3, w4, w5]
  exact (ladder (fun k t => if h : t.val < 128 then x1 (ix3 k 0 ⟨t.val, h⟩) else x1 (ix3 k 1 ⟨t.val - 128, by omega⟩)) q).trans (wid_halves x1 _ _)

end Cert.KernelIdeal.Ids
-- ==== Proof.KRows.lean ====
/- The two products that put the choices' numbers at their places. Six numbers of each choice, its token, the number that stands
   for its expert's scale and the four bytes of its weight, are laid out by group of 128 places and by place within the group; no two
   choices share a place, so every sum has one term. -/
module

public import proofs.«01_k».proof.Proof.KEntry

@[expose] public section

set_option maxRecDepth 16384

noncomputable section

namespace Cert.KernelIdeal.Ids

open Idealize.ShloMosaic Idealize.ShloMosaic.Pointwise
open Cert.KernelIdeal Cert.KernelIdeal.Gen Cert.KernelIdeal.Val Cert.Ranks

/-! ## Bytes of a word -/

/-- The byte of a word that starts at bit `s`, as the kernel cuts it out. -/
def byteAt (w : BitVec 32) (s : ℕ) : BitVec 32 := IntOp.andi (IntOp.shrsi .vector w (BitVec.ofNat 32 s)) 255#32

theorem byteAt_bit (w : BitVec 32) (s i : ℕ) (hs : s ≤ 24) : (byteAt w s).getLsbD i = (decide (i < 8) && w.getLsbD (s + i)) := by
  have hsn : (BitVec.ofNat 32 s).toNat = s := by rw [BitVec.toNat_ofNat, Nat.mod_eq_of_lt (by omega)]
  have h255 : (255#32 : BitVec 32).getLsbD i = decide (i < 8) := by
    rw [show (255#32 : BitVec 32) = BitVec.ofNat 32 (2 ^ 8 - 1) from rfl, BitVec.getLsbD_ofNat, Nat.testBit_two_pow_sub_one]
    by_cases h : i < 8
    · simp [h]; omega
    · simp [h]
  unfold byteAt IntOp.andi IntOp.shrsi
  rw [if_pos (by omega), BitVec.sshiftRight', hsn, BitVec.getLsbD_and, h255, BitVec.getLsbD_sshiftRight]
  by_cases h : i < 8
  · have h1 : ¬ 32 ≤ i := by omega
    have h2 : s + i < 32 := by omega
    simp [h, h1, h2]
  · simp [h]

theorem byteAt_lt (w : BitVec 32) (s : ℕ) : (byteAt w s).toNat < 256 := by
  unfold byteAt IntOp.andi
  rw [BitVec.toNat_and]
  exact lt_of_le_of_lt Nat.and_le_right (by decide)

theorem bytes_join (w : BitVec 32) :
    IntOp.ori (IntOp.ori (IntOp.ori (byteAt w 0) (IntOp.shli .vector (byteAt w 8) 8#32)) (IntOp.shli .vector (byteAt w 16) 16#32))
      (IntOp.shli .vector (byteAt w 24) 24#32) = w := by
  apply BitVec.eq_of_getLsbD_eq
  intro i hi
  have e8 : (8#32 : BitVec 32).toNat = 8 := rfl
  have e16 : (16#32 : BitVec 32).toNat = 16 := rfl
  have e24 : (24#32 : BitVec 32).toNat = 24 := rfl
  unfold IntOp.ori IntOp.shli
  simp only [e8, e16, e24, BitVec.getLsbD_or, BitVec.shiftLeft_eq', show (8 < 32) = True by simp, show (16 < 32) = True by simp, show (24 < 32) = True by simp, if_true,
    BitVec.getLsbD_shiftLeft, byteAt_bit _ _ _ (show 0 ≤ 24 by omega), byteAt_bit _ _ _ (show 8 ≤ 24 by omega),
    byteAt_bit _ _ _ (show 16 ≤ 24 by omega), byteAt_bit _ _ _ (show 24 ≤ 24 by omega)]
  interval_cases i <;> simp

/-! ## The laid-out numbers -/

/-- The six words of a choice. -/
def vw (x0 x1 : Vec Ideal S6x2x128 .i32) (x2 : Vec Ideal S16x160 .f32) (pl : Fin 6) (q : Fin 1536) : BitVec 32 :=
  (![v324 (ix2 0 q), v317 x0 x2 (ix2 0 q), v359 x1 (ix2 0 q), v363 x1 (ix2 0 q), v367 x1 (ix2 0 q), byteAt (v355 x1 (ix2 0 q)) 24] : Fin 6 → BitVec 32) pl

/-- The same as numbers: token, scale, and the bytes of the weight. -/
def vn (e : Fin 6 → Fin 256 → ℕ) (kf : ℕ → ℕ) (x1 : Vec Ideal S6x2x128 .i32) (pl : Fin 6) (k : Fin 6) (t : Fin 256) : ℕ :=
  (![t.val, kf (e k t), (byteAt (wid x1 k t) 0).toNat, (byteAt (wid x1 k t) 8).toNat, (byteAt (wid x1 k t) 16).toNat, (byteAt (wid x1 k t) 24).toNat] : Fin 6 → ℕ) pl

variable {x0 x1 : Vec Ideal S6x2x128 .i32} {x2 : Vec Ideal S16x160 .f32} {e : Fin 6 → Fin 256 → ℕ} {kf : ℕ → ℕ}
  (he : ∀ k t, wid x0 k t = BitVec.ofNat 32 (e k t)) (hlt : ∀ k t, e k t < 160)
  (hk : ∀ c : Fin 160, v164 x2 (ix2 0 c) + 126#32 = BitVec.ofNat 32 (kf c.val)) (hk2 : ∀ c, kf c < 256)

include he hlt hk hk2 in
theorem vw_eq (pl : Fin 6) (q : Fin 1536) : vw x0 x1 x2 pl q = BitVec.ofNat 32 (vn e kf x1 pl (qk q) (qt q)) := by
  have h0 : v359 x1 (ix2 0 q) = byteAt (wid x1 (qk q) (qt q)) 0 := by pointwise [v359, k0_pay43]; rw [← words_apply]; rfl
  have h8 : v363 x1 (ix2 0 q) = byteAt (wid x1 (qk q) (qt q)) 8 := by pointwise [v363, k0_pay44]; rw [← words_apply]; rfl
  have h16 : v367 x1 (ix2 0 q) = byteAt (wid x1 (qk q) (qt q)) 16 := by pointwise [v367, k0_pay45]; rw [← words_apply]; rfl
  unfold vw vn
  rw [h0, h8, h16, words_apply, tok_apply, kof_apply he hlt hk hk2]
  have hb : ∀ w : BitVec 32, w = BitVec.ofNat 32 w.toNat := fun w => by simp
  fin_cases pl
  · rfl
  · rfl
  · exact hb _
  · exact hb _
  · exact hb _
  · exact hb _

theorem vn_lt (hk2 : ∀ c, kf c < 256) (pl k : Fin 6) (t : Fin 256) : vn e kf x1 pl k t < 256 := by
  unfold vn
  fin_cases pl
  · exact t.isLt
  · exact hk2 _
  · exact byteAt_lt _ _
  · exact byteAt_lt _ _
  · exact byteAt_lt _ _
  · exact byteAt_lt _ _

/-- The plane of a row of the left operand. -/
def rp (r : Fin 96) : Fin 6 := ⟨r.val / 16, by omega⟩

/-- The group of a row of the left operand. -/
def rg (r : Fin 96) : Fin 16 := ⟨r.val % 16, by omega⟩

theorem planes {α : Type} (G : Fin 6 → Fin 16 → α) (q : Fin 96) :
    (if h : q.val < 16 then G 0 ⟨q.val, h⟩ else
      if h : q.val - 16 < 16 then G 1 ⟨q.val - 16, h⟩ else
      if h : q.val - 16 - 16 < 16 then G 2 ⟨q.val - 16 - 16, h⟩ else
      if h : q.val - 16 - 16 - 16 < 16 then G 3 ⟨q.val - 16 - 16 - 16, h⟩ else
      if h : q.val - 16 - 16 - 16 - 16 < 16 then G 4 ⟨q.val - 16 - 16 - 16 - 16, h⟩ else
      G 5 ⟨q.val - 16 - 16 - 16 - 16 - 16, by omega⟩) = G (rp q) (rg q) := by
  have aux : ∀ (k k' : Fin 6) (t t' : Fin 16), k.val = k'.val → t.val = t'.val → G k t = G k' t' := fun k k' t t' h h' => by
    rw [Fin.ext h, Fin.ext h']
  unfold rp rg
  split
  · exact aux _ _ _ _ (by show 0 = _; dsimp only; omega) (by dsimp only; omega)
  split
  · exact aux _ _ _ _ (by show 1 = _; dsimp only; omega) (by dsimp only; omega)
  split
  · exact aux _ _ _ _ (by show 2 = _; dsimp only; omega) (by dsimp only; omega)
  split
  · exact aux _ _ _ _ (by show 3 = _; dsimp only; omega) (by dsimp only; omega)
  split
  · exact aux _ _ _ _ (by show 4 = _; dsimp only; omega) (by dsimp only; omega)
  · exact aux _ _ _ _ (by show 5 = _; dsimp only; omega) (by dsimp only; omega)

include he hlt hk hk2 in
theorem lhs_apply (r : Fin 96) (q : Fin 1536) :
    k0_pay46 (F := Ideal) (v317 x0 x2) (v319 x0 x2) v324 (v355 x1) (v359 x1) (v363 x1) (v367 x1) 24#32 (ix2 r q)
      = ((if (rg r).val = rank e (qk q) (qt q) / 128 then vn e kf x1 (rp r) (qk q) (qt q) else 0 : ℕ) : EReal) := by
  have h1 := rank_lt e (qk q) (qt q)
  pointwise [k0_pay46]
  refine (planes (fun pl g => Scalar.select (IntOp.cmpi .eq (BitVec.ofNat 32 g.val) (v319 x0 x2 (ix2 0 q))) (FloatOps.sitofp (F := Ideal) .f32 (vw x0 x1 x2 pl q)) (0 : EReal)) r).trans ?_
  rw [vw_eq he hlt hk hk2, grp_apply he hlt hk hk2, Nats.cmp_eq _ _ (by omega) (by omega),
    Nats.sitofp_nat _ _ (by have := vn_lt (x1 := x1) (e := e) hk2 (rp r) (qk q) (qt q); omega)]
  exact Nats.select_nat _ _

include he hlt hk hk2 in
theorem rhs_apply (c : Fin 128) (q : Fin 1536) :
    k0_pay47 (F := Ideal) (v321 x0 x2) (ix2 c q) = ((if c.val = rank e (qk q) (qt q) % 128 then 1 else 0 : ℕ) : EReal) := by
  pointwise [k0_pay47, lane_apply he hlt hk hk2]
  rw [Nats.cmp_eq _ _ (by omega) (by omega)]
  exact select_one_zero _

/-- Where the list holds the choice at place `p`. -/
def qAt (e : Fin 6 → Fin 256 → ℕ) (p : Fin 1536) : Fin 1536 := ⟨256 * (chAt e p).val + (tokAt e p).val, by omega⟩

theorem qk_qAt (p : Fin 1536) : qk (qAt e p) = chAt e p := by
  apply Fin.ext; show (256 * (chAt e p).val + (tokAt e p).val) / 256 = _; omega

theorem qt_qAt (p : Fin 1536) : qt (qAt e p) = tokAt e p := by
  apply Fin.ext; show (256 * (chAt e p).val + (tokAt e p).val) % 256 = _; omega

theorem q_unique (q p : Fin 1536) : rank e (qk q) (qt q) = p.val ↔ q = qAt e p := by
  rw [rank_eq_iff]
  constructor
  · rintro ⟨h1, h2⟩
    apply Fin.ext
    show q.val = 256 * (chAt e p).val + (tokAt e p).val
    rw [← h1, ← h2]
    show q.val = 256 * (q.val / 256) + q.val % 256
    omega
  · rintro rfl
    exact ⟨qk_qAt p, qt_qAt p⟩

/-- The one-term sum. -/
theorem one_term (g : Fin 1536 → ℕ) (r c : ℕ) (p : Fin 1536) (hp : p.val = 128 * r + c) (hc : c < 128) :
    ∑ q : Fin 1536, (((if r = rank e (qk q) (qt q) / 128 then g q else 0 : ℕ) : EReal)) * (((if c = rank e (qk q) (qt q) % 128 then 1 else 0 : ℕ) : EReal))
      = ((g (qAt e p) : ℕ) : EReal) := by
  have hpq := (q_unique (e := e) (qAt e p) p).mpr rfl
  rw [Finset.sum_eq_single (qAt e p)]
  · rw [← EReal.natCast_mul, hpq, if_pos (by omega), if_pos (by omega), mul_one]
  · intro q _ hq
    have hne : rank e (qk q) (qt q) ≠ p.val := fun h => hq ((q_unique q p).mp h)
    rw [← EReal.natCast_mul]
    by_cases h1 : r = rank e (qk q) (qt q) / 128
    · rw [if_neg (show ¬ c = rank e (qk q) (qt q) % 128 by omega), mul_zero]; exact Nat.cast_zero
    · rw [if_neg h1, zero_mul]; exact Nat.cast_zero
  · intro h; exact absurd (Finset.mem_univ _) h

include he hlt hk hk2 in
/-- The first product: row `16 pl + g`, column `c` holds number `pl` of the choice at place `128 g + c`. -/
theorem rows_apply (r : Fin 96) (c : Fin 128) (p : Fin 1536) (hp : p.val = 128 * (rg r).val + c.val) :
    v415 x0 x1 x2 (ix2 r c) = BitVec.ofNat 32 (vn e kf x1 (rp r) (chAt e p) (tokAt e p)) := by
  pointwise [v415, k0_pay48, lhs_apply he hlt hk hk2, rhs_apply he hlt hk hk2]
  rw [one_term (e := e) (fun q => vn e kf x1 (rp r) (qk q) (qt q)) _ _ p hp c.isLt, qk_qAt, qt_qAt]
  exact Nats.fptosi_nat _ (by have := vn_lt (x1 := x1) (e := e) hk2 (rp r) (chAt e p) (tokAt e p); omega)

include he hlt hk hk2 in
/-- The second product, transposed: row `c`, column `16 pl + g`, for the first two numbers. -/
theorem cols_apply (r : Fin 32) (c : Fin 128) (p : Fin 1536) (hp : p.val = 128 * (r.val % 16) + c.val) :
    v418 x0 x1 x2 (ix2 c r) = BitVec.ofNat 32 (vn e kf x1 ⟨r.val / 16, by omega⟩ (chAt e p) (tokAt e p)) := by
  pointwise [v418, k0_pay50, v416, k0_pay49, v413, lhs_apply he hlt hk hk2, rhs_apply he hlt hk hk2]
  refine (congrArg (Ideal.fptosi 32) ((Finset.sum_congr rfl fun q _ => mul_comm _ _).trans
    (one_term (e := e) (fun q => vn e kf x1 ⟨r.val / 16, by omega⟩ (qk q) (qt q)) (r.val % 16) c.val p hp c.isLt))).trans ?_
  rw [qk_qAt, qt_qAt]
  exact Nats.fptosi_nat _ (by have := vn_lt (x1 := x1) (e := e) hk2 ⟨r.val / 16, by omega⟩ (chAt e p) (tokAt e p); omega)

end Cert.KernelIdeal.Ids
-- ==== Proof.Scales.lean ====
/- The power of two above a maximum: `reach y` counts the normal powers of two at most `y`, and names both the scale and its reciprocal. -/
module

public import proofs.«01_k».proof.Proof.Nats
public import Idealize.ShloMosaic.Lib.Routing.Count
public import Idealize.ShloMosaic.Lib.WordSum

@[expose] public section

set_option maxRecDepth 16384

noncomputable section

namespace Cert.Scales

open Idealize.ShloMosaic

/-- `2 ^ (i - 126)`, the value of the word `(i + 1) <<< 23`; from `i = 254` on, infinity. -/
def pw (i : ℕ) : EReal := if i < 254 then (((2 : ℝ) ^ ((i : ℤ) - 126) : ℝ) : EReal) else ⊤

theorem word_fields : ∀ i : Fin 255,
    (BitVec.ofNat 32 ((i.val + 1) * 8388608)).extractLsb' 31 1 = 0#1
      ∧ ((BitVec.ofNat 32 ((i.val + 1) * 8388608)).extractLsb' 23 8).toNat = i.val + 1
      ∧ ((BitVec.ofNat 32 ((i.val + 1) * 8388608)).extractLsb' 0 23).toNat = 0 := by
  decide +kernel

theorem ofBits_pw (i : ℕ) (h : i < 255) : Ideal.ofBits .f32 (BitVec.ofNat 32 ((i + 1) * 8388608)) = pw i := by
  obtain ⟨h1, h2, h3⟩ := word_fields ⟨i, h⟩
  dsimp only at h1 h2 h3
  show Ideal.ieee 8 23 (BitVec.ofNat 32 ((i + 1) * 8388608)) = _
  unfold Ideal.ieee pw
  simp only [Nat.reduceAdd, h1, h2, h3]
  by_cases hi : i = 254
  · subst hi; simp
  · have h4 : ¬ (i + 1 = 2 ^ 8 - 1) := by omega
    have h5 : ¬ (i + 1 = 0) := by omega
    have h6 : i < 254 := by omega
    rw [if_neg h4, if_neg h5, if_pos h6]
    congr 1
    have h7 : ((i : ℤ) - 126) = 23 + (((i + 1 : ℕ) : ℤ) - (2 ^ (8 - 1) - 1) - ((23 : ℕ) : ℤ)) := by push_cast; norm_num; ring
    rw [h7, zpow_add₀ (by norm_num : (2 : ℝ) ≠ 0)]
    norm_num

theorem ofBits_zero_word : Ideal.ofBits .f32 (0#32) = 0 := Ideal.ofBits_zero_f32

theorem pw_mono {i j : ℕ} (h : i ≤ j) : pw i ≤ pw j := by
  unfold pw
  by_cases hj : j < 254
  · rw [if_pos hj, if_pos (by omega)]
    exact EReal.coe_le_coe_iff.2 (zpow_le_zpow_right₀ (by norm_num) (by omega))
  · rw [if_neg hj]; exact le_top

theorem pw_126 : pw 126 = 1 := by simp [pw]

/-- How many of the powers `2 ^ -126 … 2 ^ 127`, infinity, are at most `y`. -/
def reach (y : EReal) : ℕ := by classical exact Nat.count (fun i => pw i ≤ y) 255

theorem le_iff (y : EReal) (i : ℕ) (h : i < 255) : pw i ≤ y ↔ i < reach y := by
  classical
  exact Routing.lt_count_iff (Q := fun i => pw i ≤ y) (fun a b hab _ hb => (pw_mono hab).trans hb) h

theorem lt_iff (y : EReal) (i : ℕ) (h : i < 255) : y < pw i ↔ reach y ≤ i := by
  rw [← not_le, le_iff y i h, not_lt]

theorem reach_le (y : EReal) : reach y ≤ 255 := by
  classical exact Nat.count_le _

/-- The scale: one below every normal number, else the least power of two above `y`. -/
def sc (y : EReal) : EReal := if reach y = 0 then 1 else pw (reach y)

/-- The exponent of the scale, shifted to be at least one. -/
def kfOf (y : EReal) : ℕ := if reach y = 0 then 126 else reach y

theorem kfOf_le (y : EReal) : kfOf y ≤ 255 := by
  have := reach_le y; unfold kfOf; split <;> omega

theorem kfOf_pos (y : EReal) : 1 ≤ kfOf y := by
  unfold kfOf; split <;> omega

/-- The scale's reciprocal, zero where it is below every normal number. -/
def ivOf (k : ℕ) : EReal := if k < 253 then (((2 : ℝ) ^ (126 - (k : ℤ)) : ℝ) : EReal) else 0

theorem sc_eq (y : EReal) : sc y = pw (kfOf y) := by
  unfold sc kfOf; split
  · exact pw_126.symm
  · rfl

theorem ofBits_min (b : ℕ) (h : b ≤ 255) :
    Ideal.ofBits .f32 (BitVec.ofNat 32 ((min b 254 + 1) * 8388608)) = pw b := by
  rw [ofBits_pw _ (by omega)]
  by_cases hb : b < 254
  · rw [min_eq_left (by omega)]
  · rw [min_eq_right (by omega)]; unfold pw; rw [if_neg (by omega), if_neg hb]

theorem ofBits_inv (k : ℕ) (h1 : 1 ≤ k) (h : k < 253) :
    Ideal.ofBits .f32 (BitVec.ofNat 32 ((253 - k) * 8388608)) = ivOf k := by
  have := ofBits_pw (252 - k) (by omega)
  rw [show 252 - k + 1 = 253 - k by omega] at this
  rw [this]
  unfold pw ivOf
  rw [if_pos (by omega), if_pos h]
  congr 2
  omega

theorem ivOf_nonneg (k : ℕ) : 0 ≤ ivOf k := by
  unfold ivOf; split
  · exact EReal.coe_nonneg.2 (by positivity)
  · exact le_rfl

/-- The count as a word, read back. -/
theorem fold_count (y : EReal) (p : Fin 255 → EReal) (hp : ∀ i, p i = pw i.val) :
    Finset.fold IntOp.addi (0#32) (fun x : Fin 255 => if y < p x then (0#32) else 1#32) Finset.univ = BitVec.ofNat 32 (reach y) := by
  classical
  have e1 : (fun x : Fin 255 => if y < p x then (0#32) else 1#32) = fun x => BitVec.ofNat 32 (if pw x.val ≤ y then 1 else 0) := by
    funext x
    rw [hp x]
    by_cases h : y < pw x.val
    · rw [if_pos h, if_neg (not_le.2 h)]
    · rw [if_neg h, if_pos (not_lt.1 h)]
  rw [e1]
  have e2 : ∀ s : Finset (Fin 255), Finset.fold IntOp.addi (0#32) (fun x : Fin 255 => BitVec.ofNat 32 (if pw x.val ≤ y then 1 else 0)) s
      = BitVec.ofNat 32 (∑ x ∈ s, if pw x.val ≤ y then 1 else 0) := by
    intro s
    induction s using Finset.induction_on with
    | empty => rfl
    | insert a s ha ih => rw [Finset.fold_insert ha, ih, Finset.sum_insert ha]; exact (BitVec.ofNat_add ..).symm
  rw [e2, ← Finset.card_filter, Routing.card_filter_fin 255 (fun i => pw i ≤ y)]
  unfold reach
  congr!

/-- The least power of two above `y` among the normal ones from `2 ^ -125` on. -/
theorem fold_above (y : EReal) (hy : reach y ≠ 0) (p : Fin 253 → EReal) (hp : ∀ i, p i = pw (i.val + 1)) :
    Finset.fold min ⊤ (fun x : Fin 253 => if y < p x then p x else ⊤) Finset.univ = pw (reach y) := by
  have hle := reach_le y
  apply le_antisymm
  · by_cases h : reach y < 254
    · refine (Finset.fold_min_le _).2 (Or.inr ⟨⟨reach y - 1, by omega⟩, Finset.mem_univ _, ?_⟩)
      have h1 : p ⟨reach y - 1, by omega⟩ = pw (reach y) := by rw [hp]; exact congrArg pw (by show reach y - 1 + 1 = _; omega)
      have h2 : y < pw (reach y) := (lt_iff y _ (by omega)).2 le_rfl
      rw [h1, if_pos h2]
    · unfold pw; rw [if_neg h]; exact le_top
  · refine (Finset.le_fold_min _).2 ⟨le_top, fun x _ => ?_⟩
    by_cases h : y < p x
    · rw [if_pos h]
      rw [hp] at h ⊢
      exact pw_mono ((lt_iff y _ (by omega)).1 h)
    · rw [if_neg h]; exact le_top

/-- The reciprocal of the scale, as the quotient gives it. -/
theorem inv_sc (k : ℕ) (h1 : 1 ≤ k) (h : k ≤ 255) :
    (if Ideal.div 1 (pw k) < pw 0 then (0 : EReal) else Ideal.div 1 (pw k)) = ivOf k := by
  by_cases hk : k < 254
  · have e : Ideal.div 1 (pw k) = (((2 : ℝ) ^ (126 - (k : ℤ)) : ℝ) : EReal) := by
      unfold pw; rw [if_pos hk]
      have : ((2 : ℝ) ^ ((k : ℤ) - 126)) ≠ 0 := by positivity
      have e1 : Ideal.div ((1 : ℝ) : EReal) (((2 : ℝ) ^ ((k : ℤ) - 126) : ℝ) : EReal) = ((1 / (2 : ℝ) ^ ((k : ℤ) - 126) : ℝ) : EReal) := by
        simp [Ideal.div, this, EReal.coe_inv]
      refine e1.trans ?_
      congr 1
      rw [one_div, ← zpow_neg]; congr 1; ring
    rw [e]
    have e0 : pw 0 = (((2 : ℝ) ^ (-126 : ℤ) : ℝ) : EReal) := by simp [pw]
    rw [e0]
    unfold ivOf
    by_cases hk3 : k < 253
    · rw [if_pos hk3, if_neg]
      rw [not_lt, EReal.coe_le_coe_iff]
      exact zpow_le_zpow_right₀ (by norm_num) (by omega)
    · rw [if_neg hk3, if_pos]
      rw [EReal.coe_lt_coe_iff]
      exact zpow_lt_zpow_right₀ (by norm_num) (by omega)
  · have e : Ideal.div 1 (pw k) = 0 := by
      unfold pw; rw [if_neg hk]
      simp [Ideal.div]
    rw [e, if_pos]
    · unfold ivOf; rw [if_neg (by omega)]
    · simp only [pw]; rw [if_pos (by omega)]; exact EReal.coe_pos.2 (by positivity)

end Cert.Scales
-- ==== Proof.KScale.lean ====
/- The scale of an expert in the kernel: the powers of two that its maximum reaches are counted, and the count names the next one. -/
module

public import proofs.«01_k».proof.Proof.KVals
public import proofs.«01_k».proof.Proof.Scales

@[expose] public section

set_option maxRecDepth 16384

noncomputable section

namespace Cert.KernelIdeal.Scale

open Idealize.ShloMosaic Idealize.ShloMosaic.Pointwise
open Cert.KernelIdeal Cert.KernelIdeal.Gen Cert.KernelIdeal.Val Cert.Scales

variable (x2 : Vec Ideal S16x160 .f32)

/-- The scaled maximum of an expert's history. -/
def yOf (c : Fin 160) : EReal :=
  FloatOps.absf (F := Ideal) (φ := .f32) (Finset.fold max (Ideal.ofBits FTy.f32 4286578688#32) (fun x => x2 (ix2 x c)) Finset.univ *
                  Ideal.ofBits FTy.f32 991054117#32)

theorem words_pw : ∀ i : Fin 255, IntOp.shli ArithUnit.vector (IntOp.addi (BitVec.ofNat 32 i.val) 1#32) 23#32
    = BitVec.ofNat 32 ((i.val + 1) * 8388608) := by decide +kernel

theorem count_apply (c : Fin 160) : v158 x2 (ix2 0 c) = BitVec.ofNat 32 (reach (yOf x2 c)) := by
  pointwise [v158, k0_pay19, v139]
  exact fold_count (yOf x2 c) _ fun i => (congrArg (Ideal.ofBits FTy.f32) (words_pw i)).trans (ofBits_pw i.val i.isLt)

/-- The exponent from the count. -/
def kw (b : BitVec 32) : BitVec 32 := Scalar.select (IntOp.cmpi CmpIPredicate.eq b 0#32) (0#32) (IntOp.subi b 126#32)

theorem kw_shift : ∀ b : Fin 256, kw (BitVec.ofNat 32 b.val) + 126#32 = BitVec.ofNat 32 (if b.val = 0 then 126 else b.val) := by
  decide +kernel

/-- The word of `2 ^ k`. -/
def p2w (k : BitVec 32) : BitVec 32 :=
  Scalar.select (IntOp.cmpi CmpIPredicate.slt k 4294967170#32) (0#32)
    (Scalar.select (IntOp.cmpi CmpIPredicate.sgt k 127#32) (2139095040#32) (IntOp.shli ArithUnit.vector (IntOp.addi k 127#32) 23#32))

theorem p2w_scale : ∀ b : Fin 256, p2w (kw (BitVec.ofNat 32 b.val))
    = BitVec.ofNat 32 ((min (if b.val = 0 then 126 else b.val) 254 + 1) * 8388608) := by
  decide +kernel

theorem p2w_inv : ∀ k : Fin 255, p2w (IntOp.subi 126#32 (BitVec.ofNat 32 (k.val + 1)))
    = if k.val + 1 < 253 then BitVec.ofNat 32 ((253 - (k.val + 1)) * 8388608) else 0#32 := by
  decide +kernel

theorem kexp_apply (c : Fin 160) : v164 x2 (ix2 0 c) = kw (BitVec.ofNat 32 (reach (yOf x2 c))) := by
  pointwise [v164, k0_pay20]
  rw [count_apply]
  rfl

theorem kexp_shift (c : Fin 160) : v164 x2 (ix2 0 c) + 126#32 = BitVec.ofNat 32 (kfOf (yOf x2 c)) := by
  rw [kexp_apply]
  exact kw_shift ⟨reach (yOf x2 c), by have := reach_le (yOf x2 c); omega⟩

theorem scale_apply (c : Fin 160) : oScale x2 (ix2 0 c) = sc (yOf x2 c) := by
  have h := reach_le (yOf x2 c)
  have e : oScale x2 (ix2 0 c) = Ideal.ofBits .f32 (p2w (v164 x2 (ix2 0 c))) := by
    pointwise [oScale, k0_pay51]
    rfl
  rw [e, kexp_apply, p2w_scale ⟨reach (yOf x2 c), by omega⟩, sc_eq]
  exact ofBits_min _ (kfOf_le _)

/-- The reciprocal that the kernel forms from the shifted exponent. -/
theorem inv_word (k : ℕ) (h1 : 1 ≤ k) (h : k ≤ 255) :
    Ideal.ofBits .f32 (p2w (IntOp.subi 126#32 (BitVec.ofNat 32 k))) = ivOf k := by
  have e := p2w_inv ⟨k - 1, by omega⟩
  dsimp only at e
  rw [show k - 1 + 1 = k by omega] at e
  rw [e]
  by_cases hk : k < 253
  · rw [if_pos hk]; exact ofBits_inv k h1 hk
  · rw [if_neg hk]; unfold ivOf; rw [if_neg hk]; exact Ideal.ofBits_zero_f32

end Cert.KernelIdeal.Scale
-- ==== Proof.KPerm.lean ====
/- The scaled permutation matrix: row `p` holds the reciprocal of its expert's scale at its own token, and zero elsewhere. -/
module

public import proofs.«01_k».proof.Proof.KRows
public import proofs.«01_k».proof.Proof.KScale

@[expose] public section

set_option maxRecDepth 16384

noncomputable section

namespace Cert.KernelIdeal.Perm

open Idealize.ShloMosaic Idealize.ShloMosaic.Pointwise
open Cert.KernelIdeal Cert.KernelIdeal.Gen Cert.KernelIdeal.Val Cert.KernelIdeal.Scale

variable (x0 x1 : Vec Ideal S6x2x128 .i32) (x2 : Vec Ideal S16x160 .f32)

/-- One entry of the matrix, from the token and the exponent that the columns hold. -/
def entryOf (tok kf : BitVec 32) (t : Fin 256) : EReal :=
  Scalar.select (IntOp.cmpi CmpIPredicate.eq tok (BitVec.ofNat 32 t.val)) (Ideal.ofBits .f32 (p2w (IntOp.subi 126#32 kf))) 0

theorem p0_apply (r : Fin 128) (t : Fin 256) : p0 x0 x1 x2 (ix2 r t)
    = entryOf (v418 x0 x1 x2 (ix2 r 0)) (v418 x0 x1 x2 (ix2 r 16)) t := by
  pointwise [p0, k0_pay57, v471, k0_pay56, v472, entryOf, p2w]

theorem p1_apply (r : Fin 128) (t : Fin 256) : p1 x0 x1 x2 (ix2 r t)
    = entryOf (v418 x0 x1 x2 (ix2 r 1)) (v418 x0 x1 x2 (ix2 r 17)) t := by
  pointwise [p1, k0_pay58, v471, k0_pay56, v472, entryOf, p2w]

theorem p2_apply (r : Fin 128) (t : Fin 256) : p2 x0 x1 x2 (ix2 r t)
    = entryOf (v418 x0 x1 x2 (ix2 r 2)) (v418 x0 x1 x2 (ix2 r 18)) t := by
  pointwise [p2, k0_pay60, v471, k0_pay56, v472, v497, k0_pay59, entryOf, p2w]

theorem p3_apply (r : Fin 128) (t : Fin 256) : p3 x0 x1 x2 (ix2 r t)
    = entryOf (v418 x0 x1 x2 (ix2 r 3)) (v418 x0 x1 x2 (ix2 r 19)) t := by
  pointwise [p3, k0_pay61, v471, k0_pay56, v472, entryOf, p2w]

theorem p4_apply (r : Fin 128) (t : Fin 256) : p4 x0 x1 x2 (ix2 r t)
    = entryOf (v418 x0 x1 x2 (ix2 r 4)) (v418 x0 x1 x2 (ix2 r 20)) t := by
  pointwise [p4, k0_pay62, v471, k0_pay56, v472, entryOf, p2w]

theorem p5_apply (r : Fin 128) (t : Fin 256) : p5 x0 x1 x2 (ix2 r t)
    = entryOf (v418 x0 x1 x2 (ix2 r 5)) (v418 x0 x1 x2 (ix2 r 21)) t := by
  pointwise [p5, k0_pay64, v471, k0_pay56, v472, v541, k0_pay63, entryOf, p2w]

theorem p6_apply (r : Fin 128) (t : Fin 256) : p6 x0 x1 x2 (ix2 r t)
    = entryOf (v418 x0 x1 x2 (ix2 r 6)) (v418 x0 x1 x2 (ix2 r 22)) t := by
  pointwise [p6, k0_pay65, v471, k0_pay56, v472, entryOf, p2w]

theorem p7_apply (r : Fin 128) (t : Fin 256) : p7 x0 x1 x2 (ix2 r t)
    = entryOf (v418 x0 x1 x2 (ix2 r 7)) (v418 x0 x1 x2 (ix2 r 23)) t := by
  pointwise [p7, k0_pay66, v471, k0_pay56, v472, entryOf, p2w]

theorem p8_apply (r : Fin 128) (t : Fin 256) : p8 x0 x1 x2 (ix2 r t)
    = entryOf (v418 x0 x1 x2 (ix2 r 8)) (v418 x0 x1 x2 (ix2 r 24)) t := by
  pointwise [p8, k0_pay67, v471, k0_pay56, v472, entryOf, p2w]

theorem p9_apply (r : Fin 128) (t : Fin 256) : p9 x0 x1 x2 (ix2 r t)
    = entryOf (v418 x0 x1 x2 (ix2 r 9)) (v418 x0 x1 x2 (ix2 r 25)) t := by
  pointwise [p9, k0_pay69, v471, k0_pay56, v472, v588, k0_pay68, entryOf, p2w]

theorem p10_apply (r : Fin 128) (t : Fin 256) : p10 x0 x1 x2 (ix2 r t)
    = entryOf (v418 x0 x1 x2 (ix2 r 10)) (v418 x0 x1 x2 (ix2 r 26)) t := by
  pointwise [p10, k0_pay70, v471, k0_pay56, v472, entryOf, p2w]

theorem p11_apply (r : Fin 128) (t : Fin 256) : p11 x0 x1 x2 (ix2 r t)
    = entryOf (v418 x0 x1 x2 (ix2 r 11)) (v418 x0 x1 x2 (ix2 r 27)) t := by
  pointwise [p11, k0_pay71, v471, k0_pay56, v472, entryOf, p2w]

end Cert.KernelIdeal.Perm
-- ==== Proof.KOut.lean ====
/- The scaled permutation matrix as a whole, and what the kernel's stores hold in its terms. -/
module

public import proofs.«01_k».proof.Proof.KPerm

@[expose] public section

set_option maxRecDepth 16384

noncomputable section

namespace Cert.KernelIdeal.Perm

open Idealize.ShloMosaic Idealize.ShloMosaic.Pointwise
open Cert.KernelIdeal Cert.KernelIdeal.Gen Cert.KernelIdeal.Val Cert.KernelIdeal.Scale Cert.KernelIdeal.Ids Cert.Ranks Cert.Scales

variable {x0 x1 : Vec Ideal S6x2x128 .i32} {x2 : Vec Ideal S16x160 .f32} {e : Fin 6 → Fin 256 → ℕ} {kf : ℕ → ℕ}
variable (he : ∀ k t, wid x0 k t = BitVec.ofNat 32 (e k t)) (hlt : ∀ k t, e k t < 160)
variable (hk : ∀ c : Fin 160, v164 x2 (ix2 0 c) + 126#32 = BitVec.ofNat 32 (kf c.val)) (hk2 : ∀ c, kf c < 256) (hk1 : ∀ c, 1 ≤ kf c)

/-- The matrix in closed form. -/
def Pval (e : Fin 6 → Fin 256 → ℕ) (kf : ℕ → ℕ) (p : Fin 1536) (t : Fin 256) : EReal :=
  if t = tokAt e p then ivOf (kf (expAt e p)) else 0

include he hlt hk hk2 hk1 in
theorem piece_val (g : ℕ) (hg : g < 12) (r : Fin 128) (t : Fin 256) :
    entryOf (v418 x0 x1 x2 (ix2 r ⟨g, by omega⟩)) (v418 x0 x1 x2 (ix2 r ⟨g + 16, by omega⟩)) t
      = Pval e kf ⟨128 * g + r.val, by omega⟩ t := by
  have hd1 : g / 16 = 0 := by omega
  have hd2 : (g + 16) / 16 = 1 := by omega
  have e1 := cols_apply (x1 := x1) he hlt hk hk2 ⟨g, by omega⟩ r ⟨128 * g + r.val, by omega⟩ (by show 128 * g + r.val = 128 * (g % 16) + r.val; rw [Nat.mod_eq_of_lt (by omega)])
  have e2 := cols_apply (x1 := x1) he hlt hk hk2 ⟨g + 16, by omega⟩ r ⟨128 * g + r.val, by omega⟩ (by show 128 * g + r.val = 128 * ((g + 16) % 16) + r.val; rw [Nat.add_mod_right, Nat.mod_eq_of_lt (by omega)])
  have f1 : (⟨g / 16, by omega⟩ : Fin 6) = 0 := Fin.ext hd1
  have f2 : (⟨(g + 16) / 16, by omega⟩ : Fin 6) = 1 := Fin.ext hd2
  rw [e1, e2, f1, f2]
  generalize (⟨128 * g + r.val, by omega⟩ : Fin 1536) = p
  have g1 : vn e kf x1 0 (chAt e p) (tokAt e p) = (tokAt e p).val := rfl
  have g2 : vn e kf x1 1 (chAt e p) (tokAt e p) = kf (expAt e p) := rfl
  rw [g1, g2]
  unfold entryOf Pval
  rw [inv_word _ (hk1 _) (by have := hk2 (expAt e p); omega), Nats.cmp_eq _ _ (by have := (tokAt e p).isLt; omega) (by have := t.isLt; omega)]
  by_cases h : t = tokAt e p
  · subst h; simp [Scalar.select]
  · have h' : ¬ ((tokAt e p).val = t.val) := fun hh => h (Fin.ext hh.symm)
    rw [if_neg h]; simp [Scalar.select, h']

include he hlt hk hk2 hk1 in
theorem perm_apply (p : Fin 1536) (t : Fin 256) : oP x0 x1 x2 (ix2 p t) = Pval e kf p t := by
  have key : ∀ (g : ℕ) (hg : g < 12) (x : S128x256.Idx) (q : S128x256.Idx → EReal)
      (hq : ∀ r t, q (ix2 r t) = entryOf (v418 x0 x1 x2 (ix2 r ⟨g, by omega⟩)) (v418 x0 x1 x2 (ix2 r ⟨g + 16, by omega⟩)) t)
      (y : S1536x256.Idx) (h0 : (y 0).val = 128 * g + 1 * (x 0).val) (h1 : (y 1).val = 0 + 1 * (x 1).val),
      q x = Pval e kf (y 0) (y 1) := by
    intro g hg x q hq y h0 h1
    have hx : x = ix2 (x 0) (x 1) := by funext a; match a with | ⟨0, _⟩ => rfl | ⟨1, _⟩ => rfl
    have hx0 : (x 0).val < 128 := (x 0).isLt
    refine (congrArg q hx).trans ((hq (x 0) (x 1)).trans ?_)
    refine (piece_val he hlt hk hk2 hk1 g hg (x 0) (x 1)).trans ?_
    have a0 : y 0 = (⟨128 * g + (x 0).val, by omega⟩ : Fin 1536) := Fin.ext (by show (y 0).val = 128 * g + (x 0).val; omega)
    have a1 : y 1 = x 1 := Fin.ext (by omega)
    exact congrArg₂ (Pval e kf) a0.symm a1.symm
  refine View.canon_apply_of_pieces (Val := Elt Ideal) (e := .bf16) (fun y : S1536x256.Idx => (Pval e kf (y 0) (y 1) : EReal)) _ ?_ (ix2 p t) ?_
  · intro pc hpc x
    unfold pPieces at hpc
    rcases List.mem_cons.mp hpc with rfl | hpc
    · exact key 11 (by omega) x (p11 x0 x1 x2) (p11_apply x0 x1 x2) _ rfl rfl
    rcases List.mem_cons.mp hpc with rfl | hpc
    · exact key 10 (by omega) x (p10 x0 x1 x2) (p10_apply x0 x1 x2) _ rfl rfl
    rcases List.mem_cons.mp hpc with rfl | hpc
    · exact key 9 (by omega) x (p9 x0 x1 x2) (p9_apply x0 x1 x2) _ rfl rfl
    rcases List.mem_cons.mp hpc with rfl | hpc
    · exact key 8 (by omega) x (p8 x0 x1 x2) (p8_apply x0 x1 x2) _ rfl rfl
    rcases List.mem_cons.mp hpc with rfl | hpc
    · exact key 7 (by omega) x (p7 x0 x1 x2) (p7_apply x0 x1 x2) _ rfl rfl
    rcases List.mem_cons.mp hpc with rfl | hpc
    · exact key 6 (by omega) x (p6 x0 x1 x2) (p6_apply x0 x1 x2) _ rfl rfl
    rcases List.mem_cons.mp hpc with rfl | hpc
    · exact key 5 (by omega) x (p5 x0 x1 x2) (p5_apply x0 x1 x2) _ rfl rfl
    rcases List.mem_cons.mp hpc with rfl | hpc
    · exact key 4 (by omega) x (p4 x0 x1 x2) (p4_apply x0 x1 x2) _ rfl rfl
    rcases List.mem_cons.mp hpc with rfl | hpc
    · exact key 3 (by omega) x (p3 x0 x1 x2) (p3_apply x0 x1 x2) _ rfl rfl
    rcases List.mem_cons.mp hpc with rfl | hpc
    · exact key 2 (by omega) x (p2 x0 x1 x2) (p2_apply x0 x1 x2) _ rfl rfl
    rcases List.mem_cons.mp hpc with rfl | hpc
    · exact key 1 (by omega) x (p1 x0 x1 x2) (p1_apply x0 x1 x2) _ rfl rfl
    rcases List.mem_cons.mp hpc with rfl | hpc
    · exact key 0 (by omega) x (p0 x0 x1 x2) (p0_apply x0 x1 x2) _ rfl rfl
    nomatch hpc
  · have hp := p.isLt
    have ht := t.isLt
    have cov : ∀ (g : ℕ) (hb : ∀ a, (![128 * g, 0] : Fin 2 → ℕ) a + S128x256.size a ≤ S1536x256.size a) (hpg : p.val / 128 = g),
        (ix2 p t : S1536x256.Idx) ∈ (Rect.unit (s := S1536x256) ![128 * g, 0] S128x256.size hb).set := by
      intro g hb hpg
      rw [Rect.mem_set_unit]
      intro a
      match a with
      | ⟨0, _⟩ => show 128 * g ≤ p.val ∧ p.val < 128 * g + 128; omega
      | ⟨1, _⟩ => show 0 ≤ t.val ∧ t.val < 0 + 256; omega
    have hd : p.val / 128 < 12 := by omega
    unfold pPieces
    generalize hd' : p.val / 128 = d at hd
    interval_cases d
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), cov 0 inb_S1536x256_S128x256_0_0 hd'⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), cov 1 inb_S1536x256_S128x256_128_0 hd'⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), cov 2 inb_S1536x256_S128x256_256_0 hd'⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), cov 3 inb_S1536x256_S128x256_384_0 hd'⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), cov 4 inb_S1536x256_S128x256_512_0 hd'⟩
    · exact ⟨_, List.mem_cons_of_mem _ (List.mem_cons_of_mem _ (List.mem_cons_of_mem _ (List.mem_cons_of_mem _ (List.mem_cons_of_mem _ (List.mem_cons_of_mem _ (List.mem_cons_self)))))), cov 5 inb_S1536x256_S128x256_640_0 hd'⟩
    · exact ⟨_, List.mem_cons_of_mem _ (List.mem_cons_of_mem _ (List.mem_cons_of_mem _ (List.mem_cons_of_mem _ (List.mem_cons_of_mem _ (List.mem_cons_self))))), cov 6 inb_S1536x256_S128x256_768_0 hd'⟩
    · exact ⟨_, List.mem_cons_of_mem _ (List.mem_cons_of_mem _ (List.mem_cons_of_mem _ (List.mem_cons_of_mem _ (List.mem_cons_self)))), cov 7 inb_S1536x256_S128x256_896_0 hd'⟩
    · exact ⟨_, List.mem_cons_of_mem _ (List.mem_cons_of_mem _ (List.mem_cons_of_mem _ (List.mem_cons_self))), cov 8 inb_S1536x256_S128x256_1024_0 hd'⟩
    · exact ⟨_, List.mem_cons_of_mem _ (List.mem_cons_of_mem _ (List.mem_cons_self)), cov 9 inb_S1536x256_S128x256_1152_0 hd'⟩
    · exact ⟨_, List.mem_cons_of_mem _ (List.mem_cons_self), cov 10 inb_S1536x256_S128x256_1280_0 hd'⟩
    · exact ⟨_, List.mem_cons_self, cov 11 inb_S1536x256_S128x256_1408_0 hd'⟩

include he hlt hk hk2 hk1 in
/-- A code: the product has one term. -/
theorem codes_apply (x : Vec Ideal S256x512 .bf16) (p : Fin 1536) (j : Fin 512) :
    k0_pay3 x (oP x0 x1 x2) (ix2 p j) = min (Ideal.ofBits FTy.f32 1138753536#32)
      (max (Ideal.ofBits FTy.f32 3286237184#32) (x (ix2 (tokAt e p) j) * ivOf (kf (expAt e p)))) := by
  have hs : (∑ t : Fin 256, Pval e kf p t * x (ix2 t j) : EReal) = x (ix2 (tokAt e p) j) * ivOf (kf (expAt e p)) := by
    rw [Finset.sum_eq_single (tokAt e p)]
    · unfold Pval; rw [if_pos rfl]; exact mul_comm _ _
    · intro t _ ht
      unfold Pval; rw [if_neg ht]; exact zero_mul _
    · intro h; exact absurd (Finset.mem_univ _) h
  pointwise [k0_pay3, k0_pay1, perm_apply he hlt hk hk2 hk1]
  exact congrArg (fun s => min (Ideal.ofBits FTy.f32 1138753536#32) (max (Ideal.ofBits FTy.f32 3286237184#32) s)) hs

/-- One block's magnitudes at one token and lane. -/
theorem tm_le (m : Vec Ideal S256x128 .bf16) (x : Vec Ideal S256x512 .bf16) (r : Fin 256) (z : EReal) :
    (∀ l : Fin 128, k0_pay2 x m (ix2 r l) ≤ z)
      ↔ (∀ l : Fin 128, m (ix2 r l) ≤ z) ∧ ∀ j : Fin 512, FloatOps.absf (F := Ideal) (φ := .bf16) (x (ix2 r j)) ≤ z := by
  have e1 : ∀ l : Fin 128, k0_pay2 x m (ix2 r l)
      = max (max (max (max (m (ix2 r l)) (FloatOps.absf (F := Ideal) (φ := .bf16) (x (ix2 r ⟨l.val, by omega⟩))))
          (FloatOps.absf (F := Ideal) (φ := .bf16) (x (ix2 r ⟨128 + l.val, by omega⟩))))
        (FloatOps.absf (F := Ideal) (φ := .bf16) (x (ix2 r ⟨256 + l.val, by omega⟩))))
      (FloatOps.absf (F := Ideal) (φ := .bf16) (x (ix2 r ⟨384 + l.val, by omega⟩))) := by
    intro l
    pointwise [k0_pay2, k0_pay1]
  have e2 : ∀ l : Fin 128, k0_pay2 x m (ix2 r l) ≤ z ↔
      (((m (ix2 r l) ≤ z ∧ FloatOps.absf (F := Ideal) (φ := .bf16) (x (ix2 r ⟨l.val, by omega⟩)) ≤ z) ∧ FloatOps.absf (F := Ideal) (φ := .bf16) (x (ix2 r ⟨128 + l.val, by omega⟩)) ≤ z)
        ∧ FloatOps.absf (F := Ideal) (φ := .bf16) (x (ix2 r ⟨256 + l.val, by omega⟩)) ≤ z) ∧ FloatOps.absf (F := Ideal) (φ := .bf16) (x (ix2 r ⟨384 + l.val, by omega⟩)) ≤ z := by
    intro l
    rw [e1]
    exact max_le_iff.trans (and_congr_left fun _ => max_le_iff.trans (and_congr_left fun _ => max_le_iff.trans (and_congr_left fun _ => max_le_iff)))
  constructor
  · intro h
    refine ⟨fun l => ((e2 l).1 (h l)).1.1.1.1, fun j => ?_⟩
    have hj := j.isLt
    rcases (by omega : j.val < 128 ∨ (128 ≤ j.val ∧ j.val < 256) ∨ (256 ≤ j.val ∧ j.val < 384) ∨ 384 ≤ j.val) with h0 | h0 | h0 | h0
    · exact ((e2 ⟨j.val, h0⟩).1 (h _)).1.1.1.2
    · have := ((e2 ⟨j.val - 128, by omega⟩).1 (h _)).1.1.2
      rwa [show (⟨128 + (⟨j.val - 128, by omega⟩ : Fin 128).val, by omega⟩ : Fin 512) = j from Fin.ext (by show 128 + (j.val - 128) = _; omega)] at this
    · have := ((e2 ⟨j.val - 256, by omega⟩).1 (h _)).1.2
      rwa [show (⟨256 + (⟨j.val - 256, by omega⟩ : Fin 128).val, by omega⟩ : Fin 512) = j from Fin.ext (by show 256 + (j.val - 256) = _; omega)] at this
    · have := ((e2 ⟨j.val - 384, by omega⟩).1 (h _)).2
      rwa [show (⟨384 + (⟨j.val - 384, by omega⟩ : Fin 128).val, by omega⟩ : Fin 512) = j from Fin.ext (by show 384 + (j.val - 384) = _; omega)] at this
  · rintro ⟨h1, h2⟩ l
    exact (e2 l).2 ⟨⟨⟨⟨h1 l, h2 _⟩, h2 _⟩, h2 _⟩, h2 _⟩

theorem tm_start (r : Fin 256) (l : Fin 128) : k0_pay72 (F := Ideal) (ix2 r l) = 0 := by
  pointwise [k0_pay72]

theorem bot_word : Ideal.ofBits FTy.f32 4286578688#32 = ⊥ := by
  simp [Ideal.ofBits, Ideal.ieee]

theorem member_pos (he : ∀ k t, wid x0 k t = BitVec.ofNat 32 (e k t)) (hlt : ∀ k t, e k t < 160) (c : Fin 168) (t : Fin 256) :
    (0 : EReal) < oMember (F := Ideal) x0 (ix2 c t) ↔ ∃ k, e k t = c.val := by
  have e1 : oMember (F := Ideal) x0 (ix2 c t) = v137 x0 (ix2 c t) := by
    pointwise [oMember, k0_pay55]
  rw [e1, member_apply he hlt]
  have hz : (0 : EReal) < ((∑ k : Fin 6, if e k t = c.val then 1 else 0 : ℕ) : EReal) ↔ 0 < ∑ k : Fin 6, if e k t = c.val then 1 else 0 := by
    generalize (∑ k : Fin 6, if e k t = c.val then 1 else 0) = n
    exact (EReal.coe_lt_coe_iff (x := (0 : ℝ)) (y := (n : ℝ))).trans Nat.cast_pos
  refine hz.trans ⟨fun h => ?_, fun ⟨k, hk⟩ => Finset.sum_pos' (fun _ _ => Nat.zero_le _) ⟨k, Finset.mem_univ _, by rw [if_pos hk]; omega⟩⟩
  by_contra hn
  rw [Finset.sum_eq_zero fun k _ => if_neg fun hk => hn ⟨k, hk⟩] at h
  exact absurd h (lt_irrefl _)

/-- When the maximum of an expert is at most `z`. -/
theorem amax_le (m : Vec Ideal S256x128 .bf16) (M : Vec Ideal S168x256 .bf16) (c : Fin 160) (z : EReal) :
    k0_pay4 m M (ix2 0 (⟨c.val, by omega⟩ : Fin 168)) ≤ z
      ↔ ∀ t : Fin 256, if 0 < M (ix2 (⟨c.val, by omega⟩ : Fin 168) t) then (∀ l : Fin 128, m (ix2 t l) ≤ z) else 0 ≤ z := by
  have hc : c.val < 168 := by omega
  have e1 : k0_pay4 m M (ix2 0 (⟨c.val, by omega⟩ : Fin 168)) = Finset.fold max (Ideal.ofBits FTy.f32 4286578688#32)
      (fun x : Fin 128 => max
            (if 0 < M (ix2 (⟨c.val, by omega⟩ : Fin 168) ⟨x.val, by omega⟩) then
              Finset.fold max (Ideal.ofBits FTy.f32 4286578688#32) (fun x_1 => m (ix2 ⟨x.val, by omega⟩ x_1)) Finset.univ
            else 0)
            (if 0 < M (ix2 (⟨c.val, by omega⟩ : Fin 168) ⟨128 + x.val, by omega⟩) then
              Finset.fold max (Ideal.ofBits FTy.f32 4286578688#32) (fun x_1 => m (ix2 ⟨128 + x.val, by omega⟩ x_1)) Finset.univ
            else 0)) Finset.univ := by
    pointwise [k0_pay4]
    simp only [hc, ↓reduceDIte]
  have e2 : ∀ t : Fin 256, ((if 0 < M (ix2 (⟨c.val, by omega⟩ : Fin 168) t) then
              Finset.fold max (Ideal.ofBits FTy.f32 4286578688#32) (fun x_1 => m (ix2 t x_1)) Finset.univ
            else 0) ≤ z) ↔ if 0 < M (ix2 (⟨c.val, by omega⟩ : Fin 168) t) then (∀ l : Fin 128, m (ix2 t l) ≤ z) else 0 ≤ z := by
    intro t
    by_cases h : 0 < M (ix2 (⟨c.val, by omega⟩ : Fin 168) t)
    · rw [if_pos h, if_pos h, bot_word]
      exact (Finset.fold_max_le _).trans ⟨fun h l => h.2 l (Finset.mem_univ _), fun h => ⟨bot_le, fun l _ => h l⟩⟩
    · rw [if_neg h, if_neg h]
  rw [e1, bot_word]
  refine (Finset.fold_max_le _).trans ⟨fun h t => ?_, fun h => ⟨bot_le, fun x _ => max_le ((e2 _).2 (h _)) ((e2 _).2 (h _))⟩⟩
  have ht := t.isLt
  by_cases h0 : t.val < 128
  · exact (e2 t).1 (le_trans (le_max_left _ _) (h.2 ⟨t.val, h0⟩ (Finset.mem_univ _)))
  · have := (e2 ⟨128 + (t.val - 128), by omega⟩).1 (le_trans (le_max_right _ _) (h.2 ⟨t.val - 128, by omega⟩ (Finset.mem_univ _)))
    rwa [show (⟨128 + (t.val - 128), by omega⟩ : Fin 256) = t from Fin.ext (by show 128 + (t.val - 128) = _; omega)] at this

include he hlt hk hk2 in
/-- The token of a place. -/
theorem src_apply (g : Fin 12) (c : Fin 128) (p : Fin 1536) (hp : p.val = 128 * g.val + c.val) :
    oSrc x0 x1 x2 (ix2 g c) = BitVec.ofNat 32 (tokAt e p).val := by
  have e1 : oSrc x0 x1 x2 (ix2 g c) = v415 x0 x1 x2 (ix2 ⟨g.val, by omega⟩ c) := by
    pointwise [oSrc, k0_pay53]
  have h1 : g.val / 16 = 0 := by omega
  have h2 : g.val % 16 = g.val := by omega
  rw [e1, rows_apply he hlt hk hk2 ⟨g.val, by omega⟩ c p (by show p.val = 128 * (g.val % 16) + c.val; omega)]
  rw [show rp ⟨g.val, by omega⟩ = 0 from Fin.ext h1]
  rfl

include he hlt hk hk2 in
/-- The weight of a place. -/
theorem rw_apply (g : Fin 12) (c : Fin 128) (p : Fin 1536) (hp : p.val = 128 * g.val + c.val) :
    oRw x0 x1 x2 (ix2 g c) = Ideal.ofBits FTy.f32 (wid x1 (chAt e p) (tokAt e p)) := by
  have e1 : oRw x0 x1 x2 (ix2 g c) = Ideal.ofBits FTy.f32
      (IntOp.ori
        (IntOp.ori
          (IntOp.ori (v415 x0 x1 x2 (ix2 ⟨32 + g.val, by omega⟩ c))
            (IntOp.shli ArithUnit.vector (v415 x0 x1 x2 (ix2 ⟨48 + g.val, by omega⟩ c)) 8#32))
          (IntOp.shli ArithUnit.vector (v415 x0 x1 x2 (ix2 ⟨64 + g.val, by omega⟩ c)) 16#32))
        (IntOp.shli ArithUnit.vector (v415 x0 x1 x2 (ix2 ⟨80 + g.val, by omega⟩ c)) 24#32)) := by
    pointwise [oRw, k0_pay54]
  have key : ∀ (i : Fin 6) (r : Fin 96) (hr : r.val = 16 * i.val + g.val),
      v415 x0 x1 x2 (ix2 r c) = BitVec.ofNat 32 (vn e kf x1 i (chAt e p) (tokAt e p)) := by
    intro i r hr
    have h1 : r.val / 16 = i.val := by omega
    have h2 : r.val % 16 = g.val := by omega
    rw [rows_apply he hlt hk hk2 r c p (by show p.val = 128 * (r.val % 16) + c.val; omega)]
    rw [show rp r = i from Fin.ext h1]
  rw [e1, key 2 _ rfl, key 3 _ rfl, key 4 _ rfl, key 5 _ rfl]
  have hb : ∀ s, BitVec.ofNat 32 (byteAt (wid x1 (chAt e p) (tokAt e p)) s).toNat = byteAt (wid x1 (chAt e p) (tokAt e p)) s := by
    intro s; exact BitVec.ofNat_toNat _ _ |>.trans (BitVec.setWidth_eq _)
  refine congrArg (Ideal.ofBits FTy.f32) (Eq.trans ?_ (bytes_join (wid x1 (chAt e p) (tokAt e p))))
  refine congrArg₂ IntOp.ori (congrArg₂ IntOp.ori (congrArg₂ IntOp.ori (hb 0) ?_) ?_) ?_
  · exact congrArg (fun a => IntOp.shli ArithUnit.vector a 8#32) (hb 8)
  · exact congrArg (fun a => IntOp.shli ArithUnit.vector a 16#32) (hb 16)
  · exact congrArg (fun a => IntOp.shli ArithUnit.vector a 24#32) (hb 24)

/-- The offset of an expert: how many choices fall on experts before it. -/
theorem off_apply (he : ∀ k t, wid x0 k t = BitVec.ofNat 32 (e k t)) (hlt : ∀ k t, e k t < 160) (c : Fin 168) :
    oOff (F := Ideal) x0 (ix2 0 c) = BitVec.ofNat 32 (∑ t : Fin 256, bel e c.val t) := by
  have e1 : oOff (F := Ideal) x0 (ix2 0 c) = Ideal.fptosi 32 (v192 x0 (ix2 0 c)) := by
    pointwise [oOff, k0_pay52]
    rfl
  have hb : ∀ t : Fin 256, bel e c.val t ≤ 6 := by
    intro t
    unfold bel
    refine (Finset.sum_le_card_nsmul Finset.univ _ 1 fun k _ => by split <;> omega).trans ?_
    simp
  have hs : ∑ t : Fin 256, bel e c.val t ≤ 256 * 6 := by
    refine (Finset.sum_le_card_nsmul Finset.univ _ 6 fun t _ => hb t).trans ?_
    simp
  rw [e1, offsets_apply he hlt]
  exact Nats.fptosi_nat _ (by omega)

end Cert.KernelIdeal.Perm
-- ==== Proof.RRoute.lean ====
/- The reference's routing: its keys, their sort, and the places read back from them. -/
module

public import proofs.«01_k».proof.Proof.Gen.ReferenceIdeal.Read
public import proofs.«01_k».proof.Proof.Ranks
public import proofs.«01_k».proof.Proof.Scales
public import Idealize.ShloMosaic.Lib.Pointwise
public import Idealize.ShloMosaic.Lib.SortFacts
public import Idealize.ShloMosaic.Lib.Routing.Words
public import Idealize.ShloMosaic.Lib.Routing.Ops
public import Idealize.ShloMosaic.Lib.Routing.OpsSet
public import Idealize.ShloMosaic.Lib.Routing.OpsSearch
public import Idealize.ShloMosaic.Lib.Routing.OpsPair

@[expose] public section
set_option maxRecDepth 16384

noncomputable section
namespace Cert.ReferenceIdeal.Ref
open Idealize.ShloMosaic Idealize.ShloMosaic.Pointwise
open Cert.ReferenceIdeal Cert.ReferenceIdeal.Gen Cert.ReferenceIdeal.Read Cert.Ranks

variable {x0 : (⟨S2x128x5120, .bf16⟩ : BufTy).Contents (Elt Ideal)} {x1 : (⟨S2x128x6, .i32⟩ : BufTy).Contents (Elt Ideal)} {x2 : (⟨S2x128x6, .i32⟩ : BufTy).Contents (Elt Ideal)} {x3 : (⟨S160x16, .f32⟩ : BufTy).Contents (Elt Ideal)} {e : Fin 6 → Fin 256 → ℕ}
  (hr : ∀ k t, x1 (ix3 (hi t) (lo t) k) = BitVec.ofNat 32 (e k t)) (hlt : ∀ k t, e k t < 160)

/-- A flat array read at a choice. -/
theorem flat_read {α : Type} (x : S2x128x6.Idx → α) (f : Fin 1536) :
    x (ix3 ⟨f.val / 768, by omega⟩ ⟨f.val / 6 % 128, by omega⟩ ⟨f.val % 6, by omega⟩)
      = x (ix3 (hi (ftok f)) (lo (ftok f)) (fch f)) := by
  have h : f.val / 768 = f.val / 6 / 128 := by omega
  exact congrArg (fun a => x (ix3 a (lo (ftok f)) (fch f))) (Fin.ext h : (⟨f.val / 768, by omega⟩ : Fin 2) = hi (ftok f))

include hr in
theorem id_apply (f : Fin 1536) : val_main_v0 (F := Ideal) x1 (ix1 f) = BitVec.ofNat 32 (expert e f) := by
  pointwise [val_main_v0]
  exact (flat_read x1 f).trans (hr _ _)

include hlt in
theorem expert_lt (f : Fin 1536) : expert e f < 160 := hlt _ _

include hlt in
theorem key_lt (f : Fin 1536) : key e f < 245760 := by
  have := expert_lt hlt f
  have := f.isLt
  unfold key; omega

include hr in
theorem key_apply (f : Fin 1536) : val_main_v4 (F := Ideal) x1 (ix1 f) = BitVec.ofNat 32 (key e f) := by
  pointwise [val_main_v4, val_main_v3, val_main_v2, val_main_c, val_main_v1, id_apply hr]
  unfold key
  rw [BitVec.ofNat_add, BitVec.ofNat_mul]
  rfl

include hr hlt in
theorem sorted_apply (p : Fin 1536) : val_main_v5 (F := Ideal) x1 (ix1 p) = BitVec.ofNat 32 (key e (srt e p)) := by
  have hkey : ∀ f, val_main_v4 (F := Ideal) x1 (Shape.Idx.ofFin f) = BitVec.ofNat 32 (key e f) := fun f => key_apply hr f
  unfold val_main_v5
  generalize val_main_v4 (F := Ideal) x1 = y at hkey ⊢
  refine (Host.sort_rank1 (n := 1536) comparator_i32_d0 y (ix1 p)).trans ?_
  have hc : (fun k k' : Fin 1536 => comparator_i32_d0 (y (Shape.Idx.ofFin k)) (y (Shape.Idx.ofFin k')) == 1#1)
      = fun a b => decide (key e a < key e b) := by
    funext a b
    rw [hkey a, hkey b]
    show (IntOp.cmpi .slt (BitVec.ofNat 32 (key e a)) (BitVec.ofNat 32 (key e b)) == 1#1) = _
    have := key_lt hlt a
    have := key_lt hlt b
    rw [Nats.cmp_slt _ _ (by omega) (by omega)]
    by_cases h : key e a < key e b <;> simp [h]
  show y (Shape.Idx.ofFin (sortedFrom (fun k k' : Fin 1536 => comparator_i32_d0 (y (Shape.Idx.ofFin k)) (y (Shape.Idx.ofFin k')) == 1#1) p)) = _
  rw [hc]
  exact hkey (srt e p)

theorem v6_eq : val_main_v6 (F := Ideal) x1 = Routing.pyRem bcast_S_S1536 (val_main_v5 (F := Ideal) x1) (val_main_c_0 (F := Ideal)) := by
  simp only [val_main_v6, val_main_call1_v4, val_main_call1_v6, val_main_call1_v8, val_main_call1_v11, val_main_call1_v12, val_main_call1_v14]
  generalize val_main_v5 (F := Ideal) x1 = y
  rfl

theorem v7_eq : val_main_v7 (F := Ideal) x1 = Routing.pyDiv bcast_S_S1536 (val_main_v5 (F := Ideal) x1) (val_main_c_1 (F := Ideal)) := by
  simp only [val_main_v7, val_main_call2_v2, val_main_call2_v3, val_main_call2_v6, val_main_call2_v8, val_main_call2_v10, val_main_call2_v11, val_main_call2_v13]
  generalize val_main_v5 (F := Ideal) x1 = y
  rfl

theorem v8_eq : val_main_v8 (F := Ideal) x1 = Routing.pyDiv bcast_S_S1536 (val_main_v6 (F := Ideal) x1) (val_main_c_2 (F := Ideal)) := by
  simp only [val_main_v8, val_main_call3_v2, val_main_call3_v3, val_main_call3_v6, val_main_call3_v8, val_main_call3_v10, val_main_call3_v11, val_main_call3_v13]
  generalize val_main_v6 (F := Ideal) x1 = y
  rfl

include hr hlt in
theorem perm_apply (p : Fin 1536) : val_main_v6 (F := Ideal) x1 (ix1 p) = BitVec.ofNat 32 (srt e p).val := by
  have h := Routing.pyRem_ap bcast_S_S1536 (val_main_v5 (F := Ideal) x1) (val_main_c_0 (F := Ideal)) (ix1 p) (sorted_apply hr hlt p) (b := 1536) rfl
    (by have := key_lt hlt (srt e p); omega) (by omega) (by omega)
  rw [v6_eq]
  refine h.trans (congrArg (BitVec.ofNat 32) ?_)
  have := (srt e p).isLt
  unfold key; omega

include hr hlt in
theorem exp_apply (p : Fin 1536) : val_main_v7 (F := Ideal) x1 (ix1 p) = BitVec.ofNat 32 (expAt e p) := by
  have h := Routing.pyDiv_ap bcast_S_S1536 (val_main_v5 (F := Ideal) x1) (val_main_c_1 (F := Ideal)) (ix1 p) (sorted_apply hr hlt p) (b := 1536) rfl
    (by have := key_lt hlt (srt e p); omega) (by omega) (by omega)
  rw [v7_eq]
  refine h.trans (congrArg (BitVec.ofNat 32) ?_)
  have := (srt e p).isLt
  rw [show key e (srt e p) / 1536 = expert e (srt e p) by unfold key; omega]
  rfl

include hr hlt in
theorem tok_apply (p : Fin 1536) : val_main_v8 (F := Ideal) x1 (ix1 p) = BitVec.ofNat 32 (tokAt e p).val := by
  have h := Routing.pyDiv_ap bcast_S_S1536 (val_main_v6 (F := Ideal) x1) (val_main_c_2 (F := Ideal)) (ix1 p) (perm_apply hr hlt p) (b := 6) rfl
    (by have := (srt e p).isLt; omega) (by omega) (by omega)
  rw [v8_eq]
  exact h

/-- A number below `2 ^ 31` passes the index wrap. -/
theorem wrap (n : ℕ) (h : n < 2 ^ 31) (a : BitVec 32) : Scalar.select (IntOp.cmpi .slt (BitVec.ofNat 32 n) 0#32) a (BitVec.ofNat 32 n) = BitVec.ofNat 32 n :=
  Routing.wrap_of_lt _ _ (by rw [BitVec.toNat_ofNat, Nat.mod_eq_of_lt (by omega)]; exact h)

include hr hlt in
theorem weight_apply (p : Fin 1536) : val_main_v17 (F := Ideal) x1 x2 (ix1 p)
    = Ideal.ofBits .f32 (x2 (ix3 (hi (tokAt e p)) (lo (tokAt e p)) (chAt e p))) := by
  have h15 : val_main_v15 (F := Ideal) x1 (ix2 p 0) = BitVec.ofNat 32 (srt e p).val := by
    pointwise [val_main_v15, val_main_v14, val_main_v13, val_main_v12, val_main_v11, val_main_v10, val_main_c_3, val_main_c_4, perm_apply hr hlt]
    exact wrap _ (by have := (srt e p).isLt; omega) _
  have h16 : val_main_v16 (F := Ideal) x1 x2 (ix1 p) = val_main_v9 (F := Ideal) x2 (ix1 (srt e p)) := by
    unfold val_main_v16
    exact Routing.gather_take1 _ rfl rfl rfl rfl _ _ p (srt e p) h15 (by omega)
  have h9 : val_main_v9 (F := Ideal) x2 (ix1 (srt e p)) = x2 (ix3 (hi (tokAt e p)) (lo (tokAt e p)) (chAt e p)) := by
    pointwise [val_main_v9]
    exact flat_read x2 (srt e p)
  pointwise [val_main_v17]
  rw [h16, h9]

include hr hlt in
theorem row_apply (p : Fin 1536) (j : Fin 5120) : val_main_v25 (F := Ideal) x0 x1 (ix2 p j)
    = x0 (ix3 (hi (tokAt e p)) (lo (tokAt e p)) j) := by
  have h24 : val_main_v24 (F := Ideal) x1 (ix2 p 0) = BitVec.ofNat 32 (tokAt e p).val := by
    pointwise [val_main_v24, val_main_v23, val_main_v22, val_main_v21, val_main_v20, val_main_v19, val_main_c_5, val_main_c_6, tok_apply hr hlt]
    exact wrap _ (by have := (tokAt e p).isLt; omega) _
  unfold val_main_v25
  refine (Routing.gather_row _ rfl rfl rfl rfl rfl _ _ p j (tokAt e p) h24 (by omega)).trans ?_
  pointwise [val_main_v18]
  rfl

include hr hlt in
/-- The choices of an expert, counted. -/
theorem count_apply (c : Fin 160) : val_main_v33 (F := Ideal) x1 (ix1 c) = BitVec.ofNat 32 (∑ f, if expert e f = c.val then 1 else 0) := by
  have hc := c.isLt
  pointwise [val_main_v33, val_main_v32, val_main_v31, val_main_v30, val_main_v29, val_main_v28, val_main_v27, val_main_v26, val_main_c_7]
  have e1 : (fun x : Fin 1536 => BitVec.setWidth 32 (IntOp.cmpi CmpIPredicate.eq (val_main_v0 (F := Ideal) x1 (ix1 x)) (BitVec.ofNat 32 c.val)))
      = fun x => BitVec.ofNat 32 (if expert e x = c.val then 1 else 0) := by
    funext x
    have := expert_lt hlt x
    rw [id_apply hr, Nats.cmp_eq _ _ (by omega) (by omega)]
    by_cases h : expert e x = c.val <;> simp [h]
  rw [e1]
  have e2 : ∀ s : Finset (Fin 1536), Finset.fold IntOp.addi (0#32) (fun x : Fin 1536 => BitVec.ofNat 32 (if expert e x = c.val then 1 else 0)) s
      = BitVec.ofNat 32 (∑ x ∈ s, if expert e x = c.val then 1 else 0) := by
    intro s
    induction s using Finset.induction_on with
    | empty => rfl
    | insert a s ha ih => rw [Finset.fold_insert ha, ih, Finset.sum_insert ha]; exact (BitVec.ofNat_add ..).symm
  exact e2 _

/-- The choices of the experts before one, counted expert by expert. -/
theorem count_before (c : ℕ) : ((List.range c).map fun i => ∑ f, if expert e f = i then 1 else 0).sum = ∑ t : Fin 256, bel e c t := by
  have h1 : ∑ t : Fin 256, bel e c t = ∑ f, if expert e f < c then 1 else 0 := by
    rw [sum_flat]
    refine Finset.sum_congr rfl fun t _ => Finset.sum_congr rfl fun k _ => ?_
    rw [expert_flat]
  rw [h1]
  induction c with
  | zero => simp
  | succ c ih =>
    rw [List.range_succ, List.map_append, List.sum_append, ih]
    · simp only [List.map_cons, List.map_nil, List.sum_cons, List.sum_nil, Nat.add_zero]
      rw [← Finset.sum_add_distrib]
      refine Finset.sum_congr rfl fun f _ => ?_
      rcases lt_trichotomy (expert e f) c with h | h | h
      · rw [if_pos h, if_neg (by omega), if_pos (by omega)]
      · rw [if_neg (by omega), if_pos h, if_pos (by omega)]
      · rw [if_neg (by omega), if_neg (by omega), if_neg (by omega)]
    · rw [sum_flat]
      refine Finset.sum_congr rfl fun t _ => Finset.sum_congr rfl fun k _ => ?_
      rw [expert_flat]

include hr hlt in
/-- The offset of an expert. -/
theorem off_apply (c : Fin 161) : val_main_v36 (F := Ideal) x1 (ix1 c) = BitVec.ofNat 32 (∑ t : Fin 256, bel e c.val t) := by
  rw [← count_before]
  pointwise [val_main_v36, val_main_v34, val_main_c_8]
  by_cases h : c.val < 1
  · rw [dif_pos h, show c.val = 0 by omega]; rfl
  · rw [dif_neg h]
    unfold val_main_v35
    refine (Routing.cumsum1 rfl (val_main_v33 (F := Ideal) x1) (fun i => ∑ f, if expert e f = i then 1 else 0) (fun i => count_apply hr hlt i)
      (val_main_call4_call0_v0 (F := Ideal)) ?_ reduceWindows_S160_S160_w160s1p159_0 h_S_ ⟨c.val - 1, by omega⟩).trans ?_
    · pointwise [val_main_call4_call0_v0, val_main_call4_call0_c]
    · rw [show (⟨c.val - 1, by omega⟩ : Fin 160).val + 1 = c.val by show c.val - 1 + 1 = c.val; omega]

end Cert.ReferenceIdeal.Ref
-- ==== Proof.RQuant.lean ====
/- The reference's scales, codes and new maxima. -/
module

public import proofs.«01_k».proof.Proof.Gen.ReferenceIdeal.Read
public import proofs.«01_k».proof.Proof.Ranks
public import proofs.«01_k».proof.Proof.Scales
public import Idealize.ShloMosaic.Lib.Pointwise
public import proofs.«01_k».proof.Proof.RRoute
public import Idealize.ShloMosaic.Lib.Routing.Words
public import Idealize.ShloMosaic.Lib.Routing.Ops
public import Idealize.ShloMosaic.Lib.Routing.OpsSet
public import Idealize.ShloMosaic.Lib.Routing.OpsSearch
public import Idealize.ShloMosaic.Lib.Routing.OpsPair

@[expose] public section
set_option maxRecDepth 16384

noncomputable section
namespace Cert.ReferenceIdeal.Ref
open Idealize.ShloMosaic Idealize.ShloMosaic.Pointwise
open Cert.ReferenceIdeal Cert.ReferenceIdeal.Gen Cert.ReferenceIdeal.Read Cert.Ranks Cert.Scales

variable {x0 : (⟨S2x128x5120, .bf16⟩ : BufTy).Contents (Elt Ideal)} {x1 : (⟨S2x128x6, .i32⟩ : BufTy).Contents (Elt Ideal)} {x2 : (⟨S2x128x6, .i32⟩ : BufTy).Contents (Elt Ideal)} {x3 : (⟨S160x16, .f32⟩ : BufTy).Contents (Elt Ideal)} {e : Fin 6 → Fin 256 → ℕ}
  (hr : ∀ k t, x1 (ix3 (hi t) (lo t) k) = BitVec.ofNat 32 (e k t)) (hlt : ∀ k t, e k t < 160)

theorem absf_nonneg (φ : FTy) (a : EReal) : (0 : EReal) ≤ FloatOps.absf (F := Ideal) (φ := φ) a := by
  show (0 : EReal) ≤ max a (-a)
  rcases le_total 0 a with h | h
  · exact le_max_of_le_left h
  · exact le_max_of_le_right (by rw [← neg_zero]; exact EReal.neg_le_neg_iff.2 h)

theorem sel_if (p : Prop) [Decidable p] (A B : EReal) : Scalar.select (BitVec.ofBool (decide p)) A B = if p then A else B := by
  by_cases h : p <;> simp [h, Scalar.select]

/-- The scaled maximum of an expert's history. -/
def yRef (x3 : (⟨S160x16, .f32⟩ : BufTy).Contents (Elt Ideal)) (c : Fin 160) : EReal :=
  FloatOps.absf (F := Ideal) (φ := .f32) (Finset.fold max (Ideal.ofBits FTy.f32 4286578688#32) (fun x : Fin 16 => x3 (ix2 c x)) Finset.univ *
        Ideal.ofBits FTy.f32 991054117#32)

theorem y_apply (c : Fin 160) : val_main_v40 (F := Ideal) x3 (ix1 c) = yRef x3 c := by
  pointwise [val_main_v40, val_main_v39, val_main_v38, val_main_v37, val_main_cst, val_main_cst_9]
  rfl

theorem two_word : Ideal.ofBits FTy.f32 1073741824#32 = ((2 : ℝ) : EReal) := by
  rw [show (1073741824#32 : BitVec 32) = BitVec.ofNat 32 ((127 + 1) * 8388608) from rfl]
  refine (ofBits_pw 127 (by omega)).trans ?_
  simp [pw]

theorem top_word : Ideal.ofBits FTy.f32 2139095040#32 = ⊤ := by
  rw [show (2139095040#32 : BitVec 32) = BitVec.ofNat 32 ((254 + 1) * 8388608) from rfl]
  refine (ofBits_pw 254 (by omega)).trans ?_
  simp [pw]

theorem tiny_word : Ideal.ofBits FTy.f32 8388608#32 = pw 0 := ofBits_pw 0 (by omega)

theorem one_word : Ideal.ofBits FTy.f32 1065353216#32 = 1 := (ofBits_pw 126 (by omega)).trans pw_126

theorem exps : ∀ n : Fin 253, (IntOp.addi (4294967171#32) (BitVec.ofNat 32 n.val)).toInt = (n.val : ℤ) - 125 := by
  decide +kernel

/-- The powers of two that the reference compares with. -/
theorem pow_apply (n : Fin 253) : val_main_v46 (F := Ideal) (ix1 n) = pw (n.val + 1) := by
  pointwise [val_main_v46, val_main_v45, val_main_v44, val_main_v43, val_main_v42, val_main_v41, val_main_cst_10, val_main_c_11]
  have hn := n.isLt
  have e1 : (FloatOps.sitofp (F := Ideal) FTy.f32 (IntOp.addi (4294967171#32) (BitVec.ofNat 32 n.val)) : EReal) = ((((n.val : ℤ) - 125 : ℤ) : ℝ) : EReal) := by
    show (((IntOp.addi (4294967171#32) (BitVec.ofNat 32 n.val)).toInt : ℝ) : EReal) = _
    rw [exps]
  refine (congrArg₂ Ideal.pow two_word e1).trans ?_
  show ((Real.rpow 2 (((n.val : ℤ) - 125 : ℤ) : ℝ) : ℝ) : EReal) = _
  unfold pw
  rw [if_pos (by omega)]
  congr 1
  refine (Real.rpow_intCast 2 _).trans ?_
  congr 1
  push_cast; ring

/-- The scale of an expert. -/
theorem scale_apply (c : Fin 160) : val_main_v57 (F := Ideal) x3 (ix1 c) = sc (yRef x3 c) := by
  have e1 : val_main_v57 (F := Ideal) x3 (ix1 c) = if yRef x3 c < pw 0 then (1 : EReal) else
      Finset.fold min ⊤ (fun x : Fin 253 => if yRef x3 c < val_main_v46 (F := Ideal) (ix1 x) then (val_main_v46 (F := Ideal) (ix1 x) : EReal) else ⊤) Finset.univ := by
    rw [← tiny_word, ← one_word, ← top_word, ← y_apply]
    pointwise [val_main_v57, val_main_call6_v1, val_main_call6_v0, val_main_cst_15, val_main_v56, val_main_v55, val_main_cst_14, val_main_v54, val_main_cst_13, val_main_v53, val_main_call5_v2, val_main_call5_v1, val_main_call5_v0, val_main_cst_12, val_main_v52, val_main_v51, val_main_v50, val_main_v49, val_main_v48, val_main_v47]
    have c1 : (id (constant (F := Ideal) S_ FTy.f32 1065353216#32) ix0 : EReal) = 1 := one_word
    have c2 : (id (constant (F := Ideal) S_ FTy.f32 2139095040#32) ix0 : EReal) = Ideal.ofBits FTy.f32 2139095040#32 := rfl
    rw [c1, c2]
  rw [e1]
  by_cases h : yRef x3 c < pw 0
  · rw [if_pos h]
    unfold sc; rw [if_pos (Nat.le_zero.1 ((lt_iff _ 0 (by omega)).1 h))]
  · rw [if_neg h]
    have h0 : reach (yRef x3 c) ≠ 0 := fun h0 => h ((lt_iff _ 0 (by omega)).2 h0.le)
    unfold sc; rw [if_neg h0]
    exact fold_above _ h0 _ pow_apply

/-- Its reciprocal. -/
theorem inv_apply (c : Fin 160) : val_main_v62 (F := Ideal) x3 (ix1 c) = ivOf (kfOf (yRef x3 c)) := by
  rw [← inv_sc _ (kfOf_pos _) (kfOf_le _), ← sc_eq, ← scale_apply, ← tiny_word]
  have hz : (0 : EReal) = Ideal.ofBits .f32 0#32 := Ideal.ofBits_zero_f32.symm
  pointwise [val_main_v62, val_main_call7_v1, val_main_call7_v0, val_main_cst_18, val_main_v61, val_main_v60, val_main_cst_17, val_main_v59, val_main_v58, val_main_cst_16]
  rw [show (id (constant (F := Ideal) S_ FTy.f32 0#32) ix0 : EReal) = 0 from Ideal.ofBits_zero_f32]

include hr hlt in
/-- The reciprocal that goes with a place. -/
theorem invRow_apply (p : Fin 1536) : val_main_v69 (F := Ideal) x1 x3 (ix1 p) = ivOf (kfOf (yRef x3 ⟨expAt e p, hlt _ _⟩)) := by
  have h68 : val_main_v68 (F := Ideal) x1 (ix2 p 0) = BitVec.ofNat 32 (expAt e p) := by
    pointwise [val_main_v68, val_main_v67, val_main_v66, val_main_v65, val_main_v64, val_main_v63, val_main_c_19, val_main_c_20, exp_apply hr hlt]
    exact wrap _ (by have : expAt e p < 160 := hlt _ _; omega) _
  unfold val_main_v69
  exact (Routing.gather_take1 _ rfl rfl rfl rfl _ _ p ⟨expAt e p, hlt _ _⟩ h68 (by omega)).trans (inv_apply _)

include hr hlt in
/-- A code. -/
theorem codes_apply (p : Fin 1536) (j : Fin 5120) : val_main_v84 (F := Ideal) x0 x1 x3 (ix2 p j) = min (Ideal.ofBits FTy.f32 1138753536#32)
      (max (Ideal.ofBits FTy.f32 3286237184#32) (x0 (ix3 (hi (tokAt e p)) (lo (tokAt e p)) j)
        * ivOf (kfOf (yRef x3 ⟨expAt e p, hlt _ _⟩)))) := by
  rw [← invRow_apply hr hlt p, ← row_apply (x0 := x0) hr hlt p j]
  pointwise [val_main_v84, val_main_v83, val_main_call9_v4, val_main_call9_v3, val_main_call9_v2, val_main_call9_v1, val_main_call9_v0, val_main_cst_24, val_main_cst_25, val_main_v82, val_main_v81, val_main_v80, val_main_v79]
  rfl

include hr hlt in
/-- When the new maximum of an expert is at most `z`. -/
theorem amax_le (c : Fin 160) (z : EReal) : val_main_v78 (F := Ideal) x0 x1 (ix1 c) ≤ z
    ↔ ∀ f : Fin 1536, if expert e f = c.val then
        (∀ j : Fin 5120, FloatOps.absf (F := Ideal) (φ := .f32) (x0 (ix3 (hi (ftok f)) (lo (ftok f)) j)) ≤ z) else 0 ≤ z := by
  have hc := c.isLt
  have hb : Ideal.ofBits FTy.f32 4286578688#32 = ⊥ := by simp [Ideal.ofBits, Ideal.ieee]
  have e0 : val_main_v78 (F := Ideal) x0 x1 (ix1 c) = Finset.fold max (Ideal.ofBits FTy.f32 4286578688#32)
      (fun x : Fin 1536 => Scalar.select (IntOp.cmpi CmpIPredicate.eq (val_main_v0 (F := Ideal) x1 (ix1 x)) (BitVec.ofNat 32 c.val))
          (Finset.fold max (Ideal.ofBits FTy.f32 4286578688#32)
            (fun j : Fin 5120 => (FloatOps.absf (F := Ideal) (φ := .f32) (x0 (ix3 (hi (ftok x)) (lo (ftok x)) j)) : EReal)) Finset.univ)
          (id (constant (F := Ideal) S_ FTy.f32 0#32) ix0 : EReal)) Finset.univ := by
    pointwise [val_main_v78, val_main_cst_23, val_main_v77, val_main_call8_v2, val_main_call8_v1, val_main_call8_v0, val_main_cst_22, val_main_v76, val_main_v75, val_main_v74, val_main_v73, val_main_v72, val_main_cst_21, val_main_v71, val_main_v70, val_main_v31, val_main_v30, val_main_v29, val_main_v28, val_main_v27, val_main_v26, val_main_v18]
    rfl
  have e1 : val_main_v78 (F := Ideal) x0 x1 (ix1 c) = Finset.fold max ⊥
      (fun x : Fin 1536 =>
        if expert e x = c.val then
          (Finset.fold max ⊥
            (fun j : Fin 5120 => (FloatOps.absf (F := Ideal) (φ := .f32) (x0 (ix3 (hi (ftok x)) (lo (ftok x)) j)) : EReal)) Finset.univ)
          else 0) Finset.univ := by
    rw [e0, hb]
    refine Finset.fold_congr fun x _ => ?_
    have := expert_lt hlt x
    rw [id_apply hr, Nats.cmp_eq _ _ (by omega) (by omega), show (id (constant (F := Ideal) S_ FTy.f32 0#32) ix0 : EReal) = 0 from Ideal.ofBits_zero_f32]
    exact sel_if _ _ _
  rw [e1]
  refine (Finset.fold_max_le _).trans ⟨fun h f => ?_, fun h => ⟨bot_le, fun f _ => ?_⟩⟩
  · have hf := h.2 f (Finset.mem_univ _)
    by_cases he : expert e f = c.val
    · rw [if_pos he] at hf ⊢
      exact fun j => ((Finset.fold_max_le _).1 hf).2 j (Finset.mem_univ _)
    · rw [if_neg he] at hf ⊢; exact hf
  · have hf := h f
    by_cases he : expert e f = c.val
    · rw [if_pos he] at hf ⊢
      exact (Finset.fold_max_le _).2 ⟨bot_le, fun j _ => hf j⟩
    · rw [if_neg he] at hf ⊢; exact hf

end Cert.ReferenceIdeal.Ref
-- ==== Proof.Agree.lean ====
/- The kernel's arrays are the reference's: result by result, for ids in range. -/
module

public import proofs.«01_k».proof.Proof.KIn
public import proofs.«01_k».proof.Proof.KRun
public import proofs.«01_k».proof.Proof.KOut
public import proofs.«01_k».proof.Proof.RQuant

@[expose] public section

set_option maxRecDepth 16384

noncomputable section

namespace Cert.Agree

open Idealize.ShloMosaic Idealize.ShloMosaic.TcCoe Idealize.ShloMosaic.Pointwise
open Cert.KernelIdeal Cert.KernelIdeal.Gen Cert.KernelIdeal.Val Cert.KernelIdeal.Ids Cert.KernelIdeal.Perm Cert.KernelIdeal.Scale
open Cert.Ranks Cert.Scales
open Cert.ReferenceIdeal.Ref (yRef absf_nonneg)
open Cert.ReferenceIdeal.Read (val_main_v84 val_main_v57 val_main_v8 val_main_v17 val_main_v36 val_main_v78)

variable (m : (ℓ : Loc nD τ sig) → Buf (Elt Ideal) ℓ) (c : Dev nD)

/-! ## The arguments -/

/-- The tokens, the expert ids, the words of the weights and the history, as launched. -/
abbrev argX : Vec Ideal S2x128x5120 .bf16 := m ((c : Thread nD τ).loc main_arg0)
abbrev argIds : Vec Ideal S2x128x6 .i32 := m ((c : Thread nD τ).loc main_arg1)
abbrev argWords : Vec Ideal S2x128x6 .i32 := m ((c : Thread nD τ).loc main_arg2)
abbrev argHist : Vec Ideal S160x16 .f32 := m ((c : Thread nD τ).loc main_arg3)

/-- The expert of choice `k` of token `t`, as a number. -/
def eOf (k : Fin 6) (t : Fin 256) : ℕ := (argIds m c (ix3 (hi t) (lo t) k)).toNat

/-- The field of the scale of expert `n`. -/
def kOf (n : ℕ) : ℕ := if h : n < 160 then kfOf (yRef (argHist m c) ⟨n, h⟩) else 1

theorem ref_ids (k : Fin 6) (t : Fin 256) : argIds m c (ix3 (hi t) (lo t) k) = BitVec.ofNat 32 (eOf m c k t) :=
  by simp [eOf]

theorem ker_ids (k : Fin 6) (t : Fin 256) : wid (idsAt m c) k t = BitVec.ofNat 32 (eOf m c k t) :=
  (ids_apply m c k (hi t) (lo t)).trans (ref_ids m c k t)

theorem ker_words (k : Fin 6) (t : Fin 256) : wid (wordsAt m c) k t = argWords m c (ix3 (hi t) (lo t) k) :=
  words_apply m c k (hi t) (lo t)

theorem y_eq (x : Fin 160) : yOf (histAt m c) x = yRef (argHist m c) x := by
  unfold yOf yRef
  simp only [hist_apply]

theorem ker_field (x : Fin 160) : v164 (histAt m c) (ix2 0 x) + 126#32 = BitVec.ofNat 32 (kOf m c x.val) := by
  rw [kexp_shift, y_eq]
  unfold kOf
  rw [dif_pos x.isLt]

theorem kOf_lt (n : ℕ) : kOf m c n < 256 := by
  unfold kOf; split
  · have := kfOf_le (yRef (argHist m c) ⟨n, by assumption⟩); omega
  · omega

theorem kOf_pos (n : ℕ) : 1 ≤ kOf m c n := by
  unfold kOf; split
  · exact kfOf_pos _
  · exact le_refl 1

/-! ## Flat places -/

/-- The row and the lane of place `p`. -/
def row (p : Fin 1536) : Fin 12 := ⟨p.val / 128, by omega⟩
def lane (p : Fin 1536) : Fin 128 := ⟨p.val % 128, by omega⟩

theorem flat2_apply (x : Vec Ideal S12x128 .i32) (p : Fin 1536) : flat2 x (ix1 p) = x (ix2 (row p) (lane p)) := by
  pointwise [flat2]
  rfl
theorem flat3_apply (x : Vec Ideal S12x128 .f32) (p : Fin 1536) : flat3 x (ix1 p) = x (ix2 (row p) (lane p)) := by
  pointwise [flat3]
  rfl
theorem flat1_apply (x : Vec Ideal S1x160 .f32) (p : Fin 160) : flat1 x (ix1 p) = x (ix2 0 p) := by
  pointwise [flat1]
theorem flat4_apply (x : Vec Ideal S1x168 .i32) (p : Fin 161) : flat4 x (ix1 p) = x (ix2 0 (⟨p.val, by omega⟩ : Fin 168)) := by
  pointwise [flat4]
theorem flat5_apply (x : Vec Ideal S1x168 .f32) (p : Fin 160) : flat5 x (ix1 p) = x (ix2 0 (⟨p.val, by omega⟩ : Fin 168)) := by
  pointwise [flat5]

/-! ## Result by result -/

theorem scales : flat1 (scaleAt m c) = val_main_v57 (F := Ideal) (argHist m c) := by
  funext i
  obtain ⟨p, rfl⟩ : ∃ p : Fin 160, i = ix1 p := ⟨i 0, eq_ix1 i⟩
  rw [flat1_apply, Cert.ReferenceIdeal.Ref.scale_apply]
  exact (Cert.KernelIdeal.Scale.scale_apply _ p).trans (congrArg sc (y_eq m c p))

variable (hlt : ∀ k t, eOf m c k t < 160)
include hlt

theorem tokens : flat2 (srcAt m c) = val_main_v8 (F := Ideal) (argIds m c) := by
  funext i
  obtain ⟨p, rfl⟩ : ∃ p : Fin 1536, i = ix1 p := ⟨i 0, eq_ix1 i⟩
  rw [flat2_apply, Cert.ReferenceIdeal.Ref.tok_apply (ref_ids m c) hlt]
  exact src_apply (ker_ids m c) hlt (ker_field m c) (kOf_lt m c) (row p) (lane p) p (Nat.div_add_mod _ _).symm

theorem weights : flat3 (rwAt m c) = val_main_v17 (F := Ideal) (argIds m c) (argWords m c) := by
  funext i
  obtain ⟨p, rfl⟩ : ∃ p : Fin 1536, i = ix1 p := ⟨i 0, eq_ix1 i⟩
  rw [flat3_apply, Cert.ReferenceIdeal.Ref.weight_apply (ref_ids m c) hlt]
  refine (rw_apply (ker_ids m c) hlt (ker_field m c) (kOf_lt m c) (row p) (lane p) p (Nat.div_add_mod _ _).symm).trans ?_
  rw [ker_words]

theorem offsets : flat4 (offAt m c) = val_main_v36 (F := Ideal) (argIds m c) := by
  funext i
  obtain ⟨p, rfl⟩ : ∃ p : Fin 161, i = ix1 p := ⟨i 0, eq_ix1 i⟩
  rw [flat4_apply, Cert.ReferenceIdeal.Ref.off_apply (ref_ids m c) hlt]
  exact Cert.KernelIdeal.Perm.off_apply (ker_ids m c) hlt _

theorem codes : codesOf m c = val_main_v84 (F := Ideal) (argX m c) (argIds m c) (argHist m c) := by
  funext i
  obtain ⟨p, d, rfl⟩ : ∃ (p : Fin 1536) (d : Fin 5120), i = ix2 p d := ⟨i 0, i 1, eq_ix2 i⟩
  rw [Cert.ReferenceIdeal.Ref.codes_apply (ref_ids m c) hlt]
  refine (Cert.KernelIdeal.Perm.codes_apply (ker_ids m c) hlt (ker_field m c) (kOf_lt m c) (kOf_pos m c)
    (iblk m c 3 (ptOf d)) p (inOf d)).trans ?_
  rw [x_apply m c (ptOf d) (tokAt (eOf m c) p) (inOf d) d (by show d.val = d.val / 512 * 512 + d.val % 512; omega)]
  have h : kOf m c (expAt (eOf m c) p) = kfOf (yRef (argHist m c) ⟨expAt (eOf m c) p, hlt _ _⟩) := by
    unfold kOf; exact dif_pos (hlt _ _)
  rw [h]

omit hlt in
/-- The running maxima of a token are at most `z` when all its elements so far are. -/
theorem tm_upto (r : Fin 256) (z : EReal) : ∀ (n : ℕ) (h : n < cfg0.N), (∀ l : Fin 128, tmAt m c n h (ix2 r l) ≤ z)
    ↔ 0 ≤ z ∧ ∀ d : Fin 5120, d.val < 512 * (n + 1) → FloatOps.absf (F := Ideal) (φ := .bf16) (argX m c (ix3 (hi r) (lo r) d)) ≤ z := by
  have hN : cfg0.N = 10 := N_0
  intro n
  induction n with
  | zero =>
    intro h
    rw [show tmAt m c 0 h = k0_pay2 (iblk m c 3 ⟨0, h⟩) (k0_pay72 (F := Ideal)) from rfl, tm_le]
    refine and_congr ?_ ?_
    · simp only [tm_start]
      exact ⟨fun h => h 0, fun h _ => h⟩
    · constructor
      · intro hj d hd
        have := hj ⟨d.val, by omega⟩
        rwa [x_apply m c ⟨0, h⟩ r ⟨d.val, by omega⟩ d (by show d.val = 0 * 512 + d.val; omega)] at this
      · intro hd j
        have := j.isLt
        rw [x_apply m c ⟨0, h⟩ r j ⟨j.val, by omega⟩ (by show j.val = 0 * 512 + j.val; omega)]
        exact hd _ (by show j.val < _; omega)
  | succ n ih =>
    intro h
    rw [show tmAt m c (n + 1) h = k0_pay2 (iblk m c 3 ⟨n + 1, h⟩) (tmAt m c n (Nat.lt_of_succ_lt h)) from rfl, tm_le, ih, and_assoc]
    refine and_congr Iff.rfl ?_
    constructor
    · rintro ⟨h1, h2⟩ d hd
      by_cases hn : d.val < 512 * (n + 1)
      · exact h1 d hn
      · have := h2 ⟨d.val - 512 * (n + 1), by omega⟩
        rwa [x_apply m c ⟨n + 1, h⟩ r _ d (by show d.val = (n + 1) * 512 + (d.val - 512 * (n + 1)); omega)] at this
    · intro hd
      refine ⟨fun d hn => hd d (by omega), fun j => ?_⟩
      have := j.isLt
      rw [x_apply m c ⟨n + 1, h⟩ r j ⟨(n + 1) * 512 + j.val, by omega⟩ rfl]
      exact hd _ (by show (n + 1) * 512 + j.val < _; omega)

theorem maxima : flat5 (amaxAt m c) = val_main_v78 (F := Ideal) (argX m c) (argIds m c) := by
  funext i
  obtain ⟨p, rfl⟩ : ∃ p : Fin 160, i = ix1 p := ⟨i 0, eq_ix1 i⟩
  rw [flat5_apply]
  refine eq_of_forall_ge_iff fun z => ?_
  rw [Cert.ReferenceIdeal.Ref.amax_le (ref_ids m c) hlt, Cert.KernelIdeal.Perm.amax_le]
  have hmem : ∀ t : Fin 256, (0 : EReal) < memberAt m c (ix2 (⟨p.val, by omega⟩ : Fin 168) t) ↔ ∃ k, eOf m c k t = p.val :=
    fun t => member_pos (ker_ids m c) hlt ⟨p.val, by omega⟩ t
  constructor
  · intro hk f
    have ht := hk (ftok f)
    split
    · rename_i hf
      rw [if_pos ((hmem (ftok f)).2 ⟨fch f, hf⟩)] at ht
      exact fun j => ((tm_upto m c (ftok f) z 9 _).1 ht).2 j (by have := j.isLt; omega)
    · split at ht
      · exact ((tm_upto m c (ftok f) z 9 _).1 ht).1
      · exact ht
  · intro hf t
    have h0 : 0 ≤ z := by
      have h := hf (flat 0 t)
      split at h
      · exact (absf_nonneg _ _).trans (h 0)
      · exact h
    split
    · rename_i hm
      obtain ⟨k, hk⟩ := (hmem t).1 hm
      have h := hf (flat k t)
      rw [if_pos (by rw [expert_flat]; exact hk)] at h
      refine (tm_upto m c t z 9 _).2 ⟨h0, fun d _ => ?_⟩
      have ht : ftok (flat k t) = t := Fin.ext (by show (6 * t.val + k.val) / 6 = t.val; omega)
      rw [ht] at h
      exact h d
    · exact h0

end Cert.Agree

end
-- ==== Proof.Within.lean ====
/- What the precondition says: every expert id is below 160. -/
module

public import proofs.«01_k».proof.Proof.Gen.Pre_ids_in_range
public import Idealize.ShloMosaic.PureOps.Ideal
public import Idealize.ShloMosaic.Lib.WordArith
public import Idealize.ShloMosaic.Lib.Claim

@[expose] public section

noncomputable section

namespace Cert.Within

open Idealize.ShloMosaic Cert.Pre_ids_in_range

/-- Where the precondition's function is all ones, every id is a number below 160. -/
theorem id_lt (x : FVec Ideal S2x128x5120 .bf16) (ids w : IVec S2x128x6 32) (h : FVec Ideal S160x16 .f32)
    (hp : fn (F := Ideal) x ids w h = fun _ => 1#1) (i : S2x128x6.Idx) : (ids i).toNat < 160 := by
  have e := congrFun hp i
  have e' : IntOp.andi (IntOp.cmpi .sge (ids i) 0#32) (IntOp.cmpi .slt (ids i) 160#32) = 1#1 := e
  have e2 : BitVec.ofBool ((0#32).sle (ids i) && (ids i).slt 160#32) = BitVec.ofBool true := by
    simpa [IntOp.andi, IntOp.cmpi] using e'
  have e3 : ((0#32).sle (ids i) && (ids i).slt 160#32) = true := by
    revert e2; generalize ((0#32).sle (ids i) && (ids i).slt 160#32) = b; revert b; decide
  obtain ⟨h1, h2⟩ := (Bool.and_eq_true _ _).mp e3
  exact WordArith.toNat_lt_of_zero_sle_of_slt_ofNat _ _ (by norm_num) h1 h2

end Cert.Within

end
-- ==== Proof.lean ====
/- The certificate: the frames of the kernel, of its ideal instance and of the reference, and the
   agreement of all six results of the kernel with the reference's. -/
module

public import proofs.«01_k».proof.Defs
public import proofs.«01_k».proof.Proof.WRun
public import proofs.«01_k».proof.Proof.Agree
public import proofs.«01_k».proof.Proof.Within
public import proofs.«01_k».proof.Proof.Gen.ReferenceIdeal.Run
public import proofs.«01_k».proof.Proof.Gen.ReferenceIdeal.Read
public import Idealize.ShloMosaic.Lib.Quiescent

@[expose] public section

set_option maxRecDepth 16384

noncomputable section

namespace Cert.Proof

open Idealize.ShloMosaic Idealize.ShloMosaic.TcCoe Idealize.SL.Sem

/-- The reference runs to the end and leaves its arguments; it has no semaphore to count. -/
theorem reference_quiet (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run (Cert.ReferenceIdeal.defs (F := Ideal)) _ _).mono
    (fun r h => ⟨fun c => (h c).2.2.2.2.2.2, sem_eq_zero_of_no_sems (by decide) r.2⟩)
    (Cert.ReferenceIdeal.Value.run (F := Ideal) m ρ)

open Cert.KernelIdeal.Val in
/-- For ids in range, the kernel and the reference end with the same six results. -/
theorem agree : algebraic_KernelIdeal_ReferenceIdeal_pre_ids_in_range := by
  intro m g m' g' hpre hargs
  have hlt : ∀ c k t, Cert.Agree.eOf m c k t < 160 := fun c k t =>
    Cert.Within.id_lt _ _ _ _ (hpre c) _
  refine ⟨fun c => codesOf m c, fun c => flat1 (scaleAt m c), fun c => flat2 (srcAt m c), fun c => flat3 (rwAt m c),
    fun c => flat4 (offAt m c), fun c => flat5 (amaxAt m c), run m g, ?_⟩
  refine (θ_run (Cert.ReferenceIdeal.defs (F := Ideal)) _ _).mono (fun r h c => ?_) (Cert.ReferenceIdeal.Value.run (F := Ideal) m' g')
  obtain ⟨h0, h1, h2, h3, h4, h5, hr⟩ := h c
  obtain ⟨a0, a1, a2, a3⟩ := hargs c
  have b0 : Idealize.ShloMosaic.StableHlo.launchContents m' c (Proc.devRef .tc Cert.ReferenceIdeal.main_arg0) = Cert.Agree.argX m c := a0
  have b1 : Idealize.ShloMosaic.StableHlo.launchContents m' c (Proc.devRef .tc Cert.ReferenceIdeal.main_arg1) = Cert.Agree.argIds m c := a1
  have b2 : Idealize.ShloMosaic.StableHlo.launchContents m' c (Proc.devRef .tc Cert.ReferenceIdeal.main_arg2) = Cert.Agree.argWords m c := a2
  have b3 : Idealize.ShloMosaic.StableHlo.launchContents m' c (Proc.devRef .tc Cert.ReferenceIdeal.main_arg3) = Cert.Agree.argHist m c := a3
  refine ⟨h0.trans ?_, h1.trans ?_, h2.trans ?_, h3.trans ?_, h4.trans ?_, h5.trans ?_, hr⟩
  · rw [Cert.ReferenceIdeal.Read.val_main_v84_eq, b0, b1, b3]; exact (Cert.Agree.codes m c (hlt c)).symm
  · rw [Cert.ReferenceIdeal.Read.val_main_v57_eq, b3]; exact (Cert.Agree.scales m c).symm
  · rw [Cert.ReferenceIdeal.Read.val_main_v8_eq, b1]; exact (Cert.Agree.tokens m c (hlt c)).symm
  · rw [Cert.ReferenceIdeal.Read.val_main_v17_eq, b1, b2]; exact (Cert.Agree.weights m c (hlt c)).symm
  · rw [Cert.ReferenceIdeal.Read.val_main_v36_eq, b1]; exact (Cert.Agree.offsets m c (hlt c)).symm
  · rw [Cert.ReferenceIdeal.Read.val_main_v78_eq, b0, b1]; exact (Cert.Agree.maxima m c (hlt c)).symm

theorem claim : Cert.Claim :=
  ⟨Cert.Kernel.Gen.facts, Cert.KernelIdeal.Gen.facts, Cert.ReferenceIdeal.Gen.facts, Cert.Pre_ids_in_range.Gen.facts,
    fun m ρ _ => Cert.Kernel.Val.quiet m ρ, fun m ρ _ => Cert.KernelIdeal.Val.quiet m ρ, fun m ρ _ => Cert.KernelIdeal.Val.quiet m ρ,
    fun m ρ _ => reference_quiet m ρ, fun m ρ _ => reference_quiet m ρ, trivial, agree⟩

end Cert.Proof

end
